-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v82) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v52_1)) (v1 : (c : Dev Cert.Kernel3Ideal.nD) → Buf (Elt Ideal) ((c.tc : Thread Cert.Kernel3Ideal.nD Cert.Kernel3Ideal.τ).loc Cert.Kernel3Ideal.main_v52_3)) (v2 : (c : Dev Cert.Kernel3Ideal.nD) → Buf (Elt Ideal) ((c.tc : Thread Cert.Kernel3Ideal.nD Cert.Kernel3Ideal.τ).loc Cert.Kernel3Ideal.main_v52_4)) (v3 : (c : Dev Cert.Kernel3Ideal.nD) → Buf (Elt Ideal) ((c.tc : Thread Cert.Kernel3Ideal.nD Cert.Kernel3Ideal.τ).loc Cert.Kernel3Ideal.main_v54)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v52_1) = v0 c
          ∧ r.2.mem ((c.tc : Thread Cert.Kernel3Ideal.nD Cert.Kernel3Ideal.τ).loc Cert.Kernel3Ideal.main_v52_3) = v1 c
          ∧ r.2.mem ((c.tc : Thread Cert.Kernel3Ideal.nD Cert.Kernel3Ideal.τ).loc Cert.Kernel3Ideal.main_v52_4) = v2 c
          ∧ r.2.mem ((c.tc : Thread Cert.Kernel3Ideal.nD Cert.Kernel3Ideal.τ).loc Cert.Kernel3Ideal.main_v54) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_v54) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts) (hPre_finite : Cert.Pre_finite.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
-- ==== Pre_finite.lean ====
abbrev S16384x256 : Shape := ⟨2, ![16384, 256]⟩
abbrev S16384x512 : Shape := ⟨2, ![16384, 512]⟩
abbrev S16384x1024 : Shape := ⟨2, ![16384, 1024]⟩
abbrev S1024x1024 : Shape := ⟨2, ![1024, 1024]⟩
abbrev S512 : Shape := ⟨1, ![512]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg10 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg10
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S16384x256 .bf16) (main_arg1 : FVec F S16384x512 .bf16) (main_arg2 : FVec F S16384x256 .bf16) (main_arg3 : FVec F S16384x1024 .f32) (main_arg4 : FVec F S1024x1024 .f32) (main_arg5 : FVec F S512 .f32) (main_arg6 : FVec F S1024 .f32) (main_arg7 : FVec F S1024x4 .f32) (main_arg8 : FVec F S4 .f32) (main_arg9 : FVec F S1024x16 .f32) (main_arg10 : FVec F S16 .f32) : IVec S_ 1 :=
  let main_v0 : FVec F S1024 .f32 := Host.absf main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4 .f32 := Host.absf main_arg7
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg8
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x16 .f32 := Host.absf main_arg9
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg10 main_v13 main_v16
-- ==== Pre_routed.lean ====
abbrev S16384x1024 : Shape := ⟨2, ![16384, 1024]⟩
abbrev S16384x128 : Shape := ⟨2, ![16384, 128]⟩
abbrev S16x1024x256 : Shape := ⟨3, ![16, 1024, 256]⟩
abbrev S16x256x1024 : Shape := ⟨3, ![16, 256, 1024]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S16384x16 : Shape := ⟨2, ![16384, 16]⟩

class Facts : Prop where
  slices_S16384x128_S16384x4_0_0 : S16384x128.Slices ![0, 0] S16384x4
  bcast_S_S16384x4 : S_.BroadcastsInDim S16384x4 (![] : Fin 0 → Fin S16384x4.rank)
  reducesTo_S16384x4_S_d0_1 : S16384x4.ReducesTo [0, 1] S_
  h_S_ : 0 < S_.numel
  reducesTo_S16384x4_S16384_d1 : S16384x4.ReducesTo [1] S16384
  bcast_S_S16384 : S_.BroadcastsInDim S16384 (![] : Fin 0 → Fin S16384.rank)
  reducesTo_S16384_S_d0 : S16384.ReducesTo [0] S_
  slices_S16384x128_S16384x4_0_4 : S16384x128.Slices ![0, 4] S16384x4
  slices_S16384x128_S16384x1_0_0 : S16384x128.Slices ![0, 0] S16384x1
  bcast_S_S16384x1 : S_.BroadcastsInDim S16384x1 (![] : Fin 0 → Fin S16384x1.rank)
  bcast_S16384x1_S16384x4_0_1 : S16384x1.BroadcastsInDim S16384x4 (![0, 1] : Fin 2 → Fin S16384x4.rank)
  slices_S16384x128_S16384x4_0_8 : S16384x128.Slices ![0, 8] S16384x4
  slices_S16384x128_S16384x1_0_1 : S16384x128.Slices ![0, 1] S16384x1
  slices_S16384x128_S16384x4_0_12 : S16384x128.Slices ![0, 12] S16384x4
  slices_S16384x128_S16384x1_0_2 : S16384x128.Slices ![0, 2] S16384x1
  slices_S16384x128_S16384x4_0_16 : S16384x128.Slices ![0, 16] S16384x4
  slices_S16384x128_S16384x1_0_3 : S16384x128.Slices ![0, 3] S16384x1
  slices_S16384x128_S16384x16_0_4 : S16384x128.Slices ![0, 4] S16384x16
  bcast_S_S16384x16 : S_.BroadcastsInDim S16384x16 (![] : Fin 0 → Fin S16384x16.rank)
  reducesTo_S16384x16_S_d0_1 : S16384x16.ReducesTo [0, 1] S_

variable [Facts]

def fn_part3 {F : FTy → Type} [FloatOps F] (main_v51 : IVec S_ 1) (main_v53 : FVec F S16384x16 .f32) : IVec S_ 1 :=
  let main_cst_16 : FVec F S_ .f32 := constant S_ .f32 0x7F800000#32
  let main_v54 : FVec F S16384x16 .f32 := broadcastInDim S16384x16 ![] bcast_S_S16384x16 main_cst_16
  let main_v55 : IVec S16384x16 1 := cmpf .olt main_v53 main_v54
  let main_c_17 : IVec S_ 1 := constantI S_ 1 1#1
  let main_v56 : IVec S_ 1 := (fun x v => Host.reduce IntOp.andi x v reducesTo_S16384x16_S_d0_1 h_S_) main_v55 main_c_17
  let main_v57 : IVec S_ 1 := andi main_v51 main_v56
  main_v57

def fn_part2 {F : FTy → Type} [FloatOps F] (main_arg1 : FVec F S16384x128 .f32) (main_v31 : IVec S_ 1) (main_v32 : FVec F S16384x4 .f32) (main_v33 : FVec F S16384x1 .f32) (main_v34 : FVec F S16384x1 .f32) : IVec S_ 1 :=
  let main_v35 : IVec S16384x1 1 := cmpf .oeq main_v33 main_v34
  let main_cst_11 : FVec F S_ .f32 := constant S_ .f32 0x00000000#32
  let main_v36 : FVec F S16384x4 .f32 := broadcastInDim S16384x4 ![] bcast_S_S16384x4 main_cst_11
  let main_v37 : IVec S16384x4 1 := cmpf .oeq main_v32 main_v36
  let main_v38 : IVec S16384x4 1 := broadcastInDim S16384x4 ![0, 1] bcast_S16384x1_S16384x4_0_1 main_v35
  let main_v39 : IVec S16384x4 1 := ori main_v38 main_v37
  let main_c_12 : IVec S_ 1 := constantI S_ 1 1#1
  let main_v40 : IVec S_ 1 := (fun x v => Host.reduce IntOp.andi x v reducesTo_S16384x4_S_d0_1 h_S_) main_v39 main_c_12
  let main_v41 : IVec S_ 1 := andi main_v31 main_v40
  let main_v42 : FVec F S16384x4 .f32 := (extractStridedSlice S16384x4 ![0, 16] · slices_S16384x128_S16384x4_0_16) main_arg1
  let main_v43 : FVec F S16384x1 .f32 := (extractStridedSlice S16384x1 ![0, 3] · slices_S16384x128_S16384x1_0_3) main_arg1
  let main_cst_13 : FVec F S_ .f32 := constant S_ .f32 0x3F800000#32
  let main_v44 : FVec F S16384x1 .f32 := broadcastInDim S16384x1 ![] bcast_S_S16384x1 main_cst_13
  let main_v45 : IVec S16384x1 1 := cmpf .oeq main_v43 main_v44
  let main_cst_14 : FVec F S_ .f32 := constant S_ .f32 0x00000000#32
  let main_v46 : FVec F S16384x4 .f32 := broadcastInDim S16384x4 ![] bcast_S_S16384x4 main_cst_14
  let main_v47 : IVec S16384x4 1 := cmpf .oeq main_v42 main_v46
  let main_v48 : IVec S16384x4 1 := broadcastInDim S16384x4 ![0, 1] bcast_S16384x1_S16384x4_0_1 main_v45
  let main_v49 : IVec S16384x4 1 := ori main_v48 main_v47
  let main_c_15 : IVec S_ 1 := constantI S_ 1 1#1
  let main_v50 : IVec S_ 1 := (fun x v => Host.reduce IntOp.andi x v reducesTo_S16384x4_S_d0_1 h_S_) main_v49 main_c_15
  let main_v51 : IVec S_ 1 := andi main_v41 main_v50
  let main_v52 : FVec F S16384x16 .f32 := (extractStridedSlice S16384x16 ![0, 4] · slices_S16384x128_S16384x16_0_4) main_arg1
  let main_v53 : FVec F S16384x16 .f32 := Host.absf main_v52
  fn_part3 (F := F) main_v51 main_v53

def fn_part1 {F : FTy → Type} [FloatOps F] (main_arg1 : FVec F S16384x128 .f32) (main_v11 : IVec S_ 1) (main_v12 : FVec F S16384x4 .f32) (main_v15 : IVec S16384x1 1) (main_cst_5 : FVec F S_ .f32) : IVec S_ 1 :=
  let main_v16 : FVec F S16384x4 .f32 := broadcastInDim S16384x4 ![] bcast_S_S16384x4 main_cst_5
  let main_v17 : IVec S16384x4 1 := cmpf .oeq main_v12 main_v16
  let main_v18 : IVec S16384x4 1 := broadcastInDim S16384x4 ![0, 1] bcast_S16384x1_S16384x4_0_1 main_v15
  let main_v19 : IVec S16384x4 1 := ori main_v18 main_v17
  let main_c_6 : IVec S_ 1 := constantI S_ 1 1#1
  let main_v20 : IVec S_ 1 := (fun x v => Host.reduce IntOp.andi x v reducesTo_S16384x4_S_d0_1 h_S_) main_v19 main_c_6
  let main_v21 : IVec S_ 1 := andi main_v11 main_v20
  let main_v22 : FVec F S16384x4 .f32 := (extractStridedSlice S16384x4 ![0, 8] · slices_S16384x128_S16384x4_0_8) main_arg1
  let main_v23 : FVec F S16384x1 .f32 := (extractStridedSlice S16384x1 ![0, 1] · slices_S16384x128_S16384x1_0_1) main_arg1
  let main_cst_7 : FVec F S_ .f32 := constant S_ .f32 0x3F800000#32
  let main_v24 : FVec F S16384x1 .f32 := broadcastInDim S16384x1 ![] bcast_S_S16384x1 main_cst_7
  let main_v25 : IVec S16384x1 1 := cmpf .oeq main_v23 main_v24
  let main_cst_8 : FVec F S_ .f32 := constant S_ .f32 0x00000000#32
  let main_v26 : FVec F S16384x4 .f32 := broadcastInDim S16384x4 ![] bcast_S_S16384x4 main_cst_8
  let main_v27 : IVec S16384x4 1 := cmpf .oeq main_v22 main_v26
  let main_v28 : IVec S16384x4 1 := broadcastInDim S16384x4 ![0, 1] bcast_S16384x1_S16384x4_0_1 main_v25
  let main_v29 : IVec S16384x4 1 := ori main_v28 main_v27
  let main_c_9 : IVec S_ 1 := constantI S_ 1 1#1
  let main_v30 : IVec S_ 1 := (fun x v => Host.reduce IntOp.andi x v reducesTo_S16384x4_S_d0_1 h_S_) main_v29 main_c_9
  let main_v31 : IVec S_ 1 := andi main_v21 main_v30
  let main_v32 : FVec F S16384x4 .f32 := (extractStridedSlice S16384x4 ![0, 12] · slices_S16384x128_S16384x4_0_12) main_arg1
  let main_v33 : FVec F S16384x1 .f32 := (extractStridedSlice S16384x1 ![0, 2] · slices_S16384x128_S16384x1_0_2) main_arg1
  let main_cst_10 : FVec F S_ .f32 := constant S_ .f32 0x3F800000#32
  let main_v34 : FVec F S16384x1 .f32 := broadcastInDim S16384x1 ![] bcast_S_S16384x1 main_cst_10
  fn_part2 (F := F) main_arg1 main_v31 main_v32 main_v33 main_v34

def fn {F : FTy → Type} [FloatOps F] (main_arg0 : FVec F S16384x1024 .bf16) (main_arg1 : FVec F S16384x128 .f32) (main_arg2 : FVec F S16384x1024 .f32) (main_arg3 : FVec F S16x1024x256 .f32) (main_arg4 : FVec F S16x1024x256 .f32) (main_arg5 : FVec F S16x256x1024 .f32) : IVec S_ 1 :=
  let main_v0 : FVec F S16384x4 .f32 := (extractStridedSlice S16384x4 ![0, 0] · slices_S16384x128_S16384x4_0_0) main_arg1
  let main_cst : FVec F S_ .f32 := constant S_ .f32 0x3F800000#32
  let main_v1 : FVec F S16384x4 .f32 := broadcastInDim S16384x4 ![] bcast_S_S16384x4 main_cst
  let main_v2 : IVec S16384x4 1 := cmpf .oeq main_v0 main_v1
  let main_cst_0 : FVec F S_ .f32 := constant S_ .f32 0x00000000#32
  let main_v3 : FVec F S16384x4 .f32 := broadcastInDim S16384x4 ![] bcast_S_S16384x4 main_cst_0
  let main_v4 : IVec S16384x4 1 := cmpf .oeq main_v0 main_v3
  let main_v5 : IVec S16384x4 1 := ori main_v2 main_v4
  let main_c : IVec S_ 1 := constantI S_ 1 1#1
  let main_v6 : IVec S_ 1 := (fun x v => Host.reduce IntOp.andi x v reducesTo_S16384x4_S_d0_1 h_S_) main_v5 main_c
  let main_cst_1 : FVec F S_ .f32 := constant S_ .f32 0x00000000#32
  let main_v7 : FVec F S16384 .f32 := (fun x v => Host.reduceAdd x v reducesTo_S16384x4_S16384_d1 h_S_) main_v0 main_cst_1
  let main_cst_2 : FVec F S_ .f32 := constant S_ .f32 0x3F800000#32
  let main_v8 : FVec F S16384 .f32 := broadcastInDim S16384 ![] bcast_S_S16384 main_cst_2
  let main_v9 : IVec S16384 1 := cmpf .oeq main_v7 main_v8
  let main_c_3 : IVec S_ 1 := constantI S_ 1 1#1
  let main_v10 : IVec S_ 1 := (fun x v => Host.reduce IntOp.andi x v reducesTo_S16384_S_d0 h_S_) main_v9 main_c_3
  let main_v11 : IVec S_ 1 := andi main_v6 main_v10
  let main_v12 : FVec F S16384x4 .f32 := (extractStridedSlice S16384x4 ![0, 4] · slices_S16384x128_S16384x4_0_4) main_arg1
  let main_v13 : FVec F S16384x1 .f32 := (extractStridedSlice S16384x1 ![0, 0] · slices_S16384x128_S16384x1_0_0) main_arg1
  let main_cst_4 : FVec F S_ .f32 := constant S_ .f32 0x3F800000#32
  let main_v14 : FVec F S16384x1 .f32 := broadcastInDim S16384x1 ![] bcast_S_S16384x1 main_cst_4
  let main_v15 : IVec S16384x1 1 := cmpf .oeq main_v13 main_v14
  let main_cst_5 : FVec F S_ .f32 := constant S_ .f32 0x00000000#32
  fn_part1 (F := F) main_arg1 main_v11 main_v12 main_v15 main_cst_5
-- ==== Kernel.lean ====
abbrev S16384x1024 : Shape := ⟨2, ![16384, 1024]⟩
abbrev S16384x128 : Shape := ⟨2, ![16384, 128]⟩
abbrev S16x1024x256 : Shape := ⟨3, ![16, 1024, 256]⟩
abbrev S16x256x1024 : Shape := ⟨3, ![16, 256, 1024]⟩
abbrev S4x1024x1024 : Shape := ⟨3, ![4, 1024, 1024]⟩
abbrev S512x1024 : Shape := ⟨2, ![512, 1024]⟩
abbrev S512x128 : Shape := ⟨2, ![512, 128]⟩
abbrev S512x512 : Shape := ⟨2, ![512, 512]⟩
abbrev S1x128 : Shape := ⟨2, ![1, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1 : Shape := ⟨2, ![1, 1]⟩
abbrev S128x1024 : Shape := ⟨2, ![128, 1024]⟩
abbrev S128x128 : Shape := ⟨2, ![128, 128]⟩
abbrev S1x1024x256 : Shape := ⟨3, ![1, 1024, 256]⟩
abbrev S1024x256 : Shape := ⟨2, ![1024, 256]⟩
abbrev S128x256 : Shape := ⟨2, ![128, 256]⟩
abbrev S128x1 : Shape := ⟨2, ![128, 1]⟩
abbrev S1x1024x1024 : Shape := ⟨3, ![1, 1024, 1024]⟩
abbrev S1024x1024 : Shape := ⟨2, ![1024, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S16x256x1024, .bf16⟩
  | .hbm, ⟨7, _⟩ => ⟨S4x1024x1024, .bf16⟩
  | .hbm, ⟨8, _⟩ => ⟨S16x1024x256, .bf16⟩
  | .hbm, ⟨9, _⟩ => ⟨S16x1024x256, .bf16⟩
  | .hbm, ⟨10, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S16x1024x256, .bf16⟩
  | .local _ .vmem, ⟨7, _⟩ => ⟨S16x1024x256, .bf16⟩
  | .local _ .vmem, ⟨8, _⟩ => ⟨S4x1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x128, .f32⟩
  | .local _ .vmem, ⟨13, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x1024 : Shape := ⟨2, ![16384, 1024]⟩
abbrev S16384x128 : Shape := ⟨2, ![16384, 128]⟩
abbrev S16x1024x256 : Shape := ⟨3, ![16, 1024, 256]⟩
abbrev S16x256x1024 : Shape := ⟨3, ![16, 256, 1024]⟩
abbrev S16384x16 : Shape := ⟨2, ![16384, 16]⟩
abbrev S16384x16x256 : Shape := ⟨3, ![16384, 16, 256]⟩
abbrev S_ : Shape := ⟨0, ![]⟩
abbrev S16384x16x1 : Shape := ⟨3, ![16384, 16, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S16384x1024, .f32⟩
  | .hbm, ⟨7, _⟩ => ⟨S16384x16, .f32⟩
  | .hbm, ⟨8, _⟩ => ⟨S16384x16x256, .f32⟩
  | .hbm, ⟨9, _⟩ => ⟨S16384x16x256, .f32⟩
  | .hbm, ⟨10, _⟩ => ⟨S16384x16x256, .f32⟩
  | .hbm, ⟨11, _⟩ => ⟨S_, .f32⟩
  | .hbm, ⟨12, _⟩ => ⟨S16384x16x256, .f32⟩
  | .hbm, ⟨13, _⟩ => ⟨S16384x16x256, .f32⟩
  | .hbm, ⟨14, _⟩ => ⟨S_, .f32⟩
  | .hbm, ⟨15, _⟩ => ⟨S16384x16x256, .f32⟩
  | .hbm, ⟨16, _⟩ => ⟨S16384x16x256, .f32⟩
  | .hbm, ⟨17, _⟩ => ⟨S16384x16x256, .f32⟩
  | .hbm, ⟨18, _⟩ => ⟨S16384x16x256, .f32⟩
  | .hbm, ⟨19, _⟩ => ⟨S16384x16x256, .f32⟩
  | .hbm, ⟨20, _⟩ => ⟨S16384x16x1, .f32⟩
  | .hbm, ⟨21, _⟩ => ⟨S16384x16x256, .f32⟩
  | .hbm, ⟨22, _⟩ => ⟨S16384x16x256, .f32⟩
  | .hbm, ⟨23, _⟩ => ⟨S16384x1024, .f32⟩
  | .hbm, ⟨24, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Kernel2.lean ====
abbrev S16384x256 : Shape := ⟨2, ![16384, 256]⟩
abbrev S16384x512 : Shape := ⟨2, ![16384, 512]⟩
abbrev S16384x1024 : Shape := ⟨2, ![16384, 1024]⟩
abbrev S1024x1024 : Shape := ⟨2, ![1024, 1024]⟩
abbrev S512 : Shape := ⟨1, ![512]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1024x108 : Shape := ⟨2, ![1024, 108]⟩
abbrev S1024x128 : Shape := ⟨2, ![1024, 128]⟩
abbrev S1024x256 : Shape := ⟨2, ![1024, 256]⟩
abbrev S20 : Shape := ⟨1, ![20]⟩
abbrev S128 : Shape := ⟨1, ![128]⟩
abbrev S1x128 : Shape := ⟨2, ![1, 128]⟩
abbrev S256x1024 : Shape := ⟨2, ![256, 1024]⟩
abbrev S512x1024 : Shape := ⟨2, ![512, 1024]⟩
abbrev S1x512 : Shape := ⟨2, ![1, 512]⟩
abbrev S1x1024 : Shape := ⟨2, ![1, 1024]⟩
abbrev S16384x128 : Shape := ⟨2, ![16384, 128]⟩
abbrev S512x256 : Shape := ⟨2, ![512, 256]⟩
abbrev S512x512 : Shape := ⟨2, ![512, 512]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S256x128 : Shape := ⟨2, ![256, 128]⟩

abbrev nBuf : Space → Nat
  | .hbm => 33
  | .vmem => 21
  | .smem => 0
  | _ => 0

abbrev bufTy : (tb : Table) → Fin (tcTables nBuf tb) → BufTy
  | .hbm, ⟨0, _⟩ => ⟨S16384x256, .bf16⟩
  | .hbm, ⟨1, _⟩ => ⟨S16384x512, .bf16⟩
  | .hbm, ⟨2, _⟩ => ⟨S16384x256, .bf16⟩
  | .hbm, ⟨3, _⟩ => ⟨S16384x1024, .f32⟩
  | .hbm, ⟨4, _⟩ => ⟨S1024x1024, .f32⟩
  | .hbm, ⟨5, _⟩ => ⟨S512, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x16, .f32⟩
  | .hbm, ⟨10, _⟩ => ⟨S16, .f32⟩
  | .hbm, ⟨11, _⟩ => ⟨S1024x1024, .bf16⟩
  | .hbm, ⟨12, _⟩ => ⟨S_, .f32⟩
  | .hbm, ⟨13, _⟩ => ⟨S1024x108, .f32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S1024x256, .bf16⟩
  | .hbm, ⟨20, _⟩ => ⟨S20, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S256x1024, .bf16⟩
  | .hbm, ⟨26, _⟩ => ⟨S512x1024, .bf16⟩
  | .hbm, ⟨27, _⟩ => ⟨S256x1024, .bf16⟩
  | .hbm, ⟨28, _⟩ => ⟨S1x512, .f32⟩
  | .hbm, ⟨29, _⟩ => ⟨S1x1024, .f32⟩
  | .hbm, ⟨30, _⟩ => ⟨S16384x1024, .f32⟩
  | .hbm, ⟨31, _⟩ => ⟨S16384x1024, .bf16⟩
  | .hbm, ⟨32, _⟩ => ⟨S16384x128, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S256x1024, .bf16⟩
  | .local _ .vmem, ⟨9, _⟩ => ⟨S512x1024, .bf16⟩
  | .local _ .vmem, ⟨10, _⟩ => ⟨S256x1024, .bf16⟩
  | .local _ .vmem, ⟨11, _⟩ => ⟨S1x512, .f32⟩
  | .local _ .vmem, ⟨12, _⟩ => ⟨S1x1024, .f32⟩
  | .local _ .vmem, ⟨13, _⟩ => ⟨S1024x256, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x128, .f32⟩
  | .local _ .vmem, ⟨20, _⟩ => ⟨S512x128, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel2Ideal.lean ====
variable {F : FTy → Type} [FloatOps F] [Named F]
def κ : String → Option EReal := fun
  | "mask" => some ⊥
  | _ => none
-- ==== Reference2Ideal.lean ====
abbrev S16384x256 : Shape := ⟨2, ![16384, 256]⟩
abbrev S16384x512 : Shape := ⟨2, ![16384, 512]⟩
abbrev S16384x1024 : Shape := ⟨2, ![16384, 1024]⟩
abbrev S1024x1024 : Shape := ⟨2, ![1024, 1024]⟩
abbrev S512 : Shape := ⟨1, ![512]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩
abbrev S16384x4 : Shape := ⟨2, ![16384, 4]⟩
abbrev S1x4 : Shape := ⟨2, ![1, 4]⟩
abbrev S16384x16 : Shape := ⟨2, ![16384, 16]⟩
abbrev S1x16 : Shape := ⟨2, ![1, 16]⟩
abbrev S16384x4x4 : Shape := ⟨3, ![16384, 4, 4]⟩
abbrev S16384x2 : Shape := ⟨2, ![16384, 2]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x108 : Shape := ⟨2, ![16384, 108]⟩
abbrev S16384x128 : Shape := ⟨2, ![16384, 128]⟩

abbrev nBuf : Space → Nat
  | .hbm => 125
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x512, .bf16⟩
  | .hbm, ⟨2, _⟩ => ⟨S16384x256, .bf16⟩
  | .hbm, ⟨3, _⟩ => ⟨S16384x1024, .f32⟩
  | .hbm, ⟨4, _⟩ => ⟨S1024x1024, .f32⟩
  | .hbm, ⟨5, _⟩ => ⟨S512, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x16, .f32⟩
  | .hbm, ⟨10, _⟩ => ⟨S16, .f32⟩
  | .hbm, ⟨11, _⟩ => ⟨S16384x256, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x512, .f32⟩
  | .hbm, ⟨25, _⟩ => ⟨S16384x512, .f32⟩
  | .hbm, ⟨26, _⟩ => ⟨S1x512, .f32⟩
  | .hbm, ⟨27, _⟩ => ⟨S16384x512, .f32⟩
  | .hbm, ⟨28, _⟩ => ⟨S16384x512, .f32⟩
  | .hbm, ⟨29, _⟩ => ⟨S16384x256, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x4, .f32⟩
  | .hbm, ⟨50, _⟩ => ⟨S1x4, .f32⟩
  | .hbm, ⟨51, _⟩ => ⟨S16384x4, .f32⟩
  | .hbm, ⟨52, _⟩ => ⟨S16384x4, .f32⟩
  | .hbm, ⟨53, _⟩ => ⟨S_, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S16384x1, .f32⟩
  | .hbm, ⟨59, _⟩ => ⟨S16384x4, .f32⟩
  | .hbm, ⟨60, _⟩ => ⟨S16384x4, .f32⟩
  | .hbm, ⟨61, _⟩ => ⟨S16384x4, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x4, .f32⟩
  | .hbm, ⟨66, _⟩ => ⟨S16384x4, .f32⟩
  | .hbm, ⟨67, _⟩ => ⟨S16384x1, .f32⟩
  | .hbm, ⟨68, _⟩ => ⟨S16384x1, .i32⟩
  | .hbm, ⟨69, _⟩ => ⟨S16384x16, .f32⟩
  | .hbm, ⟨70, _⟩ => ⟨S1x16, .f32⟩
  | .hbm, ⟨71, _⟩ => ⟨S16384x16, .f32⟩
  | .hbm, ⟨72, _⟩ => ⟨S16384x16, .f32⟩
  | .hbm, ⟨73, _⟩ => ⟨S16384x4x4, .f32⟩
  | .hbm, ⟨74, _⟩ => ⟨S16384, .i32⟩
  | .hbm, ⟨75, _⟩ => ⟨S16384x1, .i32⟩
  | .hbm, ⟨76, _⟩ => ⟨S1x4, .i32⟩
  | .hbm, ⟨77, _⟩ => ⟨S16384x4, .i32⟩
  | .hbm, ⟨78, _⟩ => ⟨S16384x4, .i32⟩
  | .hbm, ⟨79, _⟩ => ⟨S16384x4, .i1⟩
  | .hbm, ⟨80, _⟩ => ⟨S16384x4, .f32⟩
  | .hbm, ⟨81, _⟩ => ⟨S16384x4, .f32⟩
  | .hbm, ⟨82, _⟩ => ⟨S_, .f32⟩
  | .hbm, ⟨83, _⟩ => ⟨S16384, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S16384x1, .f32⟩
  | .hbm, ⟨88, _⟩ => ⟨S16384x4, .f32⟩
  | .hbm, ⟨89, _⟩ => ⟨S16384x4, .f32⟩
  | .hbm, ⟨90, _⟩ => ⟨S16384x4, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x4, .f32⟩
  | .hbm, ⟨95, _⟩ => ⟨S16384x4, .f32⟩
  | .hbm, ⟨96, _⟩ => ⟨S16384x2, .f32⟩
  | .hbm, ⟨97, _⟩ => ⟨S16384x2, .i32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S16384x2, .f32⟩
  | .hbm, ⟨102, _⟩ => ⟨S16384x2, .f32⟩
  | .hbm, ⟨103, _⟩ => ⟨S16384x2, .f32⟩
  | .hbm, ⟨104, _⟩ => ⟨S16384x2, .f32⟩
  | .hbm, ⟨105, _⟩ => ⟨S_, .i32⟩
  | .hbm, ⟨106, _⟩ => ⟨S16384x1, .i32⟩
  | .hbm, ⟨107, _⟩ => ⟨S16384x1, .i32⟩
  | .hbm, ⟨108, _⟩ => ⟨S16384x2, .i32⟩
  | .hbm, ⟨109, _⟩ => ⟨S16384x2, .i32⟩
  | .hbm, ⟨110, _⟩ => ⟨S16384x2x1, .i32⟩
  | .hbm, ⟨111, _⟩ => ⟨S1x1x16, .i32⟩
  | .hbm, ⟨112, _⟩ => ⟨S16384x2x16, .i32⟩
  | .hbm, ⟨113, _⟩ => ⟨S16384x2x16, .i32⟩
  | .hbm, ⟨114, _⟩ => ⟨S16384x2x16, .i1⟩
  | .hbm, ⟨115, _⟩ => ⟨S16384x2x16, .f32⟩
  | .hbm, ⟨116, _⟩ => ⟨S16384x2x1, .f32⟩
  | .hbm, ⟨117, _⟩ => ⟨S16384x2x16, .f32⟩
  | .hbm, ⟨118, _⟩ => ⟨S16384x2x16, .f32⟩
  | .hbm, ⟨119, _⟩ => ⟨S_, .f32⟩
  | .hbm, ⟨120, _⟩ => ⟨S16384x16, .f32⟩
  | .hbm, ⟨121, _⟩ => ⟨S_, .f32⟩
  | .hbm, ⟨122, _⟩ => ⟨S16384x108, .f32⟩
  | .hbm, ⟨123, _⟩ => ⟨S16384x128, .f32⟩
  | .hbm, ⟨124, _⟩ => ⟨S16384x1024, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_values : Ref sig .tc := ⟨.hbm, 67, rfl⟩
abbrev main_indices : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_values_11 : Ref sig .tc := ⟨.hbm, 96, rfl⟩
abbrev main_indices_12 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_14 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2952 : Shape := ⟨2, ![1024, 2952]⟩
abbrev S4x256 : Shape := ⟨2, ![4, 256]⟩
abbrev S256 : Shape := ⟨1, ![256]⟩
abbrev S4x64x64 : Shape := ⟨3, ![4, 64, 64]⟩
abbrev S8 : Shape := ⟨1, ![8]⟩
abbrev S64 : Shape := ⟨1, ![64]⟩
abbrev S1024x2048 : Shape := ⟨2, ![1024, 2048]⟩
abbrev S1024x896 : Shape := ⟨2, ![1024, 896]⟩
abbrev S1024x8 : Shape := ⟨2, ![1024, 8]⟩
abbrev S1024x8x3 : Shape := ⟨3, ![1024, 8, 3]⟩
abbrev S1024x24 : Shape := ⟨2, ![1024, 24]⟩
abbrev S_ : Shape := ⟨0, ![]⟩
abbrev S1024x104 : Shape := ⟨2, ![1024, 104]⟩
abbrev S1024x3072 : Shape := ⟨2, ![1024, 3072]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x3 : Shape := ⟨2, ![8, 3]⟩
abbrev S24 : Shape := ⟨1, ![24]⟩
abbrev S128 : Shape := ⟨1, ![128]⟩
abbrev S1x128 : Shape := ⟨2, ![1, 128]⟩
abbrev S4x4 : Shape := ⟨2, ![4, 4]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S256x512 : Shape := ⟨2, ![256, 512]⟩
abbrev S1x256 : Shape := ⟨2, ![1, 256]⟩
abbrev S1x1024 : Shape := ⟨2, ![1, 1024]⟩
abbrev S16384x256 : Shape := ⟨2, ![16384, 256]⟩
abbrev S1024x16384 : Shape := ⟨2, ![1024, 16384]⟩
abbrev S512x16384 : Shape := ⟨2, ![512, 16384]⟩
abbrev S16384x896 : Shape := ⟨2, ![16384, 896]⟩
abbrev S512x1024 : Shape := ⟨2, ![512, 1024]⟩
abbrev S512x256 : Shape := ⟨2, ![512, 256]⟩
abbrev S1024x512 : Shape := ⟨2, ![1024, 512]⟩
abbrev S512x512 : Shape := ⟨2, ![512, 512]⟩
abbrev S512x896 : Shape := ⟨2, ![512, 896]⟩
abbrev S8x128 : Shape := ⟨2, ![8, 128]⟩
abbrev S8x256 : Shape := ⟨2, ![8, 256]⟩
abbrev S2x264x256 : Shape := ⟨3, ![2, 264, 256]⟩
abbrev S256x128 : Shape := ⟨2, ![256, 128]⟩
abbrev S256x1024 : Shape := ⟨2, ![256, 1024]⟩
abbrev S256x1 : Shape := ⟨2, ![256, 1]⟩
abbrev S1024x128 : Shape := ⟨2, ![1024, 128]⟩
abbrev S256x896 : Shape := ⟨2, ![256, 896]⟩
abbrev S1x264x256 : Shape := ⟨3, ![1, 264, 256]⟩
abbrev S264x256 : Shape := ⟨2, ![264, 256]⟩
abbrev S128x256 : Shape := ⟨2, ![128, 256]⟩
abbrev S16384x8x128 : Shape := ⟨3, ![16384, 8, 128]⟩
abbrev S16384x8x64 : Shape := ⟨3, ![16384, 8, 64]⟩

abbrev nBuf : Space → Nat
  | .hbm => 78
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2952, .f32⟩
  | .hbm, ⟨3, _⟩ => ⟨S4x256, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S4x64x64, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S8, .f32⟩
  | .hbm, ⟨12, _⟩ => ⟨S64, .f32⟩
  | .hbm, ⟨13, _⟩ => ⟨S64, .f32⟩
  | .hbm, ⟨14, _⟩ => ⟨S1024x2048, .f32⟩
  | .hbm, ⟨15, _⟩ => ⟨S1024x896, .f32⟩
  | .hbm, ⟨16, _⟩ => ⟨S1024x8, .f32⟩
  | .hbm, ⟨17, _⟩ => ⟨S1024x8x3, .f32⟩
  | .hbm, ⟨18, _⟩ => ⟨S1024x24, .f32⟩
  | .hbm, ⟨19, _⟩ => ⟨S_, .f32⟩
  | .hbm, ⟨20, _⟩ => ⟨S1024x104, .f32⟩
  | .hbm, ⟨21, _⟩ => ⟨S1024x3072, .f32⟩
  | .hbm, ⟨22, _⟩ => ⟨S1024x3072, .bf16⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S1x64, .f32⟩
  | .hbm, ⟨28, _⟩ => ⟨S8x64, .f32⟩
  | .hbm, ⟨29, _⟩ => ⟨S512, .f32⟩
  | .hbm, ⟨30, _⟩ => ⟨S1x512, .f32⟩
  | .hbm, ⟨31, _⟩ => ⟨S8x3, .f32⟩
  | .hbm, ⟨32, _⟩ => ⟨S24, .f32⟩
  | .hbm, ⟨33, _⟩ => ⟨S_, .i32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S4x4, .i32⟩
  | .hbm, ⟨38, _⟩ => ⟨S4x4, .i32⟩
  | .hbm, ⟨39, _⟩ => ⟨S_, .i32⟩
  | .hbm, ⟨40, _⟩ => ⟨S4x4, .i32⟩
  | .hbm, ⟨41, _⟩ => ⟨S4x4, .i32⟩
  | .hbm, ⟨42, _⟩ => ⟨S4x4, .i1⟩
  | .hbm, ⟨43, _⟩ => ⟨S4x4, .f32⟩
  | .hbm, ⟨44, _⟩ => ⟨S4x64x1x64, .f32⟩
  | .hbm, ⟨45, _⟩ => ⟨S4x1x4x1, .f32⟩
  | .hbm, ⟨46, _⟩ => ⟨S4x64x4x64, .f32⟩
  | .hbm, ⟨47, _⟩ => ⟨S4x64x4x64, .f32⟩
  | .hbm, ⟨48, _⟩ => ⟨S4x64x4x64, .f32⟩
  | .hbm, ⟨49, _⟩ => ⟨S256x256, .f32⟩
  | .hbm, ⟨50, _⟩ => ⟨S4x4, .i32⟩
  | .hbm, ⟨51, _⟩ => ⟨S4x4, .i32⟩
  | .hbm, ⟨52, _⟩ => ⟨S_, .i32⟩
  | .hbm, ⟨53, _⟩ => ⟨S4x4, .i32⟩
  | .hbm, ⟨54, _⟩ => ⟨S4x4, .i32⟩
  | .hbm, ⟨55, _⟩ => ⟨S4x4, .i1⟩
  | .hbm, ⟨56, _⟩ => ⟨S4x4, .f32⟩
  | .hbm, ⟨57, _⟩ => ⟨S4x64x1x64, .f32⟩
  | .hbm, ⟨58, _⟩ => ⟨S4x1x4x1, .f32⟩
  | .hbm, ⟨59, _⟩ => ⟨S4x64x4x64, .f32⟩
  | .hbm, ⟨60, _⟩ => ⟨S4x64x4x64, .f32⟩
  | .hbm, ⟨61, _⟩ => ⟨S4x64x4x64, .f32⟩
  | .hbm, ⟨62, _⟩ => ⟨S256x256, .f32⟩
  | .hbm, ⟨63, _⟩ => ⟨S256x512, .f32⟩
  | .hbm, ⟨64, _⟩ => ⟨S256x512, .bf16⟩
  | .hbm, ⟨65, _⟩ => ⟨S512, .f32⟩
  | .hbm, ⟨66, _⟩ => ⟨S1x512, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S1x1024, .f32⟩
  | .hbm, ⟨71, _⟩ => ⟨S16384x256, .bf16⟩
  | .hbm, ⟨72, _⟩ => ⟨S1024x16384, .bf16⟩
  | .hbm, ⟨73, _⟩ => ⟨S16384x1024, .bf16⟩
  | .hbm, ⟨74, _⟩ => ⟨S512x16384, .bf16⟩
  | .hbm, ⟨75, _⟩ => ⟨S16384x896, .f32⟩
  | .hbm, ⟨76, _⟩ => ⟨S16384x8x128, .bf16⟩
  | .hbm, ⟨77, _⟩ => ⟨S16384x8x64, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S4x256, .f32⟩
  | .local _ .vmem, ⟨8, _⟩ => ⟨S1x256, .f32⟩
  | .local _ .vmem, ⟨9, _⟩ => ⟨S256x512, .bf16⟩
  | .local _ .vmem, ⟨10, _⟩ => ⟨S1x512, .f32⟩
  | .local _ .vmem, ⟨11, _⟩ => ⟨S1x256, .f32⟩
  | .local _ .vmem, ⟨12, _⟩ => ⟨S1x256, .f32⟩
  | .local _ .vmem, ⟨13, _⟩ => ⟨S512x256, .bf16⟩
  | .local _ .vmem, ⟨14, _⟩ => ⟨S512x256, .bf16⟩
  | .local _ .vmem, ⟨15, _⟩ => ⟨S1024x512, .bf16⟩
  | .local _ .vmem, ⟨16, _⟩ => ⟨S1024x512, .bf16⟩
  | .local _ .vmem, ⟨17, _⟩ => ⟨S512x1024, .bf16⟩
  | .local _ .vmem, ⟨18, _⟩ => ⟨S512x1024, .bf16⟩
  | .local _ .vmem, ⟨19, _⟩ => ⟨S512x512, .bf16⟩
  | .local _ .vmem, ⟨20, _⟩ => ⟨S512x512, .bf16⟩
  | .local _ .vmem, ⟨21, _⟩ => ⟨S512x896, .f32⟩
  | .local _ .vmem, ⟨22, _⟩ => ⟨S512x896, .f32⟩
  | .local _ .vmem, ⟨23, _⟩ => ⟨S8x128, .f32⟩
  | .local _ .vmem, ⟨24, _⟩ => ⟨S8x256, .f32⟩
  | .local _ .vmem, ⟨25, _⟩ => ⟨S8x256, .f32⟩
  | .local _ .vmem, ⟨26, _⟩ => ⟨S2x264x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52_0 : Ref sig .tc := ⟨.hbm, 71, rfl⟩
abbrev main_v52_1 : Ref sig .tc := ⟨.hbm, 72, rfl⟩
abbrev main_v52_2 : Ref sig .tc := ⟨.hbm, 73, rfl⟩
abbrev main_v52_3 : Ref sig .tc := ⟨.hbm, 74, rfl⟩
abbrev main_v52_4 : Ref sig .tc := ⟨.hbm, 75, rfl⟩
abbrev main_v53 : Ref sig .tc := ⟨.hbm, 76, rfl⟩
abbrev main_v54 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x896 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16384x1024 : Shape := ⟨2, ![16384, 1024]⟩
abbrev S1024 : Shape := ⟨1, ![1024]⟩
abbrev S1024x2952 : Shape := ⟨2, ![1024, 2952]⟩
abbrev S4x256 : Shape := ⟨2, ![4, 256]⟩
abbrev S256 : Shape := ⟨1, ![256]⟩
abbrev S4x64x64 : Shape := ⟨3, ![4, 64, 64]⟩
abbrev S8 : Shape := ⟨1, ![8]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2952 : Shape := ⟨2, ![16384, 2952]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x8x3 : Shape := ⟨3, ![16384, 8, 3]⟩
abbrev S16384x8x61 : Shape := ⟨3, ![16384, 8, 61]⟩
abbrev S16384x8x128 : Shape := ⟨3, ![16384, 8, 128]⟩
abbrev S8x128x16384 : Shape := ⟨3, ![8, 128, 16384]⟩
abbrev S512x16384 : Shape := ⟨2, ![512, 16384]⟩
abbrev S1024x16384 : Shape := ⟨2, ![1024, 16384]⟩
abbrev S16384x896 : Shape := ⟨2, ![16384, 896]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2952, .f32⟩
  | .hbm, ⟨3, _⟩ => ⟨S4x256, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S4x64x64, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S8, .f32⟩
  | .hbm, ⟨12, _⟩ => ⟨S64, .f32⟩
  | .hbm, ⟨13, _⟩ => ⟨S64, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x2952, .f32⟩
  | .hbm, ⟨31, _⟩ => ⟨S16384x512, .f32⟩
  | .hbm, ⟨32, _⟩ => ⟨S16384x8x64, .f32⟩
  | .hbm, ⟨33, _⟩ => ⟨S16384x8x64, .f32⟩
  | .hbm, ⟨34, _⟩ => ⟨S_, .f32⟩
  | .hbm, ⟨35, _⟩ => ⟨S16384x8, .f32⟩
  | .hbm, ⟨36, _⟩ => ⟨S16384x8x1, .f32⟩
  | .hbm, ⟨37, _⟩ => ⟨S_, .f32⟩
  | .hbm, ⟨38, _⟩ => ⟨S16384x8x1, .f32⟩
  | .hbm, ⟨39, _⟩ => ⟨S16384x8x1, .f32⟩
  | .hbm, ⟨40, _⟩ => ⟨S_, .f32⟩
  | .hbm, ⟨41, _⟩ => ⟨S16384x8x1, .f32⟩
  | .hbm, ⟨42, _⟩ => ⟨S16384x8x1, .f32⟩
  | .hbm, ⟨43, _⟩ => ⟨S16384x8x1, .f32⟩
  | .hbm, ⟨44, _⟩ => ⟨S16384x8x64, .f32⟩
  | .hbm, ⟨45, _⟩ => ⟨S16384x8x64, .f32⟩
  | .hbm, ⟨46, _⟩ => ⟨S1x1x64, .f32⟩
  | .hbm, ⟨47, _⟩ => ⟨S16384x8x64, .f32⟩
  | .hbm, ⟨48, _⟩ => ⟨S16384x8x64, .f32⟩
  | .hbm, ⟨49, _⟩ => ⟨S_, .f32⟩
  | .hbm, ⟨50, _⟩ => ⟨S16384x8x3, .f32⟩
  | .hbm, ⟨51, _⟩ => ⟨S_, .f32⟩
  | .hbm, ⟨52, _⟩ => ⟨S16384x8x61, .f32⟩
  | .hbm, ⟨53, _⟩ => ⟨S16384x8x128, .f32⟩
  | .hbm, ⟨54, _⟩ => ⟨S8x128x16384, .f32⟩
  | .hbm, ⟨55, _⟩ => ⟨S16384x512, .f32⟩
  | .hbm, ⟨56, _⟩ => ⟨S512x16384, .f32⟩
  | .hbm, ⟨57, _⟩ => ⟨S1024x16384, .f32⟩
  | .hbm, ⟨58, _⟩ => ⟨S1024x16384, .bf16⟩
  | .hbm, ⟨59, _⟩ => ⟨S512x16384, .bf16⟩
  | .hbm, ⟨60, _⟩ => ⟨S16384x896, .f32⟩
  | .hbm, ⟨61, _⟩ => ⟨S16384x512, .f32⟩
  | .hbm, ⟨62, _⟩ => ⟨S16384x8x64, .f32⟩
  | .hbm, ⟨63, _⟩ => ⟨S16384x8x64, .f32⟩
  | .hbm, ⟨64, _⟩ => ⟨S_, .f32⟩
  | .hbm, ⟨65, _⟩ => ⟨S16384x8, .f32⟩
  | .hbm, ⟨66, _⟩ => ⟨S16384x8x1, .f32⟩
  | .hbm, ⟨67, _⟩ => ⟨S_, .f32⟩
  | .hbm, ⟨68, _⟩ => ⟨S16384x8x1, .f32⟩
  | .hbm, ⟨69, _⟩ => ⟨S16384x8x1, .f32⟩
  | .hbm, ⟨70, _⟩ => ⟨S_, .f32⟩
  | .hbm, ⟨71, _⟩ => ⟨S16384x8x1, .f32⟩
  | .hbm, ⟨72, _⟩ => ⟨S16384x8x1, .f32⟩
  | .hbm, ⟨73, _⟩ => ⟨S16384x8x1, .f32⟩
  | .hbm, ⟨74, _⟩ => ⟨S16384x8x64, .f32⟩
  | .hbm, ⟨75, _⟩ => ⟨S16384x8x64, .f32⟩
  | .hbm, ⟨76, _⟩ => ⟨S1x1x64, .f32⟩
  | .hbm, ⟨77, _⟩ => ⟨S16384x8x64, .f32⟩
  | .hbm, ⟨78, _⟩ => ⟨S16384x8x64, .f32⟩
  | .hbm, ⟨79, _⟩ => ⟨S16384x8x64, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import proofs.«01_k».proof.Proof.Gen.KernelIdeal.Frame

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one tile computes

`x0` … `x5` are the contents of the six input windows at a grid point: a tile of 512 tokens (the normed rows,
the routing lanes, the residual rows) and the three expert weight arrays. -/

/-- The guard of one block of 128 sorted rows: the group's first row `a` lies before the block's end and the row `b`
    after the group's last lies past the block's start. -/
abbrev live (a b : F .f32) (hi lo : BitVec 32) : Prop :=
  Scalar.cmpi .ne (Scalar.extui (Scalar.andi (Scalar.cmpf .olt a (Scalar.ofBits .f32 hi)) (Scalar.cmpf .ogt b (Scalar.ofBits .f32 lo)))) 0#32 = 1#1

/-- The routing lanes as the body loads them. -/
abbrev rt (x1 : Vec F S512x128 .f32) : Vec F S512x128 .f32 :=
  View.ld x1 (Rect.unit (s := S512x128) ![0, 0] S512x128.size inb_S512x128_S512x128_0_0)

/-- The tokens of the tile in sorted order. -/
def sortedH (x0 : Vec F S512x1024 .bf16) (x1 : Vec F S512x128 .f32) : FVec F S512x1024 .bf16 :=
  k0_pay58 (iota .tc S512x512 32 [0] iota_S512x512_d0_w32) (k0_pay50 (rt x1)) (k0_pay52 (rt x1)) (k0_pay54 (rt x1))
    (View.ld x0 (Rect.unit (s := S512x1024) ![0, 0] S512x1024.size inb_S512x1024_S512x1024_0_0))

/-- Their routing lanes in sorted order. -/
def sortedR (x1 : Vec F S512x128 .f32) : FVec F S512x128 .f32 :=
  k0_pay59 (rt x1) (iota .tc S512x512 32 [0] iota_S512x512_d0_w32) (k0_pay50 (rt x1)) (k0_pay52 (rt x1)) (k0_pay54 (rt x1))

/-- Group 0's four experts on a block of 128 sorted rows, added to what the rows hold. -/
def experts0 (hb : Vec F S128x1024 .bf16) (rb : Vec F S128x128 .f32) (x3 x4 : Vec F S16x1024x256 .bf16) (x5 : Vec F S4x1024x1024 .bf16)
    (yb : Vec F S128x1024 .f32) : FVec F S128x1024 .f32 :=
  k0_pay63 hb rb
    (k0_pay1 hb rb (View.ld x3 (Rect.unit (s := S16x1024x256) ![0, 0, 0] S1x1024x256.size inb_S16x1024x256_S1x1024x256_0_0_0)) (View.ld x4 (Rect.unit (s := S16x1024x256) ![0, 0, 0] S1x1024x256.size inb_S16x1024x256_S1x1024x256_0_0_0)))
    (k0_pay2 hb rb (View.ld x3 (Rect.unit (s := S16x1024x256) ![1, 0, 0] S1x1024x256.size inb_S16x1024x256_S1x1024x256_1_0_0)) (View.ld x4 (Rect.unit (s := S16x1024x256) ![1, 0, 0] S1x1024x256.size inb_S16x1024x256_S1x1024x256_1_0_0)))
    (k0_pay3 hb (View.ld x3 (Rect.unit (s := S16x1024x256) ![2, 0, 0] S1x1024x256.size inb_S16x1024x256_S1x1024x256_2_0_0)))
    (View.ld x4 (Rect.unit (s := S16x1024x256) ![2, 0, 0] S1x1024x256.size inb_S16x1024x256_S1x1024x256_2_0_0)) (View.ld x3 (Rect.unit (s := S16x1024x256) ![3, 0, 0] S1x1024x256.size inb_S16x1024x256_S1x1024x256_3_0_0)) (View.ld x4 (Rect.unit (s := S16x1024x256) ![3, 0, 0] S1x1024x256.size inb_S16x1024x256_S1x1024x256_3_0_0)) yb
    (View.ld x5 (Rect.unit (s := S4x1024x1024) ![0, 0, 0] S1x1024x1024.size inb_S4x1024x1024_S1x1024x1024_0_0_0))

/-- Group 1's four experts on a block of 128 sorted rows, added to what the rows hold. -/
def experts1 (hb : Vec F S128x1024 .bf16) (rb : Vec F S128x128 .f32) (x3 x4 : Vec F S16x1024x256 .bf16) (x5 : Vec F S4x1024x1024 .bf16)
    (yb : Vec F S128x1024 .f32) : FVec F S128x1024 .f32 :=
  k0_pay69 hb rb
    (k0_pay13 hb rb (View.ld x3 (Rect.unit (s := S16x1024x256) ![4, 0, 0] S1x1024x256.size inb_S16x1024x256_S1x1024x256_4_0_0)) (View.ld x4 (Rect.unit (s := S16x1024x256) ![4, 0, 0] S1x1024x256.size inb_S16x1024x256_S1x1024x256_4_0_0)))
    (k0_pay14 hb rb (View.ld x3 (Rect.unit (s := S16x1024x256) ![5, 0, 0] S1x1024x256.size inb_S16x1024x256_S1x1024x256_5_0_0)) (View.ld x4 (Rect.unit (s := S16x1024x256) ![5, 0, 0] S1x1024x256.size inb_S16x1024x256_S1x1024x256_5_0_0)))
    (k0_pay15 hb (View.ld x3 (Rect.unit (s := S16x1024x256) ![6, 0, 0] S1x1024x256.size inb_S16x1024x256_S1x1024x256_6_0_0)))
    (View.ld x4 (Rect.unit (s := S16x1024x256) ![6, 0, 0] S1x1024x256.size inb_S16x1024x256_S1x1024x256_6_0_0)) (View.ld x3 (Rect.unit (s := S16x1024x256) ![7, 0, 0] S1x1024x256.size inb_S16x1024x256_S1x1024x256_7_0_0)) (View.ld x4 (Rect.unit (s := S16x1024x256) ![7, 0, 0] S1x1024x256.size inb_S16x1024x256_S1x1024x256_7_0_0)) yb
    (View.ld x5 (Rect.unit (s := S4x1024x1024) ![1, 0, 0] S1x1024x1024.size inb_S4x1024x1024_S1x1024x1024_1_0_0))

/-- Group 2's four experts on a block of 128 sorted rows, added to what the rows hold. -/
def experts2 (hb : Vec F S128x1024 .bf16) (rb : Vec F S128x128 .f32) (x3 x4 : Vec F S16x1024x256 .bf16) (x5 : Vec F S4x1024x1024 .bf16)
    (yb : Vec F S128x1024 .f32) : FVec F S128x1024 .f32 :=
  k0_pay75 hb rb
    (k0_pay25 hb rb (View.ld x3 (Rect.unit (s := S16x1024x256) ![8, 0, 0] S1x1024x256.size inb_S16x1024x256_S1x1024x256_8_0_0)) (View.ld x4 (Rect.unit (s := S16x1024x256) ![8, 0, 0] S1x1024x256.size inb_S16x1024x256_S1x1024x256_8_0_0)))
    (k0_pay26 hb rb (View.ld x3 (Rect.unit (s := S16x1024x256) ![9, 0, 0] S1x1024x256.size inb_S16x1024x256_S1x1024x256_9_0_0)) (View.ld x4 (Rect.unit (s := S16x1024x256) ![9, 0, 0] S1x1024x256.size inb_S16x1024x256_S1x1024x256_9_0_0)))
    (k0_pay27 hb (View.ld x3 (Rect.unit (s := S16x1024x256) ![10, 0, 0] S1x1024x256.size inb_S16x1024x256_S1x1024x256_10_0_0)))
    (View.ld x4 (Rect.unit (s := S16x1024x256) ![10, 0, 0] S1x1024x256.size inb_S16x1024x256_S1x1024x256_10_0_0)) (View.ld x3 (Rect.unit (s := S16x1024x256) ![11, 0, 0] S1x1024x256.size inb_S16x1024x256_S1x1024x256_11_0_0)) (View.ld x4 (Rect.unit (s := S16x1024x256) ![11, 0, 0] S1x1024x256.size inb_S16x1024x256_S1x1024x256_11_0_0)) yb
    (View.ld x5 (Rect.unit (s := S4x1024x1024) ![2, 0, 0] S1x1024x1024.size inb_S4x1024x1024_S1x1024x1024_2_0_0))

/-- Group 3's four experts on a block of 128 sorted rows, added to what the rows hold. -/
def experts3 (hb : Vec F S128x1024 .bf16) (rb : Vec F S128x128 .f32) (x3 x4 : Vec F S16x1024x256 .bf16) (x5 : Vec F S4x1024x1024 .bf16)
    (yb : Vec F S128x1024 .f32) : FVec F S128x1024 .f32 :=
  k0_pay81 hb rb
    (k0_pay37 hb rb (View.ld x3 (Rect.unit (s := S16x1024x256) ![12, 0, 0] S1x1024x256.size inb_S16x1024x256_S1x1024x256_12_0_0)) (View.ld x4 (Rect.unit (s := S16x1024x256) ![12, 0, 0] S1x1024x256.size inb_S16x1024x256_S1x1024x256_12_0_0)))
    (k0_pay38 hb rb (View.ld x3 (Rect.unit (s := S16x1024x256) ![13, 0, 0] S1x1024x256.size inb_S16x1024x256_S1x1024x256_13_0_0)) (View.ld x4 (Rect.unit (s := S16x1024x256) ![13, 0, 0] S1x1024x256.size inb_S16x1024x256_S1x1024x256_13_0_0)))
    (k0_pay39 hb (View.ld x3 (Rect.unit (s := S16x1024x256) ![14, 0, 0] S1x1024x256.size inb_S16x1024x256_S1x1024x256_14_0_0)))
    (View.ld x4 (Rect.unit (s := S16x1024x256) ![14, 0, 0] S1x1024x256.size inb_S16x1024x256_S1x1024x256_14_0_0)) (View.ld x3 (Rect.unit (s := S16x1024x256) ![15, 0, 0] S1x1024x256.size inb_S16x1024x256_S1x1024x256_15_0_0)) (View.ld x4 (Rect.unit (s := S16x1024x256) ![15, 0, 0] S1x1024x256.size inb_S16x1024x256_S1x1024x256_15_0_0)) yb
    (View.ld x5 (Rect.unit (s := S4x1024x1024) ![3, 0, 0] S1x1024x1024.size inb_S4x1024x1024_S1x1024x1024_3_0_0))

/-- Group 0 on rows 0 … 127 of the sorted tile, when it has a token there. -/
def step1 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay61 v37) (k0_pay62 v38) 0x43000000#32 0x00000000#32 then
    VecWindow.put y ![0, 0] S128x1024.size (experts0 (View.ld hs (Rect.unit (s := S512x1024) ![0, 0] S128x1024.size inb_S512x1024_S128x1024_0_0)) (View.ld rs (Rect.unit (s := S512x128) ![0, 0] S128x128.size inb_S512x128_S128x128_0_0)) x3 x4 x5 (View.ld y (Rect.unit (s := S512x1024) ![0, 0] S128x1024.size inb_S512x1024_S128x1024_0_0)))
  else y

/-- Group 0 on rows 128 … 255 of the sorted tile, when it has a token there. -/
def step2 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay61 v37) (k0_pay62 v38) 0x43800000#32 0x43000000#32 then
    VecWindow.put y ![128, 0] S128x1024.size (experts0 (View.ld hs (Rect.unit (s := S512x1024) ![128, 0] S128x1024.size inb_S512x1024_S128x1024_128_0)) (View.ld rs (Rect.unit (s := S512x128) ![128, 0] S128x128.size inb_S512x128_S128x128_128_0)) x3 x4 x5 (View.ld y (Rect.unit (s := S512x1024) ![128, 0] S128x1024.size inb_S512x1024_S128x1024_128_0)))
  else y

/-- Group 0 on rows 256 … 383 of the sorted tile, when it has a token there. -/
def step3 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay61 v37) (k0_pay62 v38) 0x43C00000#32 0x43800000#32 then
    VecWindow.put y ![256, 0] S128x1024.size (experts0 (View.ld hs (Rect.unit (s := S512x1024) ![256, 0] S128x1024.size inb_S512x1024_S128x1024_256_0)) (View.ld rs (Rect.unit (s := S512x128) ![256, 0] S128x128.size inb_S512x128_S128x128_256_0)) x3 x4 x5 (View.ld y (Rect.unit (s := S512x1024) ![256, 0] S128x1024.size inb_S512x1024_S128x1024_256_0)))
  else y

/-- Group 0 on rows 384 … 511 of the sorted tile, when it has a token there. -/
def step4 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay61 v37) (k0_pay62 v38) 0x44000000#32 0x43C00000#32 then
    VecWindow.put y ![384, 0] S128x1024.size (experts0 (View.ld hs (Rect.unit (s := S512x1024) ![384, 0] S128x1024.size inb_S512x1024_S128x1024_384_0)) (View.ld rs (Rect.unit (s := S512x128) ![384, 0] S128x128.size inb_S512x128_S128x128_384_0)) x3 x4 x5 (View.ld y (Rect.unit (s := S512x1024) ![384, 0] S128x1024.size inb_S512x1024_S128x1024_384_0)))
  else y

/-- Group 1 on rows 0 … 127 of the sorted tile, when it has a token there. -/
def step5 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay67 v37) (k0_pay68 v38) 0x43000000#32 0x00000000#32 then
    VecWindow.put y ![0, 0] S128x1024.size (experts1 (View.ld hs (Rect.unit (s := S512x1024) ![0, 0] S128x1024.size inb_S512x1024_S128x1024_0_0)) (View.ld rs (Rect.unit (s := S512x128) ![0, 0] S128x128.size inb_S512x128_S128x128_0_0)) x3 x4 x5 (View.ld y (Rect.unit (s := S512x1024) ![0, 0] S128x1024.size inb_S512x1024_S128x1024_0_0)))
  else y

/-- Group 1 on rows 128 … 255 of the sorted tile, when it has a token there. -/
def step6 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay67 v37) (k0_pay68 v38) 0x43800000#32 0x43000000#32 then
    VecWindow.put y ![128, 0] S128x1024.size (experts1 (View.ld hs (Rect.unit (s := S512x1024) ![128, 0] S128x1024.size inb_S512x1024_S128x1024_128_0)) (View.ld rs (Rect.unit (s := S512x128) ![128, 0] S128x128.size inb_S512x128_S128x128_128_0)) x3 x4 x5 (View.ld y (Rect.unit (s := S512x1024) ![128, 0] S128x1024.size inb_S512x1024_S128x1024_128_0)))
  else y

/-- Group 1 on rows 256 … 383 of the sorted tile, when it has a token there. -/
def step7 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay67 v37) (k0_pay68 v38) 0x43C00000#32 0x43800000#32 then
    VecWindow.put y ![256, 0] S128x1024.size (experts1 (View.ld hs (Rect.unit (s := S512x1024) ![256, 0] S128x1024.size inb_S512x1024_S128x1024_256_0)) (View.ld rs (Rect.unit (s := S512x128) ![256, 0] S128x128.size inb_S512x128_S128x128_256_0)) x3 x4 x5 (View.ld y (Rect.unit (s := S512x1024) ![256, 0] S128x1024.size inb_S512x1024_S128x1024_256_0)))
  else y

/-- Group 1 on rows 384 … 511 of the sorted tile, when it has a token there. -/
def step8 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay67 v37) (k0_pay68 v38) 0x44000000#32 0x43C00000#32 then
    VecWindow.put y ![384, 0] S128x1024.size (experts1 (View.ld hs (Rect.unit (s := S512x1024) ![384, 0] S128x1024.size inb_S512x1024_S128x1024_384_0)) (View.ld rs (Rect.unit (s := S512x128) ![384, 0] S128x128.size inb_S512x128_S128x128_384_0)) x3 x4 x5 (View.ld y (Rect.unit (s := S512x1024) ![384, 0] S128x1024.size inb_S512x1024_S128x1024_384_0)))
  else y

/-- Group 2 on rows 0 … 127 of the sorted tile, when it has a token there. -/
def step9 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay73 v37) (k0_pay74 v38) 0x43000000#32 0x00000000#32 then
    VecWindow.put y ![0, 0] S128x1024.size (experts2 (View.ld hs (Rect.unit (s := S512x1024) ![0, 0] S128x1024.size inb_S512x1024_S128x1024_0_0)) (View.ld rs (Rect.unit (s := S512x128) ![0, 0] S128x128.size inb_S512x128_S128x128_0_0)) x3 x4 x5 (View.ld y (Rect.unit (s := S512x1024) ![0, 0] S128x1024.size inb_S512x1024_S128x1024_0_0)))
  else y

/-- Group 2 on rows 128 … 255 of the sorted tile, when it has a token there. -/
def step10 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay73 v37) (k0_pay74 v38) 0x43800000#32 0x43000000#32 then
    VecWindow.put y ![128, 0] S128x1024.size (experts2 (View.ld hs (Rect.unit (s := S512x1024) ![128, 0] S128x1024.size inb_S512x1024_S128x1024_128_0)) (View.ld rs (Rect.unit (s := S512x128) ![128, 0] S128x128.size inb_S512x128_S128x128_128_0)) x3 x4 x5 (View.ld y (Rect.unit (s := S512x1024) ![128, 0] S128x1024.size inb_S512x1024_S128x1024_128_0)))
  else y

/-- Group 2 on rows 256 … 383 of the sorted tile, when it has a token there. -/
def step11 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay73 v37) (k0_pay74 v38) 0x43C00000#32 0x43800000#32 then
    VecWindow.put y ![256, 0] S128x1024.size (experts2 (View.ld hs (Rect.unit (s := S512x1024) ![256, 0] S128x1024.size inb_S512x1024_S128x1024_256_0)) (View.ld rs (Rect.unit (s := S512x128) ![256, 0] S128x128.size inb_S512x128_S128x128_256_0)) x3 x4 x5 (View.ld y (Rect.unit (s := S512x1024) ![256, 0] S128x1024.size inb_S512x1024_S128x1024_256_0)))
  else y

/-- Group 2 on rows 384 … 511 of the sorted tile, when it has a token there. -/
def step12 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay73 v37) (k0_pay74 v38) 0x44000000#32 0x43C00000#32 then
    VecWindow.put y ![384, 0] S128x1024.size (experts2 (View.ld hs (Rect.unit (s := S512x1024) ![384, 0] S128x1024.size inb_S512x1024_S128x1024_384_0)) (View.ld rs (Rect.unit (s := S512x128) ![384, 0] S128x128.size inb_S512x128_S128x128_384_0)) x3 x4 x5 (View.ld y (Rect.unit (s := S512x1024) ![384, 0] S128x1024.size inb_S512x1024_S128x1024_384_0)))
  else y

/-- Group 3 on rows 0 … 127 of the sorted tile, when it has a token there. -/
def step13 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay79 v37) (k0_pay80 v38) 0x43000000#32 0x00000000#32 then
    VecWindow.put y ![0, 0] S128x1024.size (experts3 (View.ld hs (Rect.unit (s := S512x1024) ![0, 0] S128x1024.size inb_S512x1024_S128x1024_0_0)) (View.ld rs (Rect.unit (s := S512x128) ![0, 0] S128x128.size inb_S512x128_S128x128_0_0)) x3 x4 x5 (View.ld y (Rect.unit (s := S512x1024) ![0, 0] S128x1024.size inb_S512x1024_S128x1024_0_0)))
  else y

/-- Group 3 on rows 128 … 255 of the sorted tile, when it has a token there. -/
def step14 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay79 v37) (k0_pay80 v38) 0x43800000#32 0x43000000#32 then
    VecWindow.put y ![128, 0] S128x1024.size (experts3 (View.ld hs (Rect.unit (s := S512x1024) ![128, 0] S128x1024.size inb_S512x1024_S128x1024_128_0)) (View.ld rs (Rect.unit (s := S512x128) ![128, 0] S128x128.size inb_S512x128_S128x128_128_0)) x3 x4 x5 (View.ld y (Rect.unit (s := S512x1024) ![128, 0] S128x1024.size inb_S512x1024_S128x1024_128_0)))
  else y

/-- Group 3 on rows 256 … 383 of the sorted tile, when it has a token there. -/
def step15 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay79 v37) (k0_pay80 v38) 0x43C00000#32 0x43800000#32 then
    VecWindow.put y ![256, 0] S128x1024.size (experts3 (View.ld hs (Rect.unit (s := S512x1024) ![256, 0] S128x1024.size inb_S512x1024_S128x1024_256_0)) (View.ld rs (Rect.unit (s := S512x128) ![256, 0] S128x128.size inb_S512x128_S128x128_256_0)) x3 x4 x5 (View.ld y (Rect.unit (s := S512x1024) ![256, 0] S128x1024.size inb_S512x1024_S128x1024_256_0)))
  else y

/-- Group 3 on rows 384 … 511 of the sorted tile, when it has a token there. -/
def step16 (hs : Vec F S512x1024 .bf16) (rs : Vec F S512x128 .f32) (v37 v38 : FVec F S1x128 .f32) (x3 x4 : Vec F S16x1024x256 .bf16)
    (x5 : Vec F S4x1024x1024 .bf16) (y : Vec F S512x1024 .f32) : Vec F S512x1024 .f32 :=
  if live (k0_pay79 v37) (k0_pay80 v38) 0x44000000#32 0x43C00000#32 then
    VecWindow.put y ![384, 0] S128x1024.size (experts3 (View.ld hs (Rect.unit (s := S512x1024) ![384, 0] S128x1024.size inb_S512x1024_S128x1024_384_0)) (View.ld rs (Rect.unit (s := S512x128) ![384, 0] S128x128.size inb_S512x128_S128x128_384_0)) x3 x4 x5 (View.ld y (Rect.unit (s := S512x1024) ![384, 0] S128x1024.size inb_S512x1024_S128x1024_384_0)))
  else y

/-- The sorted tile's expert outputs: all sixteen blocks, in the order the body runs them. -/
def sortedY (hs : Vec F S512x1024 .bf16) (rs : Vec F S512x128 .f32) (v37 v38 : FVec F S1x128 .f32) (x3 x4 : Vec F S16x1024x256 .bf16)
    (x5 : Vec F S4x1024x1024 .bf16) : Vec F S512x1024 .f32 :=
  (step16 hs rs v37 v38 x3 x4 x5 (step15 hs rs v37 v38 x3 x4 x5 (step14 hs rs v37 v38 x3 x4 x5 (step13 hs rs v37 v38 x3 x4 x5 (step12 hs rs v37 v38 x3 x4 x5 (step11 hs rs v37 v38 x3 x4 x5 (step10 hs rs v37 v38 x3 x4 x5 (step9 hs rs v37 v38 x3 x4 x5 (step8 hs rs v37 v38 x3 x4 x5 (step7 hs rs v37 v38 x3 x4 x5 (step6 hs rs v37 v38 x3 x4 x5 (step5 hs rs v37 v38 x3 x4 x5 (step4 hs rs v37 v38 x3 x4 x5 (step3 hs rs v37 v38 x3 x4 x5 (step2 hs rs v37 v38 x3 x4 x5 (step1 hs rs v37 v38 x3 x4 x5 k0_pay60))))))))))))))))

/-- What the body leaves in the output window. -/
def out0_6 (x0 : Vec F S512x1024 .bf16) (x1 : Vec F S512x128 .f32) (x2 : Vec F S512x1024 .f32) (x3 : Vec F S16x1024x256 .bf16) (x4 : Vec F S16x1024x256 .bf16) (x5 : Vec F S4x1024x1024 .bf16) : Vec F S512x1024 .f32 :=
  k0_pay85 (k0_pay56 (iota .tc S512x512 32 [1] iota_S512x512_d1_w32) (k0_pay50 (rt x1)) (k0_pay52 (rt x1)) (k0_pay54 (rt x1)))
    (View.ld x2 (Rect.unit (s := S512x1024) ![0, 0] S512x1024.size inb_S512x1024_S512x1024_0_0))
    (View.ld (sortedY (sortedH x0 x1) (sortedR x1) (k0_pay52 (rt x1)) (k0_pay53 (rt x1)) x3 x4 x5)
      (Rect.unit (s := S512x1024) ![0, 0] S512x1024.size inb_S512x1024_S512x1024_0_0))

/-! ## The body's triple -/

/-- One guarded store to part of a buffer, read back. -/
theorem read_guarded {sp : Space} {s : Shape} {e : EltTy} (v : View sig .tc sp s e) {C : Prop} [Decidable C] (P : v.ty.Contents (Elt F))
    {off size : Fin s.rank → ℕ} (inb : ∀ a, off a + size a ≤ s.size a) (w : (Rect.unit off size inb).shape.Idx → Elt F e)
    (f : (s.Idx → Elt F e) → ((a : Fin s.rank) → Fin (size a)) → Elt F e) (y : s.Idx → Elt F e)
    (hP : v.read (Elt F) P = y) (hw : w = f (v.read (Elt F) P)) :
    v.read (Elt F) (if hc : C then v.writes (Elt F) P [⟨Rect.unit off size inb, w⟩] else P) = if C then VecWindow.put y off size (f y) else y := by
  subst hP
  by_cases hC : C
  · rw [dif_pos hC, if_pos hC, View.read_writes_cons_put _ _ inb w [] rfl, View.writes_nil, hw]
  · rw [dif_neg hC, if_neg hC]

set_option maxHeartbeats 40000000 in
/-- The body on whole staging memrefs and whole scratch buffers: the inputs stay, the output window ends at `out0_6`
    of the inputs, the scratch buffers at something. -/
theorem sound_kernel (c : Dev nD) (E : Set ℕ) (i : grid0.Coords) (arg1 : Memref sig .tc .vmem S512x1024 .bf16) (harg1 : arg1.IsWhole) (arg2 : Memref sig .tc .vmem S512x128 .f32) (harg2 : arg2.IsWhole) (arg3 : Memref sig .tc .vmem S512x1024 .f32) (harg3 : arg3.IsWhole) (arg4 : Memref sig .tc .vmem S16x1024x256 .bf16) (harg4 : arg4.IsWhole) (arg5 : Memref sig .tc .vmem S16x1024x256 .bf16) (harg5 : arg5.IsWhole) (arg6 : Memref sig .tc .vmem S4x1024x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x1024 .f32) (harg10 : arg10.IsWhole) (x0 : Vec F S512x1024 .bf16) (x1 : Vec F S512x128 .f32) (x2 : Vec F S512x1024 .f32) (x3 : Vec F S16x1024x256 .bf16) (x4 : Vec F S16x1024x256 .bf16) (x5 : Vec F S4x1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_moe i arg1 harg1 arg2 harg2 arg3 harg3 arg4 harg4 arg5 harg5 arg6 harg6 arg7 harg7 arg8 harg8 arg9 harg9 arg10 harg10) K := by
  simp only [cc0_moe_eq_skeleton]; unfold cc0_moe_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  set_option sl_exec.stopBefore "k0_part19" in sl_exec
  set_option sl_exec.maxSteps 3 in sl_exec
  generalize hg8 : arg8.view.writes (Elt F) f7 _ = g8
  generalize hg9 : arg9.view.writes (Elt F) f8 _ = g9
  generalize hg10 : arg10.view.writes (Elt F) f9 _ = g10
  have e8 : arg8.view.read (Elt F) g8 = sortedH (arg1.view.read (Elt F) f0) (arg2.view.read (Elt F) f1) := by
    rw [← hg8]; exact View.read_writes_full arg8.view f7 _ _ []
  have e9 : arg9.view.read (Elt F) g9 = sortedR (arg2.view.read (Elt F) f1) := by
    rw [← hg9]; exact View.read_writes_full arg9.view f8 _ _ []
  have e10 : arg10.view.read (Elt F) g10 = k0_pay60 := by
    rw [← hg10]; exact View.read_writes_full arg10.view f9 _ _ []
  clear hg8 hg9 hg10
  sl_exec; sl_step; iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr [H6]
    swap
    · iexact H6
    ipureintro
    refine (View.read_writes_full arg7.view f6 _ _ []).trans ?_
    unfold out0_6
    rw [← e8, ← e9]
    refine congrArg (fun z => k0_pay85 (k0_pay56 (iota .tc S512x512 32 [1] iota_S512x512_d1_w32) (k0_pay50 (rt (arg2.view.read (Elt F) f1))) (k0_pay52 (rt (arg2.view.read (Elt F) f1))) (k0_pay54 (rt (arg2.view.read (Elt F) f1))))
      (View.ld (arg3.view.read (Elt F) f2) (Rect.unit (s := S512x1024) ![0, 0] S512x1024.size inb_S512x1024_S512x1024_0_0))
      (View.ld z (Rect.unit (s := S512x1024) ![0, 0] S512x1024.size inb_S512x1024_S512x1024_0_0))) (?_ : arg10.view.read (Elt F) _ = _)
    unfold sortedY
    unfold step16
    refine read_guarded arg10.view _ _ _ (fun y => experts3 (View.ld (arg8.view.read (Elt F) g8) (Rect.unit (s := S512x1024) ![384, 0] S128x1024.size inb_S512x1024_S128x1024_384_0)) (View.ld (arg9.view.read (Elt F) g9) (Rect.unit (s := S512x128) ![384, 0] S128x128.size inb_S512x128_S128x128_384_0)) (arg4.view.read (Elt F) f3) (arg5.view.read (Elt F) f4) (arg6.view.read (Elt F) f5) (View.ld y (Rect.unit (s := S512x1024) ![384, 0] S128x1024.size inb_S512x1024_S128x1024_384_0))) _ ?_ rfl
    unfold step15
    refine read_guarded arg10.view _ _ _ (fun y => experts3 (View.ld (arg8.view.read (Elt F) g8) (Rect.unit (s := S512x1024) ![256, 0] S128x1024.size inb_S512x1024_S128x1024_256_0)) (View.ld (arg9.view.read (Elt F) g9) (Rect.unit (s := S512x128) ![256, 0] S128x128.size inb_S512x128_S128x128_256_0)) (arg4.view.read (Elt F) f3) (arg5.view.read (Elt F) f4) (arg6.view.read (Elt F) f5) (View.ld y (Rect.unit (s := S512x1024) ![256, 0] S128x1024.size inb_S512x1024_S128x1024_256_0))) _ ?_ rfl
    unfold step14
    refine read_guarded arg10.view _ _ _ (fun y => experts3 (View.ld (arg8.view.read (Elt F) g8) (Rect.unit (s := S512x1024) ![128, 0] S128x1024.size inb_S512x1024_S128x1024_128_0)) (View.ld (arg9.view.read (Elt F) g9) (Rect.unit (s := S512x128) ![128, 0] S128x128.size inb_S512x128_S128x128_128_0)) (arg4.view.read (Elt F) f3) (arg5.view.read (Elt F) f4) (arg6.view.read (Elt F) f5) (View.ld y (Rect.unit (s := S512x1024) ![128, 0] S128x1024.size inb_S512x1024_S128x1024_128_0))) _ ?_ rfl
    unfold step13
    refine read_guarded arg10.view _ _ _ (fun y => experts3 (View.ld (arg8.view.read (Elt F) g8) (Rect.unit (s := S512x1024) ![0, 0] S128x1024.size inb_S512x1024_S128x1024_0_0)) (View.ld (arg9.view.read (Elt F) g9) (Rect.unit (s := S512x128) ![0, 0] S128x128.size inb_S512x128_S128x128_0_0)) (arg4.view.read (Elt F) f3) (arg5.view.read (Elt F) f4) (arg6.view.read (Elt F) f5) (View.ld y (Rect.unit (s := S512x1024) ![0, 0] S128x1024.size inb_S512x1024_S128x1024_0_0))) _ ?_ rfl
    unfold step12
    refine read_guarded arg10.view _ _ _ (fun y => experts2 (View.ld (arg8.view.read (Elt F) g8) (Rect.unit (s := S512x1024) ![384, 0] S128x1024.size inb_S512x1024_S128x1024_384_0)) (View.ld (arg9.view.read (Elt F) g9) (Rect.unit (s := S512x128) ![384, 0] S128x128.size inb_S512x128_S128x128_384_0)) (arg4.view.read (Elt F) f3) (arg5.view.read (Elt F) f4) (arg6.view.read (Elt F) f5) (View.ld y (Rect.unit (s := S512x1024) ![384, 0] S128x1024.size inb_S512x1024_S128x1024_384_0))) _ ?_ rfl
    unfold step11
    refine read_guarded arg10.view _ _ _ (fun y => experts2 (View.ld (arg8.view.read (Elt F) g8) (Rect.unit (s := S512x1024) ![256, 0] S128x1024.size inb_S512x1024_S128x1024_256_0)) (View.ld (arg9.view.read (Elt F) g9) (Rect.unit (s := S512x128) ![256, 0] S128x128.size inb_S512x128_S128x128_256_0)) (arg4.view.read (Elt F) f3) (arg5.view.read (Elt F) f4) (arg6.view.read (Elt F) f5) (View.ld y (Rect.unit (s := S512x1024) ![256, 0] S128x1024.size inb_S512x1024_S128x1024_256_0))) _ ?_ rfl
    unfold step10
    refine read_guarded arg10.view _ _ _ (fun y => experts2 (View.ld (arg8.view.read (Elt F) g8) (Rect.unit (s := S512x1024) ![128, 0] S128x1024.size inb_S512x1024_S128x1024_128_0)) (View.ld (arg9.view.read (Elt F) g9) (Rect.unit (s := S512x128) ![128, 0] S128x128.size inb_S512x128_S128x128_128_0)) (arg4.view.read (Elt F) f3) (arg5.view.read (Elt F) f4) (arg6.view.read (Elt F) f5) (View.ld y (Rect.unit (s := S512x1024) ![128, 0] S128x1024.size inb_S512x1024_S128x1024_128_0))) _ ?_ rfl
    unfold step9
    refine read_guarded arg10.view _ _ _ (fun y => experts2 (View.ld (arg8.view.read (Elt F) g8) (Rect.unit (s := S512x1024) ![0, 0] S128x1024.size inb_S512x1024_S128x1024_0_0)) (View.ld (arg9.view.read (Elt F) g9) (Rect.unit (s := S512x128) ![0, 0] S128x128.size inb_S512x128_S128x128_0_0)) (arg4.view.read (Elt F) f3) (arg5.view.read (Elt F) f4) (arg6.view.read (Elt F) f5) (View.ld y (Rect.unit (s := S512x1024) ![0, 0] S128x1024.size inb_S512x1024_S128x1024_0_0))) _ ?_ rfl
    unfold step8
    refine read_guarded arg10.view _ _ _ (fun y => experts1 (View.ld (arg8.view.read (Elt F) g8) (Rect.unit (s := S512x1024) ![384, 0] S128x1024.size inb_S512x1024_S128x1024_384_0)) (View.ld (arg9.view.read (Elt F) g9) (Rect.unit (s := S512x128) ![384, 0] S128x128.size inb_S512x128_S128x128_384_0)) (arg4.view.read (Elt F) f3) (arg5.view.read (Elt F) f4) (arg6.view.read (Elt F) f5) (View.ld y (Rect.unit (s := S512x1024) ![384, 0] S128x1024.size inb_S512x1024_S128x1024_384_0))) _ ?_ rfl
    unfold step7
    refine read_guarded arg10.view _ _ _ (fun y => experts1 (View.ld (arg8.view.read (Elt F) g8) (Rect.unit (s := S512x1024) ![256, 0] S128x1024.size inb_S512x1024_S128x1024_256_0)) (View.ld (arg9.view.read (Elt F) g9) (Rect.unit (s := S512x128) ![256, 0] S128x128.size inb_S512x128_S128x128_256_0)) (arg4.view.read (Elt F) f3) (arg5.view.read (Elt F) f4) (arg6.view.read (Elt F) f5) (View.ld y (Rect.unit (s := S512x1024) ![256, 0] S128x1024.size inb_S512x1024_S128x1024_256_0))) _ ?_ rfl
    unfold step6
    refine read_guarded arg10.view _ _ _ (fun y => experts1 (View.ld (arg8.view.read (Elt F) g8) (Rect.unit (s := S512x1024) ![128, 0] S128x1024.size inb_S512x1024_S128x1024_128_0)) (View.ld (arg9.view.read (Elt F) g9) (Rect.unit (s := S512x128) ![128, 0] S128x128.size inb_S512x128_S128x128_128_0)) (arg4.view.read (Elt F) f3) (arg5.view.read (Elt F) f4) (arg6.view.read (Elt F) f5) (View.ld y (Rect.unit (s := S512x1024) ![128, 0] S128x1024.size inb_S512x1024_S128x1024_128_0))) _ ?_ rfl
    unfold step5
    refine read_guarded arg10.view _ _ _ (fun y => experts1 (View.ld (arg8.view.read (Elt F) g8) (Rect.unit (s := S512x1024) ![0, 0] S128x1024.size inb_S512x1024_S128x1024_0_0)) (View.ld (arg9.view.read (Elt F) g9) (Rect.unit (s := S512x128) ![0, 0] S128x128.size inb_S512x128_S128x128_0_0)) (arg4.view.read (Elt F) f3) (arg5.view.read (Elt F) f4) (arg6.view.read (Elt F) f5) (View.ld y (Rect.unit (s := S512x1024) ![0, 0] S128x1024.size inb_S512x1024_S128x1024_0_0))) _ ?_ rfl
    unfold step4
    refine read_guarded arg10.view _ _ _ (fun y => experts0 (View.ld (arg8.view.read (Elt F) g8) (Rect.unit (s := S512x1024) ![384, 0] S128x1024.size inb_S512x1024_S128x1024_384_0)) (View.ld (arg9.view.read (Elt F) g9) (Rect.unit (s := S512x128) ![384, 0] S128x128.size inb_S512x128_S128x128_384_0)) (arg4.view.read (Elt F) f3) (arg5.view.read (Elt F) f4) (arg6.view.read (Elt F) f5) (View.ld y (Rect.unit (s := S512x1024) ![384, 0] S128x1024.size inb_S512x1024_S128x1024_384_0))) _ ?_ rfl
    unfold step3
    refine read_guarded arg10.view _ _ _ (fun y => experts0 (View.ld (arg8.view.read (Elt F) g8) (Rect.unit (s := S512x1024) ![256, 0] S128x1024.size inb_S512x1024_S128x1024_256_0)) (View.ld (arg9.view.read (Elt F) g9) (Rect.unit (s := S512x128) ![256, 0] S128x128.size inb_S512x128_S128x128_256_0)) (arg4.view.read (Elt F) f3) (arg5.view.read (Elt F) f4) (arg6.view.read (Elt F) f5) (View.ld y (Rect.unit (s := S512x1024) ![256, 0] S128x1024.size inb_S512x1024_S128x1024_256_0))) _ ?_ rfl
    unfold step2
    refine read_guarded arg10.view _ _ _ (fun y => experts0 (View.ld (arg8.view.read (Elt F) g8) (Rect.unit (s := S512x1024) ![128, 0] S128x1024.size inb_S512x1024_S128x1024_128_0)) (View.ld (arg9.view.read (Elt F) g9) (Rect.unit (s := S512x128) ![128, 0] S128x128.size inb_S512x128_S128x128_128_0)) (arg4.view.read (Elt F) f3) (arg5.view.read (Elt F) f4) (arg6.view.read (Elt F) f5) (View.ld y (Rect.unit (s := S512x1024) ![128, 0] S128x1024.size inb_S512x1024_S128x1024_128_0))) _ ?_ rfl
    unfold step1
    refine read_guarded arg10.view _ _ _ (fun y => experts0 (View.ld (arg8.view.read (Elt F) g8) (Rect.unit (s := S512x1024) ![0, 0] S128x1024.size inb_S512x1024_S128x1024_0_0)) (View.ld (arg9.view.read (Elt F) g9) (Rect.unit (s := S512x128) ![0, 0] S128x128.size inb_S512x128_S128x128_0_0)) (arg4.view.read (Elt F) f3) (arg5.view.read (Elt F) f4) (arg6.view.read (Elt F) f5) (View.ld y (Rect.unit (s := S512x1024) ![0, 0] S128x1024.size inb_S512x1024_S128x1024_0_0))) _ ?_ rfl
    exact e10
  isplitl [H7]
  · iexists _, _; isplitr [H7]
    swap
    · iexact H7
    ipureintro; rfl
  isplitl [H8]
  · iexists _, _; isplitr [H8]
    swap
    · iexact H8
    ipureintro; rfl
  iexists _, _; isplitr [H9]
  swap
  · iexact H9
  ipureintro; rfl

/-! ## The pipeline's proof data -/

variable (m : (ℓ : Loc nD τ sig) → Buf (Elt F) ℓ) (ρ : Dev nD → PrngReg)

/-- Each input window keeps its block; the output window ends at the tile's result; the invariant is the scratch
    buffers at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The region's other buffers are the three scratch buffers, at some contents, and the generator's register. -/
theorem inv_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ ∃ r, prngReg c r) := by
  unfold Pipeline.ΦA
  rw [scopedRest0_eq]
  simp only [owns_whole]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, inv_eq,
    after0_0, after0_1, after0_2, after0_3, after0_4, after0_5, after0_6]
  iintro ⟨⟨⟨S0, S1, S2⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _  (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 Hr]
  · isplitl [S0 S1 S2]
    · isplitl [S0]; · iexact S0
      isplitl [S1]; · iexact S1
      iexact S2
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
set_option maxHeartbeats 800000 in
/-- Every run ends with the windows' arrays at what the proof data says, the other buffers as the region found them,
    and no semaphore raised. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

/-- The frame: no run is undefined, each argument ends as it was, and no semaphore stays raised. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run_post m ρ)) ((θ_run defs _ _).mono (fun _ h => h.2) (run_quiescent m ρ))

end Cert.KernelIdeal.Moe

end
-- ==== Proof.Ref.lean ====
/- The reference's run and its result at an entry. -/
module

public import proofs.«01_k».proof.Proof.Gen.ReferenceIdeal.Run
public import proofs.«01_k».proof.Proof.Gen.ReferenceIdeal.Read
public import Idealize.ShloMosaic.Lib.Pointwise

@[expose] public section
end
-- ==== Proof.Rank.lean ====
/- The sorted position of a token: the tokens of a tile ordered by group and, inside a group, by their place in the
   tile. Counts of tokens, their order, and their values as extended reals. -/
module

public import Idealize.ShloMosaic.Lib.Pointwise

@[expose] public section

set_option maxRecDepth 16384

noncomputable section

namespace Cert.KernelIdeal.Moe

open Finset

/-! ## Counts of tokens -/

/-- How many tokens up to and including `t` are of group `l`. -/
def upto (grp : Fin 512 → Fin 4) (t : Fin 512) (l : ℕ) : ℕ := (univ.filter fun s : Fin 512 => s ≤ t ∧ (grp s).val = l).card

/-- How many tokens are of group `l`. -/
def total (grp : Fin 512 → Fin 4) (l : ℕ) : ℕ := (univ.filter fun s : Fin 512 => (grp s).val = l).card

/-- How many tokens are of a group before `l`. -/
def before (grp : Fin 512 → Fin 4) (l : ℕ) : ℕ := (univ.filter fun s : Fin 512 => (grp s).val < l).card

/-- The position of token `t` in the sorted tile. -/
def pos (grp : Fin 512 → Fin 4) (t : Fin 512) : ℕ := before grp (grp t).val + upto grp t (grp t).val - 1

theorem upto_last (grp : Fin 512 → Fin 4) (l : ℕ) : upto grp 511 l = total grp l := by
  unfold upto total
  congr 1
  ext s
  simp only [mem_filter, mem_univ, true_and, and_iff_right_iff_imp]
  intro _
  exact Fin.le_last s

theorem upto_pos (grp : Fin 512 → Fin 4) (t : Fin 512) : 1 ≤ upto grp t (grp t).val :=
  Finset.card_pos.mpr ⟨t, by simp⟩

theorem upto_le (grp : Fin 512 → Fin 4) (t : Fin 512) (l : ℕ) : upto grp t l ≤ total grp l :=
  card_le_card fun s hs => by simp only [mem_filter, mem_univ, true_and] at hs ⊢; exact hs.2

theorem before_succ (grp : Fin 512 → Fin 4) (l : ℕ) : before grp (l + 1) = before grp l + total grp l := by
  unfold before total
  rw [← card_union_of_disjoint]
  · congr 1
    ext s
    simp only [mem_filter, mem_univ, true_and, mem_union]
    omega
  · rw [disjoint_left]
    intro s hs hs'
    simp only [mem_filter, mem_univ, true_and] at hs hs'
    omega

theorem before_zero (grp : Fin 512 → Fin 4) : before grp 0 = 0 := by
  unfold before
  simp

theorem before_mono (grp : Fin 512 → Fin 4) {l l' : ℕ} (h : l ≤ l') : before grp l ≤ before grp l' :=
  card_le_card fun s hs => by simp only [mem_filter, mem_univ, true_and] at hs ⊢; omega

theorem before_le (grp : Fin 512 → Fin 4) (l : ℕ) : before grp l ≤ 512 := (card_le_univ _).trans (by simp)

/-- A token's position is past the start of its group, -/
theorem before_le_pos (grp : Fin 512 → Fin 4) (t : Fin 512) : before grp (grp t).val ≤ pos grp t := by
  have := upto_pos grp t
  unfold pos; omega

/-- and before its end, -/
theorem pos_lt_end (grp : Fin 512 → Fin 4) (t : Fin 512) : pos grp t < before grp (grp t).val + total grp (grp t).val := by
  have := upto_pos grp t
  have := upto_le grp t (grp t).val
  unfold pos; omega

/-- and inside the tile. -/
theorem pos_lt (grp : Fin 512 → Fin 4) (t : Fin 512) : pos grp t < 512 := by
  have h := pos_lt_end grp t
  rw [← before_succ] at h
  exact h.trans_le (before_le grp _)

/-- Two tokens have two positions. -/
theorem pos_inj (grp : Fin 512 → Fin 4) {t t' : Fin 512} (h : pos grp t = pos grp t') : t = t' := by
  have key : ∀ a b : Fin 512, (grp a).val < (grp b).val → pos grp a < pos grp b := fun a b hab =>
    calc pos grp a < before grp (grp a).val + total grp (grp a).val := pos_lt_end grp a
      _ = before grp ((grp a).val + 1) := (before_succ grp _).symm
      _ ≤ before grp (grp b).val := before_mono grp hab
      _ ≤ pos grp b := before_le_pos grp b
  have step : ∀ a b : Fin 512, grp a = grp b → a < b → pos grp a < pos grp b := fun a b hg hab => by
    have hlt : upto grp a (grp a).val < upto grp b (grp b).val := by
      rw [hg]
      refine card_lt_card ⟨fun s hs => ?_, fun hc => ?_⟩
      · simp only [mem_filter, mem_univ, true_and] at hs ⊢; exact ⟨hs.1.trans hab.le, hs.2⟩
      · have := hc (by simp : b ∈ _)
        simp only [mem_filter, mem_univ, true_and] at this
        exact absurd this.1 (not_le.mpr hab)
    have := upto_pos grp a
    unfold pos
    rw [hg] at hlt ⊢
    rw [hg] at this
    omega
  rcases lt_trichotomy (grp t).val (grp t').val with hg | hg | hg
  · exact absurd h (key _ _ hg).ne
  · have hg' : grp t = grp t' := Fin.ext hg
    rcases lt_trichotomy t t' with ht | ht | ht
    · exact absurd h (step _ _ hg' ht).ne
    · exact ht
    · exact absurd h (step _ _ hg'.symm ht).ne'
  · exact absurd h (key _ _ hg).ne'

/-! ## Natural numbers as extended reals -/

theorem cast_inj {a b : ℕ} : ((a : ℕ) : EReal) = (b : EReal) ↔ a = b := by exact_mod_cast Iff.rfl

theorem cast_lt {a b : ℕ} : ((a : ℕ) : EReal) < (b : EReal) ↔ a < b := by exact_mod_cast Iff.rfl

theorem cast_sub_one {a : ℕ} (h : 1 ≤ a) : ((a : ℕ) : EReal) - 1 = ((a - 1 : ℕ) : EReal) := by
  obtain ⟨b, rfl⟩ := Nat.exists_eq_add_of_le' h
  rw [Nat.add_sub_cancel]
  have : ((b + 1 : ℕ) : EReal) - 1 = (((b : ℝ) + 1 - 1 : ℝ) : EReal) := by push_cast; rfl
  rw [this, add_sub_cancel_right]
  rfl

/-- A sum of zeros and ones counts the ones. -/
theorem sum_ite_card {ι : Type} [Fintype ι] (p : ι → Prop) [DecidablePred p] :
    ∑ i, (if p i then (1 : EReal) else 0) = ((univ.filter p).card : EReal) := by
  rw [← sum_filter, sum_const, nsmul_one]

/-- A sum against the indicator of one index. -/
theorem sum_pick {ι : Type} [Fintype ι] [DecidableEq ι] (p : ι → Prop) [DecidablePred p] (i : ι) (hi : ∀ j, p j ↔ j = i) (f : ι → EReal) :
    ∑ j, (if p j then (1 : EReal) else 0) * f j = f i := by
  rw [sum_eq_single i]
  · rw [if_pos ((hi i).mpr rfl), one_mul]
  · intro j _ hj
    rw [if_neg (fun h => hj ((hi j).mp h)), zero_mul]
  · intro h; exact absurd (mem_univ i) h

end Cert.KernelIdeal.Moe

end
-- ==== Proof.Sort.lean ====
/- The sort of a tile's tokens by group, entry by entry over the extended reals: the counts the body forms from the
   one-hot lanes, the position of each token, and the sorted arrays at a token's position. -/
module

public import proofs.«01_k».proof.Proof.Body
public import proofs.«01_k».proof.Proof.Rank
public import Idealize.ShloMosaic.Lib.Pointwise
public import Idealize.ShloMosaic.Lib.WordCmp

@[expose] public section

set_option maxRecDepth 16384

noncomputable section

namespace Cert.KernelIdeal.Moe

open Idealize.ShloMosaic Cert.KernelIdeal Cert.KernelIdeal.Gen

open Idealize.ShloMosaic.WordCmp

/-- What the routing lanes of a tile hold: lanes 0 … 3 the indicator of the token's group; lanes 4 … 19 the experts' weights,
    finite and zero outside the group. -/
structure Routed (r : Vec Ideal S512x128 .f32) (grp : Fin 512 → Fin 4) : Prop where
  hot : ∀ (t : Fin 512) (l : Fin 128), l.val < 4 → r (ix2 t l) = if l.val = (grp t).val then 1 else 0
  off : ∀ (t : Fin 512) (l : Fin 128), 4 ≤ l.val → l.val < 20 → l.val / 4 ≠ (grp t).val + 1 → r (ix2 t l) = 0
  fin : ∀ (t : Fin 512) (l : Fin 128), 4 ≤ l.val → l.val < 20 → r (ix2 t l) - r (ix2 t l) = 0

theorem select_decide {α : Type} (p : Prop) [Decidable p] (a b : α) : Scalar.select (BitVec.ofBool (decide p)) a b = if p then a else b := by
  by_cases h : p <;> simp [Scalar.select, h]

theorem rt_eq (x1 : Vec Ideal S512x128 .f32) : rt x1 = x1 := by
  funext i
  idx_vars i
  pointwise [rt]

variable {r : Vec Ideal S512x128 .f32} {grp : Fin 512 → Fin 4}

/-- The running count of a group. -/
theorem pay50_eq (h : Routed r grp) (t : Fin 512) (l : Fin 128) : k0_pay50 r (ix2 t l) = (upto grp t l.val : EReal) := by
  pointwise [k0_pay50, k0_pay49]
  have e : ∀ s : Fin 512, Scalar.select (IntOp.cmpi .slt (BitVec.ofNat 32 l.val) 4#32)
      (Scalar.select (IntOp.cmpi .sle (BitVec.ofNat 32 s.val) (BitVec.ofNat 32 t.val)) (r (ix2 s l)) 0) (0 : EReal)
      = if s ≤ t ∧ (grp s).val = l.val then 1 else 0 := by
    intro s
    rw [cmpi_slt_ofNat (by omega) (by norm_num), cmpi_sle_ofNat (by omega) (by omega), select_decide, select_decide]
    by_cases hl : l.val < 4
    · rw [if_pos hl, h.hot s l hl]
      by_cases hs : s.val ≤ t.val
      · rw [if_pos hs]
        have : s ≤ t := hs
        by_cases hg : l.val = (grp s).val
        · rw [if_pos hg, if_pos ⟨this, hg.symm⟩]
        · rw [if_neg hg, if_neg fun hh => hg hh.2.symm]
      · rw [if_neg hs, if_neg fun hh => hs hh.1]
    · rw [if_neg hl, if_neg fun hh => hl (by omega)]
  refine (Finset.sum_congr rfl fun s _ => e s).trans ?_
  exact sum_ite_card _

theorem pay50_out (h : Routed r grp) (t : Fin 512) (l : Fin 128) (hl : 4 ≤ l.val) : k0_pay50 r (ix2 t l) = 0 := by
  rw [pay50_eq h]
  have : upto grp t l.val = 0 := by
    unfold upto
    rw [Finset.card_eq_zero, Finset.filter_eq_empty_iff]
    intro s _ hh
    omega
  rw [this, Nat.cast_zero]

/-- Where a group starts. -/
theorem pay52_eq (h : Routed r grp) (l : Fin 128) (hl : l.val < 4) : k0_pay52 r (ix2 0 l) = (before grp l.val : EReal) := by
  pointwise [k0_pay52, k0_pay51]
  rw [cmpi_sge_ofNat (by omega) (by norm_num), cmpi_sge_ofNat (by omega) (by norm_num), cmpi_sge_ofNat (by omega) (by norm_num),
    select_decide, select_decide, select_decide, pay50_eq h, pay50_eq h, pay50_eq h, upto_last, upto_last, upto_last]
  have b1 : before grp 1 = total grp 0 := by rw [before_succ, before_zero, zero_add]
  have b2 : before grp 2 = total grp 0 + total grp 1 := by rw [before_succ, b1]
  have b3 : before grp 3 = total grp 0 + total grp 1 + total grp 2 := by rw [before_succ, b2]
  obtain ⟨l, hl'⟩ := l
  simp only at hl ⊢
  interval_cases l
  · simp [before_zero]
  · simp [b1]
  · simp [b2, add_comm]
  · simp [b3, add_comm, add_left_comm]
    ac_rfl

/-- Where it ends. -/
theorem pay53_eq (h : Routed r grp) (l : Fin 128) (hl : l.val < 4) : k0_pay53 r (ix2 0 l) = (before grp (l.val + 1) : EReal) := by
  pointwise [k0_pay53, k0_pay51]
  rw [pay52_eq h l hl, before_succ, Nat.cast_add]
  congr 1
  refine Eq.trans ?_ (congrArg Nat.cast (upto_last grp l.val))
  exact pay50_eq h 511 l

/-- The mask of a token's group. -/
theorem pay54_eq (h : Routed r grp) (t : Fin 512) (l : Fin 128) :
    k0_pay54 r (ix2 t l) = BitVec.ofBool (decide (l.val = (grp t).val)) := by
  pointwise [k0_pay54, k0_pay49]
  rw [cmpi_slt_ofNat (by omega) (by norm_num), select_decide]
  by_cases hl : l.val < 4
  · rw [if_pos hl, h.hot t l hl]
    by_cases hg : l.val = (grp t).val <;> simp [hg]
  · have : ¬ l.val = (grp t).val := by omega
    rw [if_neg hl]
    simp [this]

/-- A token's position. -/
theorem pay55_eq (h : Routed r grp) (t : Fin 512) : k0_pay55 (k0_pay50 r) (k0_pay52 r) (k0_pay54 r) (ix2 t 0) = (pos grp t : EReal) := by
  pointwise [k0_pay55]
  have hg : (grp t).val < 128 := by omega
  rw [Finset.sum_eq_single (⟨(grp t).val, hg⟩ : Fin 128)]
  · rw [pay54_eq h, select_decide, if_pos rfl, pay52_eq h _ (by simp), pay50_eq h, ← Nat.cast_add, cast_sub_one]
    · rfl
    · have := upto_pos grp t
      simp only at *
      omega
  · intro l _ hl
    rw [pay54_eq h, select_decide, if_neg fun hh => hl (Fin.ext hh)]
  · intro hh; exact absurd (Finset.mem_univ _) hh

theorem sitofp_ofNat (n : ℕ) (h : n < 2 ^ 31) : (FloatOps.sitofp FTy.f32 (BitVec.ofNat 32 n) : Ideal .f32) = ((n : ℕ) : EReal) := by
  have e : (BitVec.ofNat 32 n).toInt = (n : ℤ) := toInt_ofNat_of_lt h
  show (((BitVec.ofNat 32 n).toInt : ℝ) : EReal) = _
  rw [e]
  norm_cast

/-- The matrix that puts a token back from its position. -/
theorem pay56_eq (h : Routed r grp) (t c : Fin 512) :
    k0_pay56 (iota .tc S512x512 32 [1] iota_S512x512_d1_w32) (k0_pay50 r) (k0_pay52 r) (k0_pay54 r) (ix2 t c) = (if c.val = pos grp t then 1 else 0 : EReal) := by
  pointwise [k0_pay56]
  rw [pay55_eq h, sitofp_ofNat _ (by omega)]
  exact if_congr (cast_inj.trans eq_comm) rfl rfl

/-- The matrix that takes a token to its position. -/
theorem pay57_eq (h : Routed r grp) (c t : Fin 512) :
    k0_pay57 (iota .tc S512x512 32 [0] iota_S512x512_d0_w32) (k0_pay50 r) (k0_pay52 r) (k0_pay54 r) (ix2 c t) = (if c.val = pos grp t then 1 else 0 : EReal) := by
  pointwise [k0_pay57]
  rw [pay55_eq h, sitofp_ofNat _ (by omega)]
  exact if_congr cast_inj rfl rfl

theorem pos_iff (t s : Fin 512) : (⟨pos grp t, pos_lt grp t⟩ : Fin 512).val = pos grp s ↔ s = t :=
  ⟨fun hh => (pos_inj grp hh).symm, fun hh => by rw [hh]⟩

/-- The sorted tokens hold token `t` at its position. -/
theorem sortedH_eq (x0 : Vec Ideal S512x1024 .bf16) (h : Routed r grp) (t : Fin 512) (d : Fin 1024) :
    sortedH x0 r (ix2 ⟨pos grp t, pos_lt grp t⟩ d) = x0 (ix2 t d) := by
  unfold sortedH
  rw [rt_eq]
  pointwise [k0_pay58]
  refine (Finset.sum_congr rfl fun s _ => congrArg (· * _) (pay57_eq h _ s)).trans ?_
  exact sum_pick _ t (fun s => pos_iff t s) _

/-- The sorted routing lanes hold token `t`'s weights at its position. -/
theorem sortedR_eq (h : Routed r grp) (t : Fin 512) (l : Fin 128) (h4 : 4 ≤ l.val) (h20 : l.val < 20) :
    sortedR r (ix2 ⟨pos grp t, pos_lt grp t⟩ l) = r (ix2 t l) := by
  unfold sortedR
  rw [rt_eq]
  pointwise [k0_pay59]
  refine (congrArg₂ (· + ·) ((Finset.sum_congr rfl fun s _ => congrArg (· * _) (pay57_eq h _ s)).trans (sum_pick _ t (fun s => pos_iff t s) _))
    ((Finset.sum_congr rfl fun s _ => congrArg (· * _) (pay57_eq h _ s)).trans (sum_pick _ t (fun s => pos_iff t s) _))).trans ?_
  rw [h.fin t l h4 h20, add_zero]

end Cert.KernelIdeal.Moe

end
-- ==== Proof.Experts.lean ====
/- The experts' blocks of a tile, entry by entry over the extended reals: four experts on a block of sorted rows, the
   guards of the sixteen blocks, and the sorted result at a token's position. -/
module

public import proofs.«01_k».proof.Proof.Sort

@[expose] public section

set_option maxRecDepth 16384

noncomputable section

namespace Cert.KernelIdeal.Moe

open Idealize.ShloMosaic Cert.KernelIdeal Cert.KernelIdeal.Gen

open Idealize.ShloMosaic.WordCmp

/-- A token's projection by one expert's matrix. -/
def proj (h : Fin 1024 → EReal) (W : Vec Ideal S16x1024x256 .bf16) (e : Fin 16) (f : Fin 256) : EReal := ∑ k : Fin 1024, h k * W (ix3 e k f)

/-- A token's hidden entry in one expert: the gate's silu times the up projection. -/
def hid (h : Fin 1024 → EReal) (wg wu : Vec Ideal S16x1024x256 .bf16) (e : Fin 16) (f : Fin 256) : EReal :=
  proj h wg e f * Ideal.logistic (proj h wg e f) * proj h wu e f

/-- A hidden entry weighted by one of the token's lanes. -/
def weighted (h : Fin 1024 → EReal) (w : Fin 128 → EReal) (wg wu : Vec Ideal S16x1024x256 .bf16) (e : Fin 16) (f : Fin 256) (l : Fin 128) : EReal :=
  hid h wg wu e f * w l

theorem weighted_congr (h : Fin 1024 → EReal) (w : Fin 128 → EReal) (wg wu : Vec Ideal S16x1024x256 .bf16) {e e' : Fin 16} {f f' : Fin 256} {l l' : Fin 128}
    (he : e.val = e'.val) (hf : f.val = f'.val) (hl : l.val = l'.val) : weighted h w wg wu e f l = weighted h w wg wu e' f' l' := by
  rw [Fin.ext he, Fin.ext hf, Fin.ext hl]

/-- What the four experts of group `g` add to a token's entry `d`. -/
def mix (h : Fin 1024 → EReal) (w : Fin 128 → EReal) (wg wu : Vec Ideal S16x1024x256 .bf16) (wd : Vec Ideal S4x1024x1024 .bf16) (g : Fin 4) (d : Fin 1024) : EReal :=
  ∑ c : Fin 1024, weighted h w wg wu ⟨4 * g.val + c.val / 256, by omega⟩ ⟨c.val % 256, Nat.mod_lt _ (by norm_num)⟩ ⟨4 + (4 * g.val + c.val / 256), by omega⟩ * wd (ix3 g c d)

/-- A group whose weights are zero adds nothing. -/
theorem mix_zero (h : Fin 1024 → EReal) (w : Fin 128 → EReal) (wg wu : Vec Ideal S16x1024x256 .bf16) (wd : Vec Ideal S4x1024x1024 .bf16) (g : Fin 4) (d : Fin 1024)
    (hw : ∀ l : Fin 128, 4 ≤ l.val → l.val < 20 → l.val / 4 = g.val + 1 → w l = 0) : mix h w wg wu wd g d = 0 := by
  refine Finset.sum_eq_zero fun c _ => ?_
  unfold weighted
  rw [hw _ (by simp) (by simp only; omega) (by simp only; omega), mul_zero, zero_mul]

theorem experts0_eq (hb : Vec Ideal S128x1024 .bf16) (rb : Vec Ideal S128x128 .f32) (x3 x4 : Vec Ideal S16x1024x256 .bf16)
    (x5 : Vec Ideal S4x1024x1024 .bf16) (yb : Vec Ideal S128x1024 .f32) (t : Fin 128) (d : Fin 1024) :
    experts0 hb rb x3 x4 x5 yb (ix2 t d) = yb (ix2 t d) + mix (fun k => hb (ix2 t k)) (fun l => rb (ix2 t l)) x3 x4 x5 0 d := by
  pointwise [experts0, k0_pay63, k0_pay1, k0_pay2, k0_pay3]
  refine congrArg (yb (ix2 t d) + ·) (Finset.sum_congr rfl fun c _ => congrArg (· * x5 (ix3 0 c d)) ?_)
  by_cases h0 : c.val < 256
  · exact (dif_pos h0).trans (weighted_congr (fun k => hb (ix2 t k)) (fun l => rb (ix2 t l)) x3 x4 (e := 0) (f := ⟨c.val, by omega⟩) (l := 4)
          (e' := ⟨4 * (0 : Fin 4).val + c.val / 256, by omega⟩) (f' := ⟨c.val % 256, Nat.mod_lt _ (by norm_num)⟩) (l' := ⟨4 + (4 * (0 : Fin 4).val + c.val / 256), by omega⟩)
          (show 0 = 4 * 0 + c.val / 256 by omega) (show c.val = c.val % 256 by omega) (show 4 = 4 + (4 * 0 + c.val / 256) by omega))
  by_cases h1 : c.val - 256 < 256
  · exact (dif_neg h0).trans ((dif_pos h1).trans (weighted_congr (fun k => hb (ix2 t k)) (fun l => rb (ix2 t l)) x3 x4 (e := 1) (f := ⟨c.val - 256, by omega⟩) (l := 5)
          (e' := ⟨4 * (0 : Fin 4).val + c.val / 256, by omega⟩) (f' := ⟨c.val % 256, Nat.mod_lt _ (by norm_num)⟩) (l' := ⟨4 + (4 * (0 : Fin 4).val + c.val / 256), by omega⟩)
          (show 1 = 4 * 0 + c.val / 256 by omega) (show c.val - 256 = c.val % 256 by omega) (show 5 = 4 + (4 * 0 + c.val / 256) by omega)))
  by_cases h2 : c.val - 256 - 256 < 256
  · exact (dif_neg h0).trans ((dif_neg h1).trans ((dif_pos h2).trans (weighted_congr (fun k => hb (ix2 t k)) (fun l => rb (ix2 t l)) x3 x4 (e := 2) (f := ⟨c.val - 256 - 256, by omega⟩) (l := 6)
          (e' := ⟨4 * (0 : Fin 4).val + c.val / 256, by omega⟩) (f' := ⟨c.val % 256, Nat.mod_lt _ (by norm_num)⟩) (l' := ⟨4 + (4 * (0 : Fin 4).val + c.val / 256), by omega⟩)
          (show 2 = 4 * 0 + c.val / 256 by omega) (show c.val - 256 - 256 = c.val % 256 by omega) (show 6 = 4 + (4 * 0 + c.val / 256) by omega))))
  exact (dif_neg h0).trans ((dif_neg h1).trans ((dif_neg h2).trans (weighted_congr (fun k => hb (ix2 t k)) (fun l => rb (ix2 t l)) x3 x4 (e := 3) (f := ⟨c.val - 256 - 256 - 256, by omega⟩) (l := 7)
        (e' := ⟨4 * (0 : Fin 4).val + c.val / 256, by omega⟩) (f' := ⟨c.val % 256, Nat.mod_lt _ (by norm_num)⟩) (l' := ⟨4 + (4 * (0 : Fin 4).val + c.val / 256), by omega⟩)
        (show 3 = 4 * 0 + c.val / 256 by omega) (show c.val - 256 - 256 - 256 = c.val % 256 by omega) (show 7 = 4 + (4 * 0 + c.val / 256) by omega))))

theorem experts1_eq (hb : Vec Ideal S128x1024 .bf16) (rb : Vec Ideal S128x128 .f32) (x3 x4 : Vec Ideal S16x1024x256 .bf16)
    (x5 : Vec Ideal S4x1024x1024 .bf16) (yb : Vec Ideal S128x1024 .f32) (t : Fin 128) (d : Fin 1024) :
    experts1 hb rb x3 x4 x5 yb (ix2 t d) = yb (ix2 t d) + mix (fun k => hb (ix2 t k)) (fun l => rb (ix2 t l)) x3 x4 x5 1 d := by
  pointwise [experts1, k0_pay69, k0_pay13, k0_pay14, k0_pay15]
  refine congrArg (yb (ix2 t d) + ·) (Finset.sum_congr rfl fun c _ => congrArg (· * x5 (ix3 1 c d)) ?_)
  by_cases h0 : c.val < 256
  · exact (dif_pos h0).trans (weighted_congr (fun k => hb (ix2 t k)) (fun l => rb (ix2 t l)) x3 x4 (e := 4) (f := ⟨c.val, by omega⟩) (l := 8)
          (e' := ⟨4 * (1 : Fin 4).val + c.val / 256, by omega⟩) (f' := ⟨c.val % 256, Nat.mod_lt _ (by norm_num)⟩) (l' := ⟨4 + (4 * (1 : Fin 4).val + c.val / 256), by omega⟩)
          (show 4 = 4 * 1 + c.val / 256 by omega) (show c.val = c.val % 256 by omega) (show 8 = 4 + (4 * 1 + c.val / 256) by omega))
  by_cases h1 : c.val - 256 < 256
  · exact (dif_neg h0).trans ((dif_pos h1).trans (weighted_congr (fun k => hb (ix2 t k)) (fun l => rb (ix2 t l)) x3 x4 (e := 5) (f := ⟨c.val - 256, by omega⟩) (l := 9)
          (e' := ⟨4 * (1 : Fin 4).val + c.val / 256, by omega⟩) (f' := ⟨c.val % 256, Nat.mod_lt _ (by norm_num)⟩) (l' := ⟨4 + (4 * (1 : Fin 4).val + c.val / 256), by omega⟩)
          (show 5 = 4 * 1 + c.val / 256 by omega) (show c.val - 256 = c.val % 256 by omega) (show 9 = 4 + (4 * 1 + c.val / 256) by omega)))
  by_cases h2 : c.val - 256 - 256 < 256
  · exact (dif_neg h0).trans ((dif_neg h1).trans ((dif_pos h2).trans (weighted_congr (fun k => hb (ix2 t k)) (fun l => rb (ix2 t l)) x3 x4 (e := 6) (f := ⟨c.val - 256 - 256, by omega⟩) (l := 10)
          (e' := ⟨4 * (1 : Fin 4).val + c.val / 256, by omega⟩) (f' := ⟨c.val % 256, Nat.mod_lt _ (by norm_num)⟩) (l' := ⟨4 + (4 * (1 : Fin 4).val + c.val / 256), by omega⟩)
          (show 6 = 4 * 1 + c.val / 256 by omega) (show c.val - 256 - 256 = c.val % 256 by omega) (show 10 = 4 + (4 * 1 + c.val / 256) by omega))))
  exact (dif_neg h0).trans ((dif_neg h1).trans ((dif_neg h2).trans (weighted_congr (fun k => hb (ix2 t k)) (fun l => rb (ix2 t l)) x3 x4 (e := 7) (f := ⟨c.val - 256 - 256 - 256, by omega⟩) (l := 11)
        (e' := ⟨4 * (1 : Fin 4).val + c.val / 256, by omega⟩) (f' := ⟨c.val % 256, Nat.mod_lt _ (by norm_num)⟩) (l' := ⟨4 + (4 * (1 : Fin 4).val + c.val / 256), by omega⟩)
        (show 7 = 4 * 1 + c.val / 256 by omega) (show c.val - 256 - 256 - 256 = c.val % 256 by omega) (show 11 = 4 + (4 * 1 + c.val / 256) by omega))))

theorem experts2_eq (hb : Vec Ideal S128x1024 .bf16) (rb : Vec Ideal S128x128 .f32) (x3 x4 : Vec Ideal S16x1024x256 .bf16)
    (x5 : Vec Ideal S4x1024x1024 .bf16) (yb : Vec Ideal S128x1024 .f32) (t : Fin 128) (d : Fin 1024) :
    experts2 hb rb x3 x4 x5 yb (ix2 t d) = yb (ix2 t d) + mix (fun k => hb (ix2 t k)) (fun l => rb (ix2 t l)) x3 x4 x5 2 d := by
  pointwise [experts2, k0_pay75, k0_pay25, k0_pay26, k0_pay27]
  refine congrArg (yb (ix2 t d) + ·) (Finset.sum_congr rfl fun c _ => congrArg (· * x5 (ix3 2 c d)) ?_)
  by_cases h0 : c.val < 256
  · exact (dif_pos h0).trans (weighted_congr (fun k => hb (ix2 t k)) (fun l => rb (ix2 t l)) x3 x4 (e := 8) (f := ⟨c.val, by omega⟩) (l := 12)
          (e' := ⟨4 * (2 : Fin 4).val + c.val / 256, by omega⟩) (f' := ⟨c.val % 256, Nat.mod_lt _ (by norm_num)⟩) (l' := ⟨4 + (4 * (2 : Fin 4).val + c.val / 256), by omega⟩)
          (show 8 = 4 * 2 + c.val / 256 by omega) (show c.val = c.val % 256 by omega) (show 12 = 4 + (4 * 2 + c.val / 256) by omega))
  by_cases h1 : c.val - 256 < 256
  · exact (dif_neg h0).trans ((dif_pos h1).trans (weighted_congr (fun k => hb (ix2 t k)) (fun l => rb (ix2 t l)) x3 x4 (e := 9) (f := ⟨c.val - 256, by omega⟩) (l := 13)
          (e' := ⟨4 * (2 : Fin 4).val + c.val / 256, by omega⟩) (f' := ⟨c.val % 256, Nat.mod_lt _ (by norm_num)⟩) (l' := ⟨4 + (4 * (2 : Fin 4).val + c.val / 256), by omega⟩)
          (show 9 = 4 * 2 + c.val / 256 by omega) (show c.val - 256 = c.val % 256 by omega) (show 13 = 4 + (4 * 2 + c.val / 256) by omega)))
  by_cases h2 : c.val - 256 - 256 < 256
  · exact (dif_neg h0).trans ((dif_neg h1).trans ((dif_pos h2).trans (weighted_congr (fun k => hb (ix2 t k)) (fun l => rb (ix2 t l)) x3 x4 (e := 10) (f := ⟨c.val - 256 - 256, by omega⟩) (l := 14)
          (e' := ⟨4 * (2 : Fin 4).val + c.val / 256, by omega⟩) (f' := ⟨c.val % 256, Nat.mod_lt _ (by norm_num)⟩) (l' := ⟨4 + (4 * (2 : Fin 4).val + c.val / 256), by omega⟩)
          (show 10 = 4 * 2 + c.val / 256 by omega) (show c.val - 256 - 256 = c.val % 256 by omega) (show 14 = 4 + (4 * 2 + c.val / 256) by omega))))
  exact (dif_neg h0).trans ((dif_neg h1).trans ((dif_neg h2).trans (weighted_congr (fun k => hb (ix2 t k)) (fun l => rb (ix2 t l)) x3 x4 (e := 11) (f := ⟨c.val - 256 - 256 - 256, by omega⟩) (l := 15)
        (e' := ⟨4 * (2 : Fin 4).val + c.val / 256, by omega⟩) (f' := ⟨c.val % 256, Nat.mod_lt _ (by norm_num)⟩) (l' := ⟨4 + (4 * (2 : Fin 4).val + c.val / 256), by omega⟩)
        (show 11 = 4 * 2 + c.val / 256 by omega) (show c.val - 256 - 256 - 256 = c.val % 256 by omega) (show 15 = 4 + (4 * 2 + c.val / 256) by omega))))

theorem experts3_eq (hb : Vec Ideal S128x1024 .bf16) (rb : Vec Ideal S128x128 .f32) (x3 x4 : Vec Ideal S16x1024x256 .bf16)
    (x5 : Vec Ideal S4x1024x1024 .bf16) (yb : Vec Ideal S128x1024 .f32) (t : Fin 128) (d : Fin 1024) :
    experts3 hb rb x3 x4 x5 yb (ix2 t d) = yb (ix2 t d) + mix (fun k => hb (ix2 t k)) (fun l => rb (ix2 t l)) x3 x4 x5 3 d := by
  pointwise [experts3, k0_pay81, k0_pay37, k0_pay38, k0_pay39]
  refine congrArg (yb (ix2 t d) + ·) (Finset.sum_congr rfl fun c _ => congrArg (· * x5 (ix3 3 c d)) ?_)
  by_cases h0 : c.val < 256
  · exact (dif_pos h0).trans (weighted_congr (fun k => hb (ix2 t k)) (fun l => rb (ix2 t l)) x3 x4 (e := 12) (f := ⟨c.val, by omega⟩) (l := 16)
          (e' := ⟨4 * (3 : Fin 4).val + c.val / 256, by omega⟩) (f' := ⟨c.val % 256, Nat.mod_lt _ (by norm_num)⟩) (l' := ⟨4 + (4 * (3 : Fin 4).val + c.val / 256), by omega⟩)
          (show 12 = 4 * 3 + c.val / 256 by omega) (show c.val = c.val % 256 by omega) (show 16 = 4 + (4 * 3 + c.val / 256) by omega))
  by_cases h1 : c.val - 256 < 256
  · exact (dif_neg h0).trans ((dif_pos h1).trans (weighted_congr (fun k => hb (ix2 t k)) (fun l => rb (ix2 t l)) x3 x4 (e := 13) (f := ⟨c.val - 256, by omega⟩) (l := 17)
          (e' := ⟨4 * (3 : Fin 4).val + c.val / 256, by omega⟩) (f' := ⟨c.val % 256, Nat.mod_lt _ (by norm_num)⟩) (l' := ⟨4 + (4 * (3 : Fin 4).val + c.val / 256), by omega⟩)
          (show 13 = 4 * 3 + c.val / 256 by omega) (show c.val - 256 = c.val % 256 by omega) (show 17 = 4 + (4 * 3 + c.val / 256) by omega)))
  by_cases h2 : c.val - 256 - 256 < 256
  · exact (dif_neg h0).trans ((dif_neg h1).trans ((dif_pos h2).trans (weighted_congr (fun k => hb (ix2 t k)) (fun l => rb (ix2 t l)) x3 x4 (e := 14) (f := ⟨c.val - 256 - 256, by omega⟩) (l := 18)
          (e' := ⟨4 * (3 : Fin 4).val + c.val / 256, by omega⟩) (f' := ⟨c.val % 256, Nat.mod_lt _ (by norm_num)⟩) (l' := ⟨4 + (4 * (3 : Fin 4).val + c.val / 256), by omega⟩)
          (show 14 = 4 * 3 + c.val / 256 by omega) (show c.val - 256 - 256 = c.val % 256 by omega) (show 18 = 4 + (4 * 3 + c.val / 256) by omega))))
  exact (dif_neg h0).trans ((dif_neg h1).trans ((dif_neg h2).trans (weighted_congr (fun k => hb (ix2 t k)) (fun l => rb (ix2 t l)) x3 x4 (e := 15) (f := ⟨c.val - 256 - 256 - 256, by omega⟩) (l := 19)
        (e' := ⟨4 * (3 : Fin 4).val + c.val / 256, by omega⟩) (f' := ⟨c.val % 256, Nat.mod_lt _ (by norm_num)⟩) (l' := ⟨4 + (4 * (3 : Fin 4).val + c.val / 256), by omega⟩)
        (show 15 = 4 * 3 + c.val / 256 by omega) (show c.val - 256 - 256 - 256 = c.val % 256 by omega) (show 19 = 4 + (4 * 3 + c.val / 256) by omega))))

/-! ## The guards -/

theorem live_iff (a b : Ideal .f32) (hi lo : BitVec 32) :
    live (F := Ideal) a b hi lo ↔ (a : EReal) < Scalar.ofBits (F := Ideal) .f32 hi ∧ (Scalar.ofBits (F := Ideal) .f32 lo : EReal) < b := by
  unfold live
  pointwise []
  by_cases h1 : a < Ideal.ofBits FTy.f32 hi <;> by_cases h2 : Ideal.ofBits FTy.f32 lo < b <;>
    (simp [h1, h2, Scalar.cmpi, Scalar.extui, Scalar.andi, IntOp.cmpi]; try decide)

theorem pay61_eq (v : FVec Ideal S1x128 .f32) : k0_pay61 v = v (ix2 0 0) := by
  pointwise [k0_pay61]

theorem pay62_eq (v : FVec Ideal S1x128 .f32) : k0_pay62 v = v (ix2 0 0) := by
  pointwise [k0_pay62]

theorem pay67_eq (v : FVec Ideal S1x128 .f32) : k0_pay67 v = v (ix2 0 1) := by
  pointwise [k0_pay67]

theorem pay68_eq (v : FVec Ideal S1x128 .f32) : k0_pay68 v = v (ix2 0 1) := by
  pointwise [k0_pay68]

theorem pay73_eq (v : FVec Ideal S1x128 .f32) : k0_pay73 v = v (ix2 0 2) := by
  pointwise [k0_pay73]

theorem pay74_eq (v : FVec Ideal S1x128 .f32) : k0_pay74 v = v (ix2 0 2) := by
  pointwise [k0_pay74]

theorem pay79_eq (v : FVec Ideal S1x128 .f32) : k0_pay79 v = v (ix2 0 3) := by
  pointwise [k0_pay79]

theorem pay80_eq (v : FVec Ideal S1x128 .f32) : k0_pay80 v = v (ix2 0 3) := by
  pointwise [k0_pay80]

theorem hi0_eq : (Scalar.ofBits (F := Ideal) .f32 0x43000000#32 : EReal) = ((128 : ℕ) : EReal) := by
  show Ideal.ofBits .f32 0x43000000#32 = (((128 : ℕ) : ℝ) : EReal)
  simp [Ideal.ofBits, Ideal.ieee, -EReal.coe_mul]; norm_num

theorem lo0_eq : (Scalar.ofBits (F := Ideal) .f32 0x00000000#32 : EReal) = ((0 : ℕ) : EReal) := by
  show Ideal.ofBits .f32 0x00000000#32 = (((0 : ℕ) : ℝ) : EReal)
  simp [Ideal.ofBits, Ideal.ieee, -EReal.coe_mul]

theorem hi1_eq : (Scalar.ofBits (F := Ideal) .f32 0x43800000#32 : EReal) = ((256 : ℕ) : EReal) := by
  show Ideal.ofBits .f32 0x43800000#32 = (((256 : ℕ) : ℝ) : EReal)
  simp [Ideal.ofBits, Ideal.ieee, -EReal.coe_mul]; norm_num

theorem lo1_eq : (Scalar.ofBits (F := Ideal) .f32 0x43000000#32 : EReal) = ((128 : ℕ) : EReal) := by
  show Ideal.ofBits .f32 0x43000000#32 = (((128 : ℕ) : ℝ) : EReal)
  simp [Ideal.ofBits, Ideal.ieee, -EReal.coe_mul]; norm_num

theorem hi2_eq : (Scalar.ofBits (F := Ideal) .f32 0x43C00000#32 : EReal) = ((384 : ℕ) : EReal) := by
  show Ideal.ofBits .f32 0x43C00000#32 = (((384 : ℕ) : ℝ) : EReal)
  simp [Ideal.ofBits, Ideal.ieee, -EReal.coe_mul]; norm_num

theorem lo2_eq : (Scalar.ofBits (F := Ideal) .f32 0x43800000#32 : EReal) = ((256 : ℕ) : EReal) := by
  show Ideal.ofBits .f32 0x43800000#32 = (((256 : ℕ) : ℝ) : EReal)
  simp [Ideal.ofBits, Ideal.ieee, -EReal.coe_mul]; norm_num

theorem hi3_eq : (Scalar.ofBits (F := Ideal) .f32 0x44000000#32 : EReal) = ((512 : ℕ) : EReal) := by
  show Ideal.ofBits .f32 0x44000000#32 = (((512 : ℕ) : ℝ) : EReal)
  simp [Ideal.ofBits, Ideal.ieee, -EReal.coe_mul]; norm_num

theorem lo3_eq : (Scalar.ofBits (F := Ideal) .f32 0x43C00000#32 : EReal) = ((384 : ℕ) : EReal) := by
  show Ideal.ofBits .f32 0x43C00000#32 = (((384 : ℕ) : ℝ) : EReal)
  simp [Ideal.ofBits, Ideal.ieee, -EReal.coe_mul]; norm_num

/-! ## The sixteen blocks -/

/-- A put over 128 whole rows, at an entry. -/
theorem put_rows (y : Vec Ideal S512x1024 .f32) (z : Vec Ideal S128x1024 .f32) (b : ℕ) (p : Fin 512) (d : Fin 1024) :
    VecWindow.put y ![b, 0] S128x1024.size z (ix2 p d)
      = if h : b ≤ p.val ∧ p.val < b + 128 then z (ix2 ⟨p.val - b, by omega⟩ d) else y (ix2 p d) := by
  unfold VecWindow.put
  by_cases h : b ≤ p.val ∧ p.val < b + 128
  · rw [dif_pos h]
    have h' : ∀ a : Fin S512x1024.rank, (![b, 0] : Fin 2 → ℕ) a ≤ ((ix2 p d : S512x1024.Idx) a).val ∧ ((ix2 p d : S512x1024.Idx) a).val < (![b, 0] : Fin 2 → ℕ) a + S128x1024.size a := by
      intro a
      fin_cases a
      · exact h
      · exact ⟨Nat.zero_le _, by show d.val < 0 + 1024; omega⟩
    refine (dif_pos h').trans (congrArg z (funext fun a => ?_))
    fin_cases a
    · rfl
    · rfl
  · rw [dif_neg h]
    exact dif_neg fun h' => h (h' 0)

theorem ld_rowsH (x : Vec Ideal S512x1024 .bf16) (b : ℕ) (inb) (p : Fin 512) (hb : b ≤ p.val) (hp : p.val - b < 128) (k : Fin 1024) :
    View.ld x (Rect.unit (s := S512x1024) ![b, 0] S128x1024.size inb) (ix2 (⟨p.val - b, hp⟩ : Fin 128) k) = x (ix2 p k) := by
  refine congrArg x (funext fun a => Fin.ext ?_)
  fin_cases a
  · show b + 1 * (p.val - b) = p.val
    omega
  · show 0 + 1 * k.val = k.val
    omega

theorem ld_rowsY (x : Vec Ideal S512x1024 .f32) (b : ℕ) (inb) (p : Fin 512) (hb : b ≤ p.val) (hp : p.val - b < 128) (k : Fin 1024) :
    View.ld x (Rect.unit (s := S512x1024) ![b, 0] S128x1024.size inb) (ix2 (⟨p.val - b, hp⟩ : Fin 128) k) = x (ix2 p k) := by
  refine congrArg x (funext fun a => Fin.ext ?_)
  fin_cases a
  · show b + 1 * (p.val - b) = p.val
    omega
  · show 0 + 1 * k.val = k.val
    omega

theorem ld_rowsR (x : Vec Ideal S512x128 .f32) (b : ℕ) (inb) (p : Fin 512) (hb : b ≤ p.val) (hp : p.val - b < 128) (k : Fin 128) :
    View.ld x (Rect.unit (s := S512x128) ![b, 0] S128x128.size inb) (ix2 (⟨p.val - b, hp⟩ : Fin 128) k) = x (ix2 p k) := by
  refine congrArg x (funext fun a => Fin.ext ?_)
  fin_cases a
  · show b + 1 * (p.val - b) = p.val
    omega
  · show 0 + 1 * k.val = k.val
    omega

theorem step1_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 0) = (st : EReal)) (h38 : v38 (ix2 0 0) = (en : EReal)) :
    step1 hs rs v37 v38 x3 x4 x5 y (ix2 p d) = y (ix2 p d) + if st < 128 ∧ 0 < en ∧ 0 ≤ p.val ∧ p.val < 0 + 128
      then mix (fun k => hs (ix2 p k)) (fun l => rs (ix2 p l)) x3 x4 x5 0 d else 0 := by
  have hl : live (F := Ideal) (k0_pay61 v37) (k0_pay62 v38) 0x43000000#32 0x00000000#32 ↔ st < 128 ∧ 0 < en := by
    rw [live_iff, pay61_eq, pay62_eq, h37, h38, hi0_eq, lo0_eq, cast_lt, cast_lt]
  unfold step1
  by_cases h : st < 128 ∧ 0 < en
  · rw [if_pos (hl.mpr h), put_rows]
    by_cases hp : 0 ≤ p.val ∧ p.val < 0 + 128
    · rw [dif_pos hp, if_pos ⟨h.1, h.2, hp⟩, experts0_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step2_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 0) = (st : EReal)) (h38 : v38 (ix2 0 0) = (en : EReal)) :
    step2 hs rs v37 v38 x3 x4 x5 y (ix2 p d) = y (ix2 p d) + if st < 256 ∧ 128 < en ∧ 128 ≤ p.val ∧ p.val < 128 + 128
      then mix (fun k => hs (ix2 p k)) (fun l => rs (ix2 p l)) x3 x4 x5 0 d else 0 := by
  have hl : live (F := Ideal) (k0_pay61 v37) (k0_pay62 v38) 0x43800000#32 0x43000000#32 ↔ st < 256 ∧ 128 < en := by
    rw [live_iff, pay61_eq, pay62_eq, h37, h38, hi1_eq, lo1_eq, cast_lt, cast_lt]
  unfold step2
  by_cases h : st < 256 ∧ 128 < en
  · rw [if_pos (hl.mpr h), put_rows]
    by_cases hp : 128 ≤ p.val ∧ p.val < 128 + 128
    · rw [dif_pos hp, if_pos ⟨h.1, h.2, hp⟩, experts0_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step3_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 0) = (st : EReal)) (h38 : v38 (ix2 0 0) = (en : EReal)) :
    step3 hs rs v37 v38 x3 x4 x5 y (ix2 p d) = y (ix2 p d) + if st < 384 ∧ 256 < en ∧ 256 ≤ p.val ∧ p.val < 256 + 128
      then mix (fun k => hs (ix2 p k)) (fun l => rs (ix2 p l)) x3 x4 x5 0 d else 0 := by
  have hl : live (F := Ideal) (k0_pay61 v37) (k0_pay62 v38) 0x43C00000#32 0x43800000#32 ↔ st < 384 ∧ 256 < en := by
    rw [live_iff, pay61_eq, pay62_eq, h37, h38, hi2_eq, lo2_eq, cast_lt, cast_lt]
  unfold step3
  by_cases h : st < 384 ∧ 256 < en
  · rw [if_pos (hl.mpr h), put_rows]
    by_cases hp : 256 ≤ p.val ∧ p.val < 256 + 128
    · rw [dif_pos hp, if_pos ⟨h.1, h.2, hp⟩, experts0_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step4_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 0) = (st : EReal)) (h38 : v38 (ix2 0 0) = (en : EReal)) :
    step4 hs rs v37 v38 x3 x4 x5 y (ix2 p d) = y (ix2 p d) + if st < 512 ∧ 384 < en ∧ 384 ≤ p.val ∧ p.val < 384 + 128
      then mix (fun k => hs (ix2 p k)) (fun l => rs (ix2 p l)) x3 x4 x5 0 d else 0 := by
  have hl : live (F := Ideal) (k0_pay61 v37) (k0_pay62 v38) 0x44000000#32 0x43C00000#32 ↔ st < 512 ∧ 384 < en := by
    rw [live_iff, pay61_eq, pay62_eq, h37, h38, hi3_eq, lo3_eq, cast_lt, cast_lt]
  unfold step4
  by_cases h : st < 512 ∧ 384 < en
  · rw [if_pos (hl.mpr h), put_rows]
    by_cases hp : 384 ≤ p.val ∧ p.val < 384 + 128
    · rw [dif_pos hp, if_pos ⟨h.1, h.2, hp⟩, experts0_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step5_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 1) = (st : EReal)) (h38 : v38 (ix2 0 1) = (en : EReal)) :
    step5 hs rs v37 v38 x3 x4 x5 y (ix2 p d) = y (ix2 p d) + if st < 128 ∧ 0 < en ∧ 0 ≤ p.val ∧ p.val < 0 + 128
      then mix (fun k => hs (ix2 p k)) (fun l => rs (ix2 p l)) x3 x4 x5 1 d else 0 := by
  have hl : live (F := Ideal) (k0_pay67 v37) (k0_pay68 v38) 0x43000000#32 0x00000000#32 ↔ st < 128 ∧ 0 < en := by
    rw [live_iff, pay67_eq, pay68_eq, h37, h38, hi0_eq, lo0_eq, cast_lt, cast_lt]
  unfold step5
  by_cases h : st < 128 ∧ 0 < en
  · rw [if_pos (hl.mpr h), put_rows]
    by_cases hp : 0 ≤ p.val ∧ p.val < 0 + 128
    · rw [dif_pos hp, if_pos ⟨h.1, h.2, hp⟩, experts1_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step6_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 1) = (st : EReal)) (h38 : v38 (ix2 0 1) = (en : EReal)) :
    step6 hs rs v37 v38 x3 x4 x5 y (ix2 p d) = y (ix2 p d) + if st < 256 ∧ 128 < en ∧ 128 ≤ p.val ∧ p.val < 128 + 128
      then mix (fun k => hs (ix2 p k)) (fun l => rs (ix2 p l)) x3 x4 x5 1 d else 0 := by
  have hl : live (F := Ideal) (k0_pay67 v37) (k0_pay68 v38) 0x43800000#32 0x43000000#32 ↔ st < 256 ∧ 128 < en := by
    rw [live_iff, pay67_eq, pay68_eq, h37, h38, hi1_eq, lo1_eq, cast_lt, cast_lt]
  unfold step6
  by_cases h : st < 256 ∧ 128 < en
  · rw [if_pos (hl.mpr h), put_rows]
    by_cases hp : 128 ≤ p.val ∧ p.val < 128 + 128
    · rw [dif_pos hp, if_pos ⟨h.1, h.2, hp⟩, experts1_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step7_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 1) = (st : EReal)) (h38 : v38 (ix2 0 1) = (en : EReal)) :
    step7 hs rs v37 v38 x3 x4 x5 y (ix2 p d) = y (ix2 p d) + if st < 384 ∧ 256 < en ∧ 256 ≤ p.val ∧ p.val < 256 + 128
      then mix (fun k => hs (ix2 p k)) (fun l => rs (ix2 p l)) x3 x4 x5 1 d else 0 := by
  have hl : live (F := Ideal) (k0_pay67 v37) (k0_pay68 v38) 0x43C00000#32 0x43800000#32 ↔ st < 384 ∧ 256 < en := by
    rw [live_iff, pay67_eq, pay68_eq, h37, h38, hi2_eq, lo2_eq, cast_lt, cast_lt]
  unfold step7
  by_cases h : st < 384 ∧ 256 < en
  · rw [if_pos (hl.mpr h), put_rows]
    by_cases hp : 256 ≤ p.val ∧ p.val < 256 + 128
    · rw [dif_pos hp, if_pos ⟨h.1, h.2, hp⟩, experts1_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step8_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 1) = (st : EReal)) (h38 : v38 (ix2 0 1) = (en : EReal)) :
    step8 hs rs v37 v38 x3 x4 x5 y (ix2 p d) = y (ix2 p d) + if st < 512 ∧ 384 < en ∧ 384 ≤ p.val ∧ p.val < 384 + 128
      then mix (fun k => hs (ix2 p k)) (fun l => rs (ix2 p l)) x3 x4 x5 1 d else 0 := by
  have hl : live (F := Ideal) (k0_pay67 v37) (k0_pay68 v38) 0x44000000#32 0x43C00000#32 ↔ st < 512 ∧ 384 < en := by
    rw [live_iff, pay67_eq, pay68_eq, h37, h38, hi3_eq, lo3_eq, cast_lt, cast_lt]
  unfold step8
  by_cases h : st < 512 ∧ 384 < en
  · rw [if_pos (hl.mpr h), put_rows]
    by_cases hp : 384 ≤ p.val ∧ p.val < 384 + 128
    · rw [dif_pos hp, if_pos ⟨h.1, h.2, hp⟩, experts1_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step9_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 2) = (st : EReal)) (h38 : v38 (ix2 0 2) = (en : EReal)) :
    step9 hs rs v37 v38 x3 x4 x5 y (ix2 p d) = y (ix2 p d) + if st < 128 ∧ 0 < en ∧ 0 ≤ p.val ∧ p.val < 0 + 128
      then mix (fun k => hs (ix2 p k)) (fun l => rs (ix2 p l)) x3 x4 x5 2 d else 0 := by
  have hl : live (F := Ideal) (k0_pay73 v37) (k0_pay74 v38) 0x43000000#32 0x00000000#32 ↔ st < 128 ∧ 0 < en := by
    rw [live_iff, pay73_eq, pay74_eq, h37, h38, hi0_eq, lo0_eq, cast_lt, cast_lt]
  unfold step9
  by_cases h : st < 128 ∧ 0 < en
  · rw [if_pos (hl.mpr h), put_rows]
    by_cases hp : 0 ≤ p.val ∧ p.val < 0 + 128
    · rw [dif_pos hp, if_pos ⟨h.1, h.2, hp⟩, experts2_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step10_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 2) = (st : EReal)) (h38 : v38 (ix2 0 2) = (en : EReal)) :
    step10 hs rs v37 v38 x3 x4 x5 y (ix2 p d) = y (ix2 p d) + if st < 256 ∧ 128 < en ∧ 128 ≤ p.val ∧ p.val < 128 + 128
      then mix (fun k => hs (ix2 p k)) (fun l => rs (ix2 p l)) x3 x4 x5 2 d else 0 := by
  have hl : live (F := Ideal) (k0_pay73 v37) (k0_pay74 v38) 0x43800000#32 0x43000000#32 ↔ st < 256 ∧ 128 < en := by
    rw [live_iff, pay73_eq, pay74_eq, h37, h38, hi1_eq, lo1_eq, cast_lt, cast_lt]
  unfold step10
  by_cases h : st < 256 ∧ 128 < en
  · rw [if_pos (hl.mpr h), put_rows]
    by_cases hp : 128 ≤ p.val ∧ p.val < 128 + 128
    · rw [dif_pos hp, if_pos ⟨h.1, h.2, hp⟩, experts2_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step11_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 2) = (st : EReal)) (h38 : v38 (ix2 0 2) = (en : EReal)) :
    step11 hs rs v37 v38 x3 x4 x5 y (ix2 p d) = y (ix2 p d) + if st < 384 ∧ 256 < en ∧ 256 ≤ p.val ∧ p.val < 256 + 128
      then mix (fun k => hs (ix2 p k)) (fun l => rs (ix2 p l)) x3 x4 x5 2 d else 0 := by
  have hl : live (F := Ideal) (k0_pay73 v37) (k0_pay74 v38) 0x43C00000#32 0x43800000#32 ↔ st < 384 ∧ 256 < en := by
    rw [live_iff, pay73_eq, pay74_eq, h37, h38, hi2_eq, lo2_eq, cast_lt, cast_lt]
  unfold step11
  by_cases h : st < 384 ∧ 256 < en
  · rw [if_pos (hl.mpr h), put_rows]
    by_cases hp : 256 ≤ p.val ∧ p.val < 256 + 128
    · rw [dif_pos hp, if_pos ⟨h.1, h.2, hp⟩, experts2_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step12_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 2) = (st : EReal)) (h38 : v38 (ix2 0 2) = (en : EReal)) :
    step12 hs rs v37 v38 x3 x4 x5 y (ix2 p d) = y (ix2 p d) + if st < 512 ∧ 384 < en ∧ 384 ≤ p.val ∧ p.val < 384 + 128
      then mix (fun k => hs (ix2 p k)) (fun l => rs (ix2 p l)) x3 x4 x5 2 d else 0 := by
  have hl : live (F := Ideal) (k0_pay73 v37) (k0_pay74 v38) 0x44000000#32 0x43C00000#32 ↔ st < 512 ∧ 384 < en := by
    rw [live_iff, pay73_eq, pay74_eq, h37, h38, hi3_eq, lo3_eq, cast_lt, cast_lt]
  unfold step12
  by_cases h : st < 512 ∧ 384 < en
  · rw [if_pos (hl.mpr h), put_rows]
    by_cases hp : 384 ≤ p.val ∧ p.val < 384 + 128
    · rw [dif_pos hp, if_pos ⟨h.1, h.2, hp⟩, experts2_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step13_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 3) = (st : EReal)) (h38 : v38 (ix2 0 3) = (en : EReal)) :
    step13 hs rs v37 v38 x3 x4 x5 y (ix2 p d) = y (ix2 p d) + if st < 128 ∧ 0 < en ∧ 0 ≤ p.val ∧ p.val < 0 + 128
      then mix (fun k => hs (ix2 p k)) (fun l => rs (ix2 p l)) x3 x4 x5 3 d else 0 := by
  have hl : live (F := Ideal) (k0_pay79 v37) (k0_pay80 v38) 0x43000000#32 0x00000000#32 ↔ st < 128 ∧ 0 < en := by
    rw [live_iff, pay79_eq, pay80_eq, h37, h38, hi0_eq, lo0_eq, cast_lt, cast_lt]
  unfold step13
  by_cases h : st < 128 ∧ 0 < en
  · rw [if_pos (hl.mpr h), put_rows]
    by_cases hp : 0 ≤ p.val ∧ p.val < 0 + 128
    · rw [dif_pos hp, if_pos ⟨h.1, h.2, hp⟩, experts3_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step14_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 3) = (st : EReal)) (h38 : v38 (ix2 0 3) = (en : EReal)) :
    step14 hs rs v37 v38 x3 x4 x5 y (ix2 p d) = y (ix2 p d) + if st < 256 ∧ 128 < en ∧ 128 ≤ p.val ∧ p.val < 128 + 128
      then mix (fun k => hs (ix2 p k)) (fun l => rs (ix2 p l)) x3 x4 x5 3 d else 0 := by
  have hl : live (F := Ideal) (k0_pay79 v37) (k0_pay80 v38) 0x43800000#32 0x43000000#32 ↔ st < 256 ∧ 128 < en := by
    rw [live_iff, pay79_eq, pay80_eq, h37, h38, hi1_eq, lo1_eq, cast_lt, cast_lt]
  unfold step14
  by_cases h : st < 256 ∧ 128 < en
  · rw [if_pos (hl.mpr h), put_rows]
    by_cases hp : 128 ≤ p.val ∧ p.val < 128 + 128
    · rw [dif_pos hp, if_pos ⟨h.1, h.2, hp⟩, experts3_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step15_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 3) = (st : EReal)) (h38 : v38 (ix2 0 3) = (en : EReal)) :
    step15 hs rs v37 v38 x3 x4 x5 y (ix2 p d) = y (ix2 p d) + if st < 384 ∧ 256 < en ∧ 256 ≤ p.val ∧ p.val < 256 + 128
      then mix (fun k => hs (ix2 p k)) (fun l => rs (ix2 p l)) x3 x4 x5 3 d else 0 := by
  have hl : live (F := Ideal) (k0_pay79 v37) (k0_pay80 v38) 0x43C00000#32 0x43800000#32 ↔ st < 384 ∧ 256 < en := by
    rw [live_iff, pay79_eq, pay80_eq, h37, h38, hi2_eq, lo2_eq, cast_lt, cast_lt]
  unfold step15
  by_cases h : st < 384 ∧ 256 < en
  · rw [if_pos (hl.mpr h), put_rows]
    by_cases hp : 256 ≤ p.val ∧ p.val < 256 + 128
    · rw [dif_pos hp, if_pos ⟨h.1, h.2, hp⟩, experts3_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

theorem step16_eq (hs : Vec Ideal S512x1024 .bf16) (rs : Vec Ideal S512x128 .f32) (v37 v38 : FVec Ideal S1x128 .f32) (x3 x4 : Vec Ideal S16x1024x256 .bf16)
    (x5 : Vec Ideal S4x1024x1024 .bf16) (y : Vec Ideal S512x1024 .f32) (p : Fin 512) (d : Fin 1024) (st en : ℕ)
    (h37 : v37 (ix2 0 3) = (st : EReal)) (h38 : v38 (ix2 0 3) = (en : EReal)) :
    step16 hs rs v37 v38 x3 x4 x5 y (ix2 p d) = y (ix2 p d) + if st < 512 ∧ 384 < en ∧ 384 ≤ p.val ∧ p.val < 384 + 128
      then mix (fun k => hs (ix2 p k)) (fun l => rs (ix2 p l)) x3 x4 x5 3 d else 0 := by
  have hl : live (F := Ideal) (k0_pay79 v37) (k0_pay80 v38) 0x44000000#32 0x43C00000#32 ↔ st < 512 ∧ 384 < en := by
    rw [live_iff, pay79_eq, pay80_eq, h37, h38, hi3_eq, lo3_eq, cast_lt, cast_lt]
  unfold step16
  by_cases h : st < 512 ∧ 384 < en
  · rw [if_pos (hl.mpr h), put_rows]
    by_cases hp : 384 ≤ p.val ∧ p.val < 384 + 128
    · rw [dif_pos hp, if_pos ⟨h.1, h.2, hp⟩, experts3_eq, ld_rowsY _ _ _ _ hp.1]
      congr 2
      · funext k
        exact ld_rowsH hs _ _ p hp.1 _ k
      · funext k
        exact ld_rowsR rs _ _ p hp.1 _ k
    · rw [dif_neg hp, if_neg fun hh => hp hh.2.2, add_zero]
  · rw [if_neg fun hh => h (hl.mp hh), if_neg fun hh => h ⟨hh.1, hh.2.1⟩, add_zero]

end Cert.KernelIdeal.Moe

end
-- ==== Proof.Tile.lean ====
/- A tile of the result, entry by entry over the extended reals: the sorted result at a token's position, put back to
   the token and added to its residual. -/
module

public import proofs.«01_k».proof.Proof.Experts

@[expose] public section

set_option maxRecDepth 16384

noncomputable section

namespace Cert.KernelIdeal.Moe

open Idealize.ShloMosaic Cert.KernelIdeal Cert.KernelIdeal.Gen

variable {r : Vec Ideal S512x128 .f32} {grp : Fin 512 → Fin 4}

/-- The sorted result at a token's position: the sum over the token's group of experts. -/
theorem sortedY_eq (hs : Vec Ideal S512x1024 .bf16) (rs : Vec Ideal S512x128 .f32) (x3 x4 : Vec Ideal S16x1024x256 .bf16)
    (x5 : Vec Ideal S4x1024x1024 .bf16) (h : Routed r grp) (t : Fin 512) (d : Fin 1024) (p : Fin 512) (hp : p.val = pos grp t)
    (hw : ∀ l : Fin 128, 4 ≤ l.val → l.val < 20 → rs (ix2 p l) = r (ix2 t l)) :
    sortedY hs rs (k0_pay52 r) (k0_pay53 r) x3 x4 x5 (ix2 p d)
      = mix (fun k => hs (ix2 p k)) (fun l => rs (ix2 p l)) x3 x4 x5 (grp t) d := by
  have hz : ∀ g : Fin 4, g ≠ grp t → mix (fun k => hs (ix2 p k)) (fun l => rs (ix2 p l)) x3 x4 x5 g d = 0 := by
    intro g hg
    refine mix_zero _ _ _ _ _ _ _ fun l h4 h20 hl => ?_
    rw [hw l h4 h20]
    refine h.off t l h4 h20 fun hh => hg (Fin.ext ?_)
    omega
  have hs0 := before_le_pos grp t
  have he0 := pos_lt_end grp t
  rw [← before_succ, ← hp] at he0
  rw [← hp] at hs0
  clear hw hp
  unfold sortedY
  rw [step16_eq (st := before grp 3) (en := before grp 4) (h37 := pay52_eq h 3 (by norm_num)) (h38 := pay53_eq h 3 (by norm_num))]
  rw [step15_eq (st := before grp 3) (en := before grp 4) (h37 := pay52_eq h 3 (by norm_num)) (h38 := pay53_eq h 3 (by norm_num))]
  rw [step14_eq (st := before grp 3) (en := before grp 4) (h37 := pay52_eq h 3 (by norm_num)) (h38 := pay53_eq h 3 (by norm_num))]
  rw [step13_eq (st := before grp 3) (en := before grp 4) (h37 := pay52_eq h 3 (by norm_num)) (h38 := pay53_eq h 3 (by norm_num))]
  rw [step12_eq (st := before grp 2) (en := before grp 3) (h37 := pay52_eq h 2 (by norm_num)) (h38 := pay53_eq h 2 (by norm_num))]
  rw [step11_eq (st := before grp 2) (en := before grp 3) (h37 := pay52_eq h 2 (by norm_num)) (h38 := pay53_eq h 2 (by norm_num))]
  rw [step10_eq (st := before grp 2) (en := before grp 3) (h37 := pay52_eq h 2 (by norm_num)) (h38 := pay53_eq h 2 (by norm_num))]
  rw [step9_eq (st := before grp 2) (en := before grp 3) (h37 := pay52_eq h 2 (by norm_num)) (h38 := pay53_eq h 2 (by norm_num))]
  rw [step8_eq (st := before grp 1) (en := before grp 2) (h37 := pay52_eq h 1 (by norm_num)) (h38 := pay53_eq h 1 (by norm_num))]
  rw [step7_eq (st := before grp 1) (en := before grp 2) (h37 := pay52_eq h 1 (by norm_num)) (h38 := pay53_eq h 1 (by norm_num))]
  rw [step6_eq (st := before grp 1) (en := before grp 2) (h37 := pay52_eq h 1 (by norm_num)) (h38 := pay53_eq h 1 (by norm_num))]
  rw [step5_eq (st := before grp 1) (en := before grp 2) (h37 := pay52_eq h 1 (by norm_num)) (h38 := pay53_eq h 1 (by norm_num))]
  rw [step4_eq (st := before grp 0) (en := before grp 1) (h37 := pay52_eq h 0 (by norm_num)) (h38 := pay53_eq h 0 (by norm_num))]
  rw [step3_eq (st := before grp 0) (en := before grp 1) (h37 := pay52_eq h 0 (by norm_num)) (h38 := pay53_eq h 0 (by norm_num))]
  rw [step2_eq (st := before grp 0) (en := before grp 1) (h37 := pay52_eq h 0 (by norm_num)) (h38 := pay53_eq h 0 (by norm_num))]
  rw [step1_eq (st := before grp 0) (en := before grp 1) (h37 := pay52_eq h 0 (by norm_num)) (h38 := pay53_eq h 0 (by norm_num))]
  have h0 : k0_pay60 (F := Ideal) (ix2 p d) = (0 : EReal) := by
    pointwise [k0_pay60]
  rw [h0, zero_add]
  have hq : p.val < 128 ∨ (128 ≤ p.val ∧ p.val < 256) ∨ (256 ≤ p.val ∧ p.val < 384) ∨ 384 ≤ p.val := by omega
  generalize grp t = g at *
  have hg : g = 0 ∨ g = 1 ∨ g = 2 ∨ g = 3 := by fin_cases g <;> simp
  rcases hg with rfl | rfl | rfl | rfl
  · simp only [hz 1 (by decide), hz 2 (by decide), hz 3 (by decide), ite_self, add_zero, zero_add]
    have a : before grp 0 ≤ p.val := hs0
    have b : p.val < before grp 1 := he0
    rcases hq with q | q | q | q
    · rw [if_pos (⟨by omega, by omega, by omega, by omega⟩ : before grp 0 < 128 ∧ 0 < before grp 1 ∧ 0 ≤ p.val ∧ p.val < 0 + 128)]
      rw [if_neg (fun hh => by omega : ¬ (before grp 0 < 256 ∧ 128 < before grp 1 ∧ 128 ≤ p.val ∧ p.val < 128 + 128)), if_neg (fun hh => by omega : ¬ (before grp 0 < 384 ∧ 256 < before grp 1 ∧ 256 ≤ p.val ∧ p.val < 256 + 128)), if_neg (fun hh => by omega : ¬ (before grp 0 < 512 ∧ 384 < before grp 1 ∧ 384 ≤ p.val ∧ p.val < 384 + 128))]
      simp only [add_zero, zero_add]
    · rw [if_pos (⟨by omega, by omega, by omega, by omega⟩ : before grp 0 < 256 ∧ 128 < before grp 1 ∧ 128 ≤ p.val ∧ p.val < 128 + 128)]
      rw [if_neg (fun hh => by omega : ¬ (before grp 0 < 128 ∧ 0 < before grp 1 ∧ 0 ≤ p.val ∧ p.val < 0 + 128)), if_neg (fun hh => by omega : ¬ (before grp 0 < 384 ∧ 256 < before grp 1 ∧ 256 ≤ p.val ∧ p.val < 256 + 128)), if_neg (fun hh => by omega : ¬ (before grp 0 < 512 ∧ 384 < before grp 1 ∧ 384 ≤ p.val ∧ p.val < 384 + 128))]
      simp only [add_zero, zero_add]
    · rw [if_pos (⟨by omega, by omega, by omega, by omega⟩ : before grp 0 < 384 ∧ 256 < before grp 1 ∧ 256 ≤ p.val ∧ p.val < 256 + 128)]
      rw [if_neg (fun hh => by omega : ¬ (before grp 0 < 128 ∧ 0 < before grp 1 ∧ 0 ≤ p.val ∧ p.val < 0 + 128)), if_neg (fun hh => by omega : ¬ (before grp 0 < 256 ∧ 128 < before grp 1 ∧ 128 ≤ p.val ∧ p.val < 128 + 128)), if_neg (fun hh => by omega : ¬ (before grp 0 < 512 ∧ 384 < before grp 1 ∧ 384 ≤ p.val ∧ p.val < 384 + 128))]
      simp only [add_zero, zero_add]
    · rw [if_pos (⟨by omega, by omega, by omega, by omega⟩ : before grp 0 < 512 ∧ 384 < before grp 1 ∧ 384 ≤ p.val ∧ p.val < 384 + 128)]
      rw [if_neg (fun hh => by omega : ¬ (before grp 0 < 128 ∧ 0 < before grp 1 ∧ 0 ≤ p.val ∧ p.val < 0 + 128)), if_neg (fun hh => by omega : ¬ (before grp 0 < 256 ∧ 128 < before grp 1 ∧ 128 ≤ p.val ∧ p.val < 128 + 128)), if_neg (fun hh => by omega : ¬ (before grp 0 < 384 ∧ 256 < before grp 1 ∧ 256 ≤ p.val ∧ p.val < 256 + 128))]
      simp only [add_zero, zero_add]
  · simp only [hz 0 (by decide), hz 2 (by decide), hz 3 (by decide), ite_self, add_zero, zero_add]
    have a : before grp 1 ≤ p.val := hs0
    have b : p.val < before grp 2 := he0
    rcases hq with q | q | q | q
    · rw [if_pos (⟨by omega, by omega, by omega, by omega⟩ : before grp 1 < 128 ∧ 0 < before grp 2 ∧ 0 ≤ p.val ∧ p.val < 0 + 128)]
      rw [if_neg (fun hh => by omega : ¬ (before grp 1 < 256 ∧ 128 < before grp 2 ∧ 128 ≤ p.val ∧ p.val < 128 + 128)), if_neg (fun hh => by omega : ¬ (before grp 1 < 384 ∧ 256 < before grp 2 ∧ 256 ≤ p.val ∧ p.val < 256 + 128)), if_neg (fun hh => by omega : ¬ (before grp 1 < 512 ∧ 384 < before grp 2 ∧ 384 ≤ p.val ∧ p.val < 384 + 128))]
      simp only [add_zero, zero_add]
    · rw [if_pos (⟨by omega, by omega, by omega, by omega⟩ : before grp 1 < 256 ∧ 128 < before grp 2 ∧ 128 ≤ p.val ∧ p.val < 128 + 128)]
      rw [if_neg (fun hh => by omega : ¬ (before grp 1 < 128 ∧ 0 < before grp 2 ∧ 0 ≤ p.val ∧ p.val < 0 + 128)), if_neg (fun hh => by omega : ¬ (before grp 1 < 384 ∧ 256 < before grp 2 ∧ 256 ≤ p.val ∧ p.val < 256 + 128)), if_neg (fun hh => by omega : ¬ (before grp 1 < 512 ∧ 384 < before grp 2 ∧ 384 ≤ p.val ∧ p.val < 384 + 128))]
      simp only [add_zero, zero_add]
    · rw [if_pos (⟨by omega, by omega, by omega, by omega⟩ : before grp 1 < 384 ∧ 256 < before grp 2 ∧ 256 ≤ p.val ∧ p.val < 256 + 128)]
      rw [if_neg (fun hh => by omega : ¬ (before grp 1 < 128 ∧ 0 < before grp 2 ∧ 0 ≤ p.val ∧ p.val < 0 + 128)), if_neg (fun hh => by omega : ¬ (before grp 1 < 256 ∧ 128 < before grp 2 ∧ 128 ≤ p.val ∧ p.val < 128 + 128)), if_neg (fun hh => by omega : ¬ (before grp 1 < 512 ∧ 384 < before grp 2 ∧ 384 ≤ p.val ∧ p.val < 384 + 128))]
      simp only [add_zero, zero_add]
    · rw [if_pos (⟨by omega, by omega, by omega, by omega⟩ : before grp 1 < 512 ∧ 384 < before grp 2 ∧ 384 ≤ p.val ∧ p.val < 384 + 128)]
      rw [if_neg (fun hh => by omega : ¬ (before grp 1 < 128 ∧ 0 < before grp 2 ∧ 0 ≤ p.val ∧ p.val < 0 + 128)), if_neg (fun hh => by omega : ¬ (before grp 1 < 256 ∧ 128 < before grp 2 ∧ 128 ≤ p.val ∧ p.val < 128 + 128)), if_neg (fun hh => by omega : ¬ (before grp 1 < 384 ∧ 256 < before grp 2 ∧ 256 ≤ p.val ∧ p.val < 256 + 128))]
      simp only [add_zero, zero_add]
  · simp only [hz 0 (by decide), hz 1 (by decide), hz 3 (by decide), ite_self, add_zero, zero_add]
    have a : before grp 2 ≤ p.val := hs0
    have b : p.val < before grp 3 := he0
    rcases hq with q | q | q | q
    · rw [if_pos (⟨by omega, by omega, by omega, by omega⟩ : before grp 2 < 128 ∧ 0 < before grp 3 ∧ 0 ≤ p.val ∧ p.val < 0 + 128)]
      rw [if_neg (fun hh => by omega : ¬ (before grp 2 < 256 ∧ 128 < before grp 3 ∧ 128 ≤ p.val ∧ p.val < 128 + 128)), if_neg (fun hh => by omega : ¬ (before grp 2 < 384 ∧ 256 < before grp 3 ∧ 256 ≤ p.val ∧ p.val < 256 + 128)), if_neg (fun hh => by omega : ¬ (before grp 2 < 512 ∧ 384 < before grp 3 ∧ 384 ≤ p.val ∧ p.val < 384 + 128))]
      simp only [add_zero, zero_add]
    · rw [if_pos (⟨by omega, by omega, by omega, by omega⟩ : before grp 2 < 256 ∧ 128 < before grp 3 ∧ 128 ≤ p.val ∧ p.val < 128 + 128)]
      rw [if_neg (fun hh => by omega : ¬ (before grp 2 < 128 ∧ 0 < before grp 3 ∧ 0 ≤ p.val ∧ p.val < 0 + 128)), if_neg (fun hh => by omega : ¬ (before grp 2 < 384 ∧ 256 < before grp 3 ∧ 256 ≤ p.val ∧ p.val < 256 + 128)), if_neg (fun hh => by omega : ¬ (before grp 2 < 512 ∧ 384 < before grp 3 ∧ 384 ≤ p.val ∧ p.val < 384 + 128))]
      simp only [add_zero, zero_add]
    · rw [if_pos (⟨by omega, by omega, by omega, by omega⟩ : before grp 2 < 384 ∧ 256 < before grp 3 ∧ 256 ≤ p.val ∧ p.val < 256 + 128)]
      rw [if_neg (fun hh => by omega : ¬ (before grp 2 < 128 ∧ 0 < before grp 3 ∧ 0 ≤ p.val ∧ p.val < 0 + 128)), if_neg (fun hh => by omega : ¬ (before grp 2 < 256 ∧ 128 < before grp 3 ∧ 128 ≤ p.val ∧ p.val < 128 + 128)), if_neg (fun hh => by omega : ¬ (before grp 2 < 512 ∧ 384 < before grp 3 ∧ 384 ≤ p.val ∧ p.val < 384 + 128))]
      simp only [add_zero, zero_add]
    · rw [if_pos (⟨by omega, by omega, by omega, by omega⟩ : before grp 2 < 512 ∧ 384 < before grp 3 ∧ 384 ≤ p.val ∧ p.val < 384 + 128)]
      rw [if_neg (fun hh => by omega : ¬ (before grp 2 < 128 ∧ 0 < before grp 3 ∧ 0 ≤ p.val ∧ p.val < 0 + 128)), if_neg (fun hh => by omega : ¬ (before grp 2 < 256 ∧ 128 < before grp 3 ∧ 128 ≤ p.val ∧ p.val < 128 + 128)), if_neg (fun hh => by omega : ¬ (before grp 2 < 384 ∧ 256 < before grp 3 ∧ 256 ≤ p.val ∧ p.val < 256 + 128))]
      simp only [add_zero, zero_add]
  · simp only [hz 0 (by decide), hz 1 (by decide), hz 2 (by decide), ite_self, add_zero, zero_add]
    have a : before grp 3 ≤ p.val := hs0
    have b : p.val < before grp 4 := he0
    rcases hq with q | q | q | q
    · rw [if_pos (⟨by omega, by omega, by omega, by omega⟩ : before grp 3 < 128 ∧ 0 < before grp 4 ∧ 0 ≤ p.val ∧ p.val < 0 + 128)]
      rw [if_neg (fun hh => by omega : ¬ (before grp 3 < 256 ∧ 128 < before grp 4 ∧ 128 ≤ p.val ∧ p.val < 128 + 128)), if_neg (fun hh => by omega : ¬ (before grp 3 < 384 ∧ 256 < before grp 4 ∧ 256 ≤ p.val ∧ p.val < 256 + 128)), if_neg (fun hh => by omega : ¬ (before grp 3 < 512 ∧ 384 < before grp 4 ∧ 384 ≤ p.val ∧ p.val < 384 + 128))]
      simp only [add_zero, zero_add]
    · rw [if_pos (⟨by omega, by omega, by omega, by omega⟩ : before grp 3 < 256 ∧ 128 < before grp 4 ∧ 128 ≤ p.val ∧ p.val < 128 + 128)]
      rw [if_neg (fun hh => by omega : ¬ (before grp 3 < 128 ∧ 0 < before grp 4 ∧ 0 ≤ p.val ∧ p.val < 0 + 128)), if_neg (fun hh => by omega : ¬ (before grp 3 < 384 ∧ 256 < before grp 4 ∧ 256 ≤ p.val ∧ p.val < 256 + 128)), if_neg (fun hh => by omega : ¬ (before grp 3 < 512 ∧ 384 < before grp 4 ∧ 384 ≤ p.val ∧ p.val < 384 + 128))]
      simp only [add_zero, zero_add]
    · rw [if_pos (⟨by omega, by omega, by omega, by omega⟩ : before grp 3 < 384 ∧ 256 < before grp 4 ∧ 256 ≤ p.val ∧ p.val < 256 + 128)]
      rw [if_neg (fun hh => by omega : ¬ (before grp 3 < 128 ∧ 0 < before grp 4 ∧ 0 ≤ p.val ∧ p.val < 0 + 128)), if_neg (fun hh => by omega : ¬ (before grp 3 < 256 ∧ 128 < before grp 4 ∧ 128 ≤ p.val ∧ p.val < 128 + 128)), if_neg (fun hh => by omega : ¬ (before grp 3 < 512 ∧ 384 < before grp 4 ∧ 384 ≤ p.val ∧ p.val < 384 + 128))]
      simp only [add_zero, zero_add]
    · rw [if_pos (⟨by omega, by omega, by omega, by omega⟩ : before grp 3 < 512 ∧ 384 < before grp 4 ∧ 384 ≤ p.val ∧ p.val < 384 + 128)]
      rw [if_neg (fun hh => by omega : ¬ (before grp 3 < 128 ∧ 0 < before grp 4 ∧ 0 ≤ p.val ∧ p.val < 0 + 128)), if_neg (fun hh => by omega : ¬ (before grp 3 < 256 ∧ 128 < before grp 4 ∧ 128 ≤ p.val ∧ p.val < 128 + 128)), if_neg (fun hh => by omega : ¬ (before grp 3 < 384 ∧ 256 < before grp 4 ∧ 256 ≤ p.val ∧ p.val < 256 + 128))]
      simp only [add_zero, zero_add]

/-- An entry of the tile's result. -/
theorem out_eq (x0 : Vec Ideal S512x1024 .bf16) (x2 : Vec Ideal S512x1024 .f32) (x3 x4 : Vec Ideal S16x1024x256 .bf16)
    (x5 : Vec Ideal S4x1024x1024 .bf16) (h : Routed r grp) (t : Fin 512) (d : Fin 1024) :
    out0_6 x0 r x2 x3 x4 x5 (ix2 t d)
      = x2 (ix2 t d) + ∑ g : Fin 4, mix (fun k => x0 (ix2 t k)) (fun l => r (ix2 t l)) x3 x4 x5 g d := by
  unfold out0_6
  rw [rt_eq]
  pointwise [k0_pay85]
  refine congrArg (x2 (ix2 t d) + ·) ?_
  refine (Finset.sum_congr rfl fun c _ => congrArg (· * _) (pay56_eq h t c)).trans ?_
  refine (sum_pick _ ⟨pos grp t, pos_lt grp t⟩ (fun c => ⟨fun hh => Fin.ext hh, fun hh => by rw [hh]⟩) _).trans ?_
  rw [sortedY_eq _ _ _ _ _ h t d _ rfl fun l h4 h20 => sortedR_eq h t l h4 h20, Finset.sum_eq_single (grp t)]
  · unfold mix weighted hid proj
    refine Finset.sum_congr rfl fun c _ => ?_
    simp only [sortedH_eq x0 h]
    rw [sortedR_eq h t _ (by simp) (by simp only; omega)]
  · intro g _ hg
    refine mix_zero _ _ _ _ _ _ _ fun l h4 h20 hl => h.off t l h4 h20 fun hh => hg (Fin.ext ?_)
    omega
  · intro hh; exact absurd (Finset.mem_univ _) hh

end Cert.KernelIdeal.Moe

end
-- ==== Proof.Pre.lean ====
/- What the precondition `routed` says of the routing array, row by row: a row has one group, no weight outside it, and
   finite weights. -/
module

public import proofs.«01_k».proof.Defs
public import proofs.«01_k».proof.Proof.Sort
public import Idealize.ShloMosaic.Lib.ReduceAll
public import Idealize.ShloMosaic.Lib.WordArith
public import Idealize.ShloMosaic.Lib.Affine

@[expose] public section

set_option maxRecDepth 16384

noncomputable section

namespace Cert.KernelIdeal.Moe

open Idealize.ShloMosaic Cert.KernelIdeal Cert.KernelIdeal.Gen

/-- One row of the routing array: the indicator of group `g` in lanes 0 … 3; in lanes 4 … 19 finite weights, zero outside the group. -/
structure Row (w : Fin 128 → EReal) (g : Fin 4) : Prop where
  hot : ∀ l : Fin 128, l.val < 4 → w l = if l.val = g.val then 1 else 0
  off : ∀ l : Fin 128, 4 ≤ l.val → l.val < 20 → l.val / 4 ≠ g.val + 1 → w l = 0
  fin : ∀ l : Fin 128, 4 ≤ l.val → l.val < 20 → w l - w l = 0

theorem ori_decide (p q : Prop) [Decidable p] [Decidable q] :
    IntOp.ori (BitVec.ofBool (decide p)) (BitVec.ofBool (decide q)) = 1#1 ↔ p ∨ q := by
  by_cases hp : p <;> by_cases hq : q <;> simp [hp, hq, IntOp.ori]

theorem ofBool_decide (p : Prop) [Decidable p] : BitVec.ofBool (decide p) = 1#1 ↔ p := by
  by_cases hp : p <;> simp [hp]

/-- A value whose magnitude is below infinity cancels itself. -/
theorem sub_self_of_abs (x : EReal) (h : (FloatOps.absf (F := Ideal) (φ := .f32) x : EReal) < Ideal.ofBits FTy.f32 2139095040#32) : x - x = 0 := by
  have hi : Ideal.ofBits FTy.f32 2139095040#32 = ⊤ := by
    simp [Ideal.ofBits, Ideal.ieee]
  rw [hi] at h
  change max x (-x) < ⊤ at h
  obtain ⟨h1, h2⟩ := max_lt_iff.mp h
  refine EReal.sub_self h1.ne ?_
  rintro rfl
  simp at h2

/-- Four lanes that are each one or zero and sum to one are the indicator of one of them. -/
theorem one_of_four (a : Fin 4 → EReal) (h : ∀ i, a i = 1 ∨ a i = 0) (hs : ∑ i, a i = 1) :
    ∃ g : Fin 4, ∀ i, a i = if i = g then 1 else 0 := by
  have e : ∀ i, a i = if a i = 1 then (1 : EReal) else 0 := fun i => by
    rcases h i with hh | hh
    · rw [if_pos hh, hh]
    · rw [hh]; simp
  have hc : (Finset.univ.filter fun i => a i = 1).card = 1 := by
    have := (Finset.sum_congr rfl fun i _ => e i).symm.trans hs
    rw [sum_ite_card] at this
    exact_mod_cast this
  obtain ⟨g, hg⟩ := Finset.card_eq_one.mp hc
  refine ⟨g, fun i => ?_⟩
  have : a i = 1 ↔ i = g := by
    have := Finset.ext_iff.mp hg i
    simpa using this
  rw [e i]
  exact if_congr this rfl rfl

theorem routed_rows [Cert.Pre_routed.Facts] (a0 : FVec Ideal Cert.Pre_routed.S16384x1024 .bf16) (R : FVec Ideal Cert.Pre_routed.S16384x128 .f32)
    (a2 : FVec Ideal Cert.Pre_routed.S16384x1024 .f32) (a3 a4 : FVec Ideal Cert.Pre_routed.S16x1024x256 .f32) (a5 : FVec Ideal Cert.Pre_routed.S16x256x1024 .f32)
    (h : Cert.Pre_routed.fn (F := Ideal) a0 R a2 a3 a4 a5 ix0 = 1#1) (t : Fin 16384) : ∃ g : Fin 4, Row (fun l => R (ix2 t l)) g := by
  dsimp only [Cert.Pre_routed.fn, Cert.Pre_routed.fn_part1, Cert.Pre_routed.fn_part2, Cert.Pre_routed.fn_part3] at h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have e0 := fun (l : Fin 4) => Host.reduce_andi_all _ _ _ _ _ h0 (ix2 t l)
  have e1 := Host.reduce_andi_all _ _ _ _ _ h1 (ix1 t)
  have e2 := fun (l : Fin 4) => Host.reduce_andi_all _ _ _ _ _ h2 (ix2 t l)
  have e3 := fun (l : Fin 4) => Host.reduce_andi_all _ _ _ _ _ h3 (ix2 t l)
  have e4 := fun (l : Fin 4) => Host.reduce_andi_all _ _ _ _ _ h4 (ix2 t l)
  have e5 := fun (l : Fin 4) => Host.reduce_andi_all _ _ _ _ _ h5 (ix2 t l)
  have e6 := fun (l : Fin 16) => Host.reduce_andi_all _ _ _ _ _ h6 (ix2 t l)
  clear h0 h1 h2 h3 h4 h5 h6 h
  pointwise [] at e0
  pointwise [] at e1
  pointwise [] at e2
  pointwise [] at e3
  pointwise [] at e4
  pointwise [] at e5
  pointwise [] at e6
  simp only [ori_decide] at e0 e2 e3 e4 e5
  rw [ofBool_decide] at e1
  obtain ⟨g, hg⟩ := one_of_four (fun i : Fin 4 => R (ix2 t ⟨i.val, by omega⟩))
    (fun i => by fin_cases i; exacts [e0.1, e0.2.1, e0.2.2.1, e0.2.2.2]) e1
  have hot : ∀ l : Fin 128, l.val < 4 → R (ix2 t l) = if l.val = g.val then 1 else 0 := by
    intro l hl
    refine (hg ⟨l.val, hl⟩).trans (if_congr ?_ rfl rfl)
    exact Fin.ext_iff
  have h10 : (1 : EReal) ≠ 0 := one_ne_zero
  refine ⟨g, hot, fun l h4 h20 hl => ?_, fun l h4 h20 => ?_⟩
  · have z : ∀ k : Fin 128, k.val < 4 → k.val ≠ g.val → R (ix2 t k) ≠ 1 := fun k hk hkg => by
      rw [hot k hk, if_neg hkg]; exact zero_ne_one
    obtain ⟨l, hl'⟩ := l
    simp only at h4 h20 hl
    interval_cases l
    · exact e2.1.resolve_left (z 0 (by norm_num) (show 0 ≠ g.val by omega))
    · exact e2.2.1.resolve_left (z 0 (by norm_num) (show 0 ≠ g.val by omega))
    · exact e2.2.2.1.resolve_left (z 0 (by norm_num) (show 0 ≠ g.val by omega))
    · exact e2.2.2.2.resolve_left (z 0 (by norm_num) (show 0 ≠ g.val by omega))
    · exact e3.1.resolve_left (z 1 (by norm_num) (show 1 ≠ g.val by omega))
    · exact e3.2.1.resolve_left (z 1 (by norm_num) (show 1 ≠ g.val by omega))
    · exact e3.2.2.1.resolve_left (z 1 (by norm_num) (show 1 ≠ g.val by omega))
    · exact e3.2.2.2.resolve_left (z 1 (by norm_num) (show 1 ≠ g.val by omega))
    · exact e4.1.resolve_left (z 2 (by norm_num) (show 2 ≠ g.val by omega))
    · exact e4.2.1.resolve_left (z 2 (by norm_num) (show 2 ≠ g.val by omega))
    · exact e4.2.2.1.resolve_left (z 2 (by norm_num) (show 2 ≠ g.val by omega))
    · exact e4.2.2.2.resolve_left (z 2 (by norm_num) (show 2 ≠ g.val by omega))
    · exact e5.1.resolve_left (z 3 (by norm_num) (show 3 ≠ g.val by omega))
    · exact e5.2.1.resolve_left (z 3 (by norm_num) (show 3 ≠ g.val by omega))
    · exact e5.2.2.1.resolve_left (z 3 (by norm_num) (show 3 ≠ g.val by omega))
    · exact e5.2.2.2.resolve_left (z 3 (by norm_num) (show 3 ≠ g.val by omega))
  · have := (ofBool_decide _).mp (e6 ⟨l.val - 4, by omega⟩)
    have he : (⟨4 + (l.val - 4), by omega⟩ : Fin 128) = l := Fin.ext (by simp only; omega)
    simp only [he] at this
    exact sub_self_of_abs _ this

end Cert.KernelIdeal.Moe

end
-- ==== Proof.Array.lean ====
/- The result array of the call, entry by entry, against the reference. -/
module

public import proofs.«01_k».proof.Proof.Body
public import proofs.«01_k».proof.Proof.Tile
public import proofs.«01_k».proof.Proof.Pre
public import proofs.«01_k».proof.Proof.Ref
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelIdeal.Moe

open Idealize.ShloMosaic Cert.KernelIdeal Cert.KernelIdeal.Gen

variable (m : (ℓ : Loc nD τ sig) → Buf (Elt Ideal) ℓ)

/-- The sum over groups and the four experts' hidden columns is the sum over experts and their columns. -/
theorem sum_regroup (f : Fin 16 → Fin 256 → EReal) :
    ∑ g : Fin 4, ∑ c : Fin 1024, f ⟨4 * g.val + c.val / 256, by omega⟩ ⟨c.val % 256, Nat.mod_lt _ (by norm_num)⟩ = ∑ e, ∑ j, f e j := by
  rw [← Fintype.sum_prod_type', ← Fintype.sum_prod_type']
  let E : Fin 4 × Fin 1024 ≃ Fin 16 × Fin 256 :=
    { toFun := fun p => (⟨4 * p.1.val + p.2.val / 256, by omega⟩, ⟨p.2.val % 256, Nat.mod_lt _ (by norm_num)⟩)
      invFun := fun p => (⟨p.1.val / 4, by omega⟩, ⟨p.1.val % 4 * 256 + p.2.val, by omega⟩)
      left_inv := by
        rintro ⟨g, c⟩
        refine Prod.ext (Fin.ext ?_) (Fin.ext ?_) <;> simp only <;> omega
      right_inv := by
        rintro ⟨e, j⟩
        refine Prod.ext (Fin.ext ?_) (Fin.ext ?_) <;> simp only <;> omega }
  exact Fintype.sum_equiv E _ _ (fun _ => rfl)

abbrev a0 (c : Dev nD) : (⟨S16384x1024, .bf16⟩ : BufTy).Contents (Elt Ideal) := m ((c.tc : Thread nD τ).loc main_arg0)
abbrev a1 (c : Dev nD) : (⟨S16384x128, .f32⟩ : BufTy).Contents (Elt Ideal) := m ((c.tc : Thread nD τ).loc main_arg1)
abbrev a2 (c : Dev nD) : (⟨S16384x1024, .f32⟩ : BufTy).Contents (Elt Ideal) := m ((c.tc : Thread nD τ).loc main_arg2)
abbrev a3 (c : Dev nD) : (⟨S16x1024x256, .f32⟩ : BufTy).Contents (Elt Ideal) := m ((c.tc : Thread nD τ).loc main_arg3)
abbrev a4 (c : Dev nD) : (⟨S16x1024x256, .f32⟩ : BufTy).Contents (Elt Ideal) := m ((c.tc : Thread nD τ).loc main_arg4)
abbrev a5 (c : Dev nD) : (⟨S16x256x1024, .f32⟩ : BufTy).Contents (Elt Ideal) := m ((c.tc : Thread nD τ).loc main_arg5)

/-- Row `r` of tile `t` in the whole array. -/
def row (t : Fin cfg0.N) (r : Fin 512) : Fin 16384 := ⟨512 * t.val + r.val, by have := t.isLt; have : cfg0.N = 32 := rfl; omega⟩

theorem idx : ∀ t : Fin cfg0.grid.N,
    (win0_0.index t 0 = t.val ∧ win0_0.index t 1 = 0) ∧ (win0_1.index t 0 = t.val ∧ win0_1.index t 1 = 0)
    ∧ (win0_2.index t 0 = t.val ∧ win0_2.index t 1 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = t.val ∧ win0_6.index t 1 = 0) :=
  (by decide +kernel : ∀ t : Fin grid0.N, _)

theorem V_v2 (c : Dev nD) (e : Fin 16) (k : Fin 1024) (f : Fin 256) :
    V m c main_v2 (ix3 e k f) = a3 m c (ix3 e k f) := by
  after_reads_at

theorem V_v3 (c : Dev nD) (e : Fin 16) (k : Fin 1024) (f : Fin 256) :
    V m c main_v3 (ix3 e k f) = a4 m c (ix3 e k f) := by
  after_reads_at

theorem V_v1 (c : Dev nD) (g : Fin 4) (k : Fin 1024) (d : Fin 1024) :
    V m c main_v1 (ix3 g k d) = a5 m c (ix3 ⟨4 * g.val + k.val / 256, by omega⟩ ⟨k.val % 256, Nat.mod_lt _ (by norm_num)⟩ d) := by
  after_reads_at
  exact congrArg (a5 m c) (congrArg (ix3 · _ d) (Fin.ext (by simp only; omega)))

theorem blk0 (c : Dev nD) (t : Fin cfg0.grid.N) (r : Fin 512) (k : Fin 1024) : iblk m c 0 t (ix2 r k) = a0 m c (ix2 (row t r) k) := by
  blk_ext [iblk, V, idx t, row]

theorem blk1 (c : Dev nD) (t : Fin cfg0.grid.N) (r : Fin 512) (k : Fin 128) : iblk m c 1 t (ix2 r k) = a1 m c (ix2 (row t r) k) := by
  blk_ext [iblk, V, idx t, row]

theorem blk2 (c : Dev nD) (t : Fin cfg0.grid.N) (r : Fin 512) (k : Fin 1024) : iblk m c 2 t (ix2 r k) = a2 m c (ix2 (row t r) k) := by
  blk_ext [iblk, V, idx t, row]

theorem blk3 (c : Dev nD) (t : Fin cfg0.grid.N) (e : Fin 16) (k : Fin 1024) (f : Fin 256) : iblk m c 3 t (ix3 e k f) = a3 m c (ix3 e k f) := by
  refine Eq.trans ?_ (V_v2 m c e k f)
  blk_ext [iblk, idx t]

theorem blk4 (c : Dev nD) (t : Fin cfg0.grid.N) (e : Fin 16) (k : Fin 1024) (f : Fin 256) : iblk m c 4 t (ix3 e k f) = a4 m c (ix3 e k f) := by
  refine Eq.trans ?_ (V_v3 m c e k f)
  blk_ext [iblk, idx t]

theorem blk5 (c : Dev nD) (t : Fin cfg0.grid.N) (g : Fin 4) (k d : Fin 1024) : iblk m c 5 t (ix3 g k d) = a5 m c (ix3 ⟨4 * g.val + k.val / 256, by omega⟩ ⟨k.val % 256, Nat.mod_lt _ (by norm_num)⟩ d) := by
  refine Eq.trans ?_ (V_v1 m c g k d)
  blk_ext [iblk, idx t]

/-- The reference's result of the launched arguments. -/
abbrev want (c : Dev nD) : (⟨S16384x1024, .f32⟩ : BufTy).Contents (Elt Ideal) :=
  Cert.ReferenceIdeal.Read.val_main_v10 (F := Ideal) (a0 m c) (a1 m c) (a2 m c) (a3 m c) (a4 m c) (a5 m c)

/-- The reference at an entry: the residual and the sum over the groups' experts. -/
theorem want_eq (c : Dev nD) (t : Fin 16384) (d : Fin 1024) :
    want m c (ix2 t d) = a2 m c (ix2 t d) + ∑ e : Fin 16, ∑ f : Fin 256,
      hid (fun k => a0 m c (ix2 t k)) (a3 m c) (a4 m c) e f * a1 m c (ix2 t ⟨4 + e.val, by omega⟩) * a5 m c (ix3 e f d) := by
  unfold want
  rw [← Cert.ReferenceIdeal.Read.val_main_v10_eq]
  pointwise []
  rfl

/-- A tile's routing block is routed when its rows are. -/
theorem routed_blk (c : Dev nD) (t : Fin cfg0.grid.N) (G : Fin 16384 → Fin 4) (hG : ∀ i, Row (fun l => a1 m c (ix2 i l)) (G i)) :
    Routed (iblk m c 1 t) (fun r => G (row t r)) where
  hot r l hl := (blk1 m c t r l).trans ((hG (row t r)).hot l hl)
  off r l h4 h20 hl := (blk1 m c t r l).trans ((hG (row t r)).off l h4 h20 hl)
  fin r l h4 h20 := by
    rw [blk1]
    exact (hG (row t r)).fin l h4 h20

theorem emb_eq (t : Fin cfg0.grid.N) (r : Fin 512) (d : Fin 1024) :
    ((View.whole main_v4).slice (win0_6.rect t)).emb (ix2 r d) = (ix2 (row t r) d : S16384x1024.Idx) := by
  blk_ext [idx t, row]

/-- The result array is the reference's. -/
theorem arr_eq (c : Dev nD) (hpre : ∀ i : Fin 16384, ∃ g : Fin 4, Row (fun l => a1 m c (ix2 i l)) g) :
    (dats m 0 c).arrAt 6 (cfgs 0).N = want m c := by
  choose G hG using hpre
  refine (dats m 0 c).arrAt_eq_of_covers 6 _ (by decide +kernel) fun t hf y => ?_
  blk_simp
  rw [after0_6]
  frame_out
  obtain ⟨r, d, rfl⟩ : ∃ (r : Fin 512) (d : Fin 1024), y = ix2 r d := ⟨y 0, y 1, eq_ix2 y⟩
  refine (out_eq _ _ _ _ _ (routed_blk m c t G hG) r d).trans ?_
  refine Eq.trans ?_ (congrArg (want m c) (emb_eq t r d)).symm
  rw [want_eq, blk2]
  refine congrArg (a2 m c (ix2 (row t r) d) + ·) ?_
  refine Eq.trans ?_ (sum_regroup fun e f => hid (fun k => a0 m c (ix2 (row t r) k)) (a3 m c) (a4 m c) e f
    * a1 m c (ix2 (row t r) ⟨4 + e.val, by omega⟩) * a5 m c (ix3 e f d))
  refine Finset.sum_congr rfl fun g _ => ?_
  unfold mix weighted hid proj
  simp only [blk0, blk1, blk3, blk4, blk5]

open Idealize.SL.Sem

/-- From arguments that meet `routed` the call and the reference end with the same array. -/
theorem algebraic [Cert.Pre_routed.Facts] : Cert.algebraic_KernelIdeal_ReferenceIdeal_pre_routed := by
  intro m g m' g' hpre hagree
  have hrow : ∀ c : Dev nD, ∀ i : Fin 16384, ∃ g : Fin 4, Row (fun l => a1 m c (ix2 i l)) g := fun c i =>
    routed_rows _ _ _ _ _ _ (congrFun (hpre c) ix0) i
  refine ⟨fun c => want m c, ?_, ?_⟩
  · refine (θ_run defs _ _).mono (fun r h c => ?_) (θ_run_and (run_post m g) (frame_run m g))
    exact ⟨((h.1 c).1 6).trans (arr_eq m c (hrow c)), h.2.1 c⟩
  · refine (θ_run Cert.ReferenceIdeal.defs _ _).mono (fun r h c => ?_) (Cert.ReferenceIdeal.Value.run m' g')
    refine ⟨(h c).1.trans ?_, (h c).2⟩
    obtain ⟨e0, e1, e2, e3, e4, e5⟩ := hagree c
    rw [Cert.ReferenceIdeal.Read.val_main_v10_eq, e0, e1, e2, e3, e4, e5]

end Cert.KernelIdeal.Moe

end
-- ==== Proof.Top.lean ====
/- The greatest and the second greatest of four values, the first of equals taken: what a stable sort of the four
   puts first and second. -/
module

public import Idealize.ShloMosaic.Lib.Pointwise

@[expose] public section

set_option maxRecDepth 16384

noncomputable section

namespace Cert.Route

open Idealize.ShloMosaic

/-- `i` is the first place of the greatest of the values. -/
structure First {n : ℕ} (v : Fin n → EReal) (i : Fin n) : Prop where
  le : ∀ j, v j ≤ v i
  lt : ∀ j, j < i → v j < v i

/-- `k` is the first place of the greatest of the values other than the one at `i`. -/
structure Second {n : ℕ} (v : Fin n → EReal) (i k : Fin n) : Prop where
  ne : k ≠ i
  le : ∀ j, j ≠ i → v j ≤ v k
  lt : ∀ j, j ≠ i → j < k → v j < v k

/-- How many of the four values are less than the one at `k`. -/
def rank (v : Fin 4 → EReal) (k : Fin 4) : Fin 4 :=
  ⟨(Finset.univ.filter fun j => v j < v k).card, by
    have h : (Finset.univ.filter fun j => v j < v k) ⊂ Finset.univ :=
      Finset.ssubset_univ_iff.2 fun h => by
        have := Finset.mem_univ k
        rw [← h] at this
        exact lt_irrefl _ (Finset.mem_filter.1 this).2
    simpa using Finset.card_lt_card h⟩

/-- A value is less than another exactly when fewer values are below it. -/
theorem rank_lt (v : Fin 4 → EReal) (j k : Fin 4) : rank v j < rank v k ↔ v j < v k := by
  constructor
  · intro h
    by_contra hn
    have hle : v k ≤ v j := not_lt.1 hn
    have : (Finset.univ.filter fun i => v i < v k).card ≤ (Finset.univ.filter fun i => v i < v j).card :=
      Finset.card_le_card fun i hi => by
        simp only [Finset.mem_filter, Finset.mem_univ, true_and] at hi ⊢
        exact lt_of_lt_of_le hi hle
    exact absurd h (not_lt.2 this)
  · intro h
    show (Finset.univ.filter fun i => v i < v j).card < (Finset.univ.filter fun i => v i < v k).card
    refine Finset.card_lt_card ⟨fun i hi => ?_, fun hs => ?_⟩
    · simp only [Finset.mem_filter, Finset.mem_univ, true_and] at hi ⊢
      exact hi.trans h
    · have := hs (Finset.mem_filter.2 ⟨Finset.mem_univ j, h⟩)
      exact lt_irrefl _ (Finset.mem_filter.1 this).2

/-- The order of four ranks: what a stable sort, greatest first, puts first and second. -/
theorem sorted_ranks : ∀ r : Fin 4 → Fin 4,
    ((∀ j, r j ≤ r (sortedFrom (fun k k' => decide (r k' < r k)) 0))
      ∧ (∀ j, j < sortedFrom (fun k k' => decide (r k' < r k)) 0 → r j < r (sortedFrom (fun k k' => decide (r k' < r k)) 0)))
    ∧ (sortedFrom (fun k k' => decide (r k' < r k)) 1 ≠ sortedFrom (fun k k' => decide (r k' < r k)) 0
      ∧ (∀ j, j ≠ sortedFrom (fun k k' => decide (r k' < r k)) 0 → r j ≤ r (sortedFrom (fun k k' => decide (r k' < r k)) 1))
      ∧ (∀ j, j ≠ sortedFrom (fun k k' => decide (r k' < r k)) 0 → j < sortedFrom (fun k k' => decide (r k' < r k)) 1
          → r j < r (sortedFrom (fun k k' => decide (r k' < r k)) 1))) := by
  decide +kernel

/-- What a stable sort of four values, greatest first, puts first and second. -/
theorem sorted_top (v : Fin 4 → EReal) :
    First v (sortedFrom (fun k k' => decide (v k' < v k)) 0)
    ∧ Second v (sortedFrom (fun k k' => decide (v k' < v k)) 0) (sortedFrom (fun k k' => decide (v k' < v k)) 1) := by
  have hR : (fun k k' : Fin 4 => decide (v k' < v k)) = fun k k' => decide (rank v k' < rank v k) := by
    funext k k'
    exact decide_eq_decide.2 (rank_lt v k' k).symm
  rw [hR]
  have hle : ∀ j k, rank v j ≤ rank v k → v j ≤ v k := fun j k h =>
    not_lt.1 fun h' => absurd ((rank_lt v k j).2 h') (not_lt.2 h)
  obtain ⟨⟨a, b⟩, c, d, e⟩ := sorted_ranks (rank v)
  exact ⟨⟨fun j => hle _ _ (a j), fun j h => (rank_lt v _ _).1 (b j h)⟩,
    ⟨c, fun j h => hle _ _ (d j h), fun j h h' => (rank_lt v _ _).1 (e j h h')⟩⟩

/-- A strictly order-keeping change of the values keeps the first greatest. -/
theorem First.of_lt {n : ℕ} {u v : Fin n → EReal} {i : Fin n} (h : First u i) (huv : ∀ j k, u j < u k ↔ v j < v k) : First v i :=
  ⟨fun j => not_lt.1 fun h' => absurd ((huv i j).2 h') (not_lt.2 (h.le j)), fun j hj => (huv j i).1 (h.lt j hj)⟩

theorem Second.of_lt {n : ℕ} {u v : Fin n → EReal} {i k : Fin n} (h : Second u i k) (huv : ∀ j k, u j < u k ↔ v j < v k) : Second v i k :=
  ⟨h.ne, fun j hj => not_lt.1 fun h' => absurd ((huv k j).2 h') (not_lt.2 (h.le j hj)), fun j hj hk => (huv j k).1 (h.lt j hj hk)⟩

/-! ## The first greatest of 128 lanes -/

/-- The maximum over the lanes, from below, is the value at the first greatest. -/
theorem fold_max {n : ℕ} (f : Fin n → EReal) (i : Fin n) (h : First f i) : Finset.fold max ⊥ f Finset.univ = f i := by
  refine le_antisymm (Finset.fold_max_le _ |>.2 ⟨bot_le, fun j _ => h.le j⟩) ?_
  exact Finset.le_fold_max _ |>.2 (Or.inr ⟨i, Finset.mem_univ i, le_rfl⟩)

/-- The least lane that holds the maximum is the first greatest. -/
theorem fold_min (f : Fin 128 → EReal) (i : Fin 128) (h : First f i) :
    Finset.fold min ⊤ (fun x : Fin 128 => if f x = f i then ((x.val : ℝ) : EReal) else ((128 : ℝ) : EReal)) Finset.univ = ((i.val : ℝ) : EReal) := by
  refine le_antisymm ?_ ?_
  · refine Finset.fold_min_le _ |>.2 (Or.inr ⟨i, Finset.mem_univ i, ?_⟩)
    rw [if_pos rfl]
  · refine Finset.le_fold_min _ |>.2 ⟨le_top, fun j _ => ?_⟩
    split_ifs with hj
    · refine EReal.coe_le_coe_iff.2 (Nat.cast_le.2 ?_)
      by_contra hn
      exact absurd hj (ne_of_lt (h.lt j (Fin.lt_def.2 (not_le.1 hn))))
    · refine EReal.coe_le_coe_iff.2 ?_
      have := i.isLt
      exact_mod_cast this.le

/-- A sum over the lanes of something that is 0 off four consecutive lanes. -/
theorem sum_four (f : Fin 128 → EReal) (b : ℕ) (hb : b + 4 ≤ 128) (h : ∀ x : Fin 128, ¬ (b ≤ x.val ∧ x.val < b + 4) → f x = 0) :
    ∑ x, f x = ∑ j : Fin 4, f ⟨b + j.val, by omega⟩ := by
  symm
  refine Finset.sum_of_injOn (fun j : Fin 4 => (⟨b + j.val, by omega⟩ : Fin 128)) ?_ (by simp) ?_ (fun _ _ => rfl)
  · intro i _ j _ hij
    exact Fin.ext (by simpa using congrArg Fin.val hij)
  · intro x _ hx
    refine h x fun hc => hx ?_
    simp only [Set.mem_image, Finset.coe_univ, Set.mem_univ, true_and]
    exact ⟨⟨x.val - b, by omega⟩, Fin.ext (by simp only; omega)⟩

end Cert.Route
end
-- ==== Proof.Pick.lean ====
/- A token's route from its 128 logits: what is picked among the four groups and the four experts of the group, and the
   weights of the two experts. -/
module

public import proofs.«01_k».proof.Proof.Top

@[expose] public section

set_option maxRecDepth 16384

noncomputable section

namespace Cert.Route

open Idealize.ShloMosaic

/-- The greatest of the lanes. -/
def mx (f : Fin 128 → EReal) : EReal := Finset.fold max ⊥ f Finset.univ

/-- The least lane where the value is `m`. -/
def am (f : Fin 128 → EReal) (m : EReal) : EReal :=
  Finset.fold min ⊤ (fun x : Fin 128 => if f x = m then ((x.val : ℝ) : EReal) else ((128 : ℝ) : EReal)) Finset.univ

/-- The group logits: the first four lanes. -/
def gl (L : Fin 128 → EReal) (l : Fin 128) : EReal := if l.val < 4 then L l else ⊥

/-- The logits of the experts of the group that `gi` counts. -/
def el (L : Fin 128 → EReal) (gi : EReal) (l : Fin 128) : EReal :=
  if 4 ≤ l.val ∧ ((((l.val - 4) / 4 : ℕ) : ℝ) : EReal) = gi then L l else ⊥

/-- The logits but the one at lane `i`. -/
def but (f : Fin 128 → EReal) (i : EReal) (l : Fin 128) : EReal := if ((l.val : ℝ) : EReal) = i then ⊥ else f l

/-- A row of the route: the weights of two experts and the mark of the group, from what was picked. -/
def mark (gi gp i1 i2 p1 p2 : EReal) (l : Fin 128) : EReal :=
  ((if ((l.val : ℝ) : EReal) = i1 then gp * Ideal.div p1 (p1 + p2) else 0)
    + (if ((l.val : ℝ) : EReal) = i2 then gp * Ideal.div p2 (p1 + p2) else 0))
    + if ((l.val : ℝ) : EReal) = gi then 1 else 0

/-- The lane of the group. -/
def gix (L : Fin 128 → EReal) : EReal := am (gl L) (mx (gl L))

/-- The route from the logits. -/
def route (L : Fin 128 → EReal) (gi : EReal) (l : Fin 128) : EReal :=
  mark gi (Ideal.div 1 (∑ x, Ideal.exp (gl L x - mx (gl L))))
    (am (el L gi) (mx (el L gi)))
    (am (but (el L gi) (am (el L gi) (mx (el L gi)))) (mx (but (el L gi) (am (el L gi) (mx (el L gi))))))
    (Ideal.div 1 (∑ x, Ideal.exp (el L gi x - mx (el L gi))))
    (Ideal.div (Ideal.exp (mx (but (el L gi) (am (el L gi) (mx (el L gi)))) - mx (el L gi)))
      (∑ x, Ideal.exp (el L gi x - mx (el L gi)))) l

/-- The four group logits. -/
def grp (L : Fin 128 → EReal) (j : Fin 4) : EReal := L ⟨j.val, by omega⟩

/-- The four expert logits of group `g`. -/
def exs (L : Fin 128 → EReal) (g j : Fin 4) : EReal := L ⟨4 + 4 * g.val + j.val, by omega⟩

/-- The sum of the exponentials of four values against the one at `i`. -/
def den (u : Fin 4 → EReal) (i : Fin 4) : EReal := ∑ j, Ideal.exp (u j - u i)

theorem coe_nat_inj {a b : ℕ} : ((a : ℝ) : EReal) = ((b : ℝ) : EReal) ↔ a = b := by
  rw [EReal.coe_eq_coe_iff, Nat.cast_inj]

variable {L : Fin 128 → EReal} (hL : ∀ l : Fin 128, l.val < 20 → ∃ r : ℝ, L l = (r : EReal))
include hL

theorem first_gl {g : Fin 4} (hg : First (grp L) g) : First (gl L) ⟨g.val, by omega⟩ := by
  have hp : gl L ⟨g.val, by omega⟩ = grp L g := if_pos (by simp only; omega)
  refine ⟨fun j => ?_, fun j hj => ?_⟩
  · rw [hp]
    unfold gl
    split_ifs with h
    · exact hg.le ⟨j.val, h⟩
    · exact bot_le
  · have hj' : j.val < g.val := Fin.lt_def.1 hj
    rw [hp]
    unfold gl
    rw [if_pos (by omega)]
    exact hg.lt ⟨j.val, by omega⟩ (Fin.lt_def.2 hj')

theorem gix_eq {g : Fin 4} (hg : First (grp L) g) : gix L = ((g.val : ℝ) : EReal) := by
  unfold gix am mx
  rw [fold_max _ _ (first_gl hL hg)]
  exact fold_min _ _ (first_gl hL hg)

omit hL in
theorem el_in (g : Fin 4) (j : Fin 4) : el L ((g.val : ℝ) : EReal) ⟨4 + 4 * g.val + j.val, by omega⟩ = exs L g j := by
  unfold el
  rw [if_pos ⟨by simp only; omega, coe_nat_inj.2 (by simp only; omega)⟩]
  rfl

omit hL in
theorem el_out (g : Fin 4) (x : Fin 128) (h : ¬ (4 + 4 * g.val ≤ x.val ∧ x.val < 4 + 4 * g.val + 4)) : el L ((g.val : ℝ) : EReal) x = ⊥ := by
  unfold el
  exact if_neg fun hc => h (by have := coe_nat_inj.1 hc.2; omega)

omit hL in
theorem lane_lt (g j : Fin 4) : 4 + 4 * g.val + j.val < 128 := by omega

omit hL in
/-- A lane of the group is the lane of one of its four experts. -/
theorem lane_of (g : Fin 4) (x : Fin 128) (h : 4 + 4 * g.val ≤ x.val ∧ x.val < 4 + 4 * g.val + 4) :
    ∃ j : Fin 4, x = ⟨4 + 4 * g.val + j.val, lane_lt g j⟩ :=
  ⟨⟨x.val - (4 + 4 * g.val), by omega⟩, Fin.ext (by simp only; omega)⟩

theorem exs_real (g j : Fin 4) : ∃ r : ℝ, exs L g j = (r : EReal) := hL _ (by simp only; omega)

theorem grp_real (j : Fin 4) : ∃ r : ℝ, grp L j = (r : EReal) := hL _ (by simp only; omega)

theorem bot_lt_exs (g j : Fin 4) : ⊥ < exs L g j := by
  obtain ⟨r, hr⟩ := exs_real hL g j
  rw [hr]
  exact EReal.bot_lt_coe r

theorem first_el {g i : Fin 4} (hi : First (exs L g) i) : First (el L ((g.val : ℝ) : EReal)) ⟨4 + 4 * g.val + i.val, by omega⟩ := by
  refine ⟨fun x => ?_, fun x hx => ?_⟩
  · rw [el_in]
    by_cases h : 4 + 4 * g.val ≤ x.val ∧ x.val < 4 + 4 * g.val + 4
    · obtain ⟨j, rfl⟩ := lane_of g x h
      rw [el_in]
      exact hi.le j
    · rw [el_out g x h]
      exact bot_le
  · rw [el_in]
    by_cases h : 4 + 4 * g.val ≤ x.val ∧ x.val < 4 + 4 * g.val + 4
    · obtain ⟨j, rfl⟩ := lane_of g x h
      rw [el_in]
      exact hi.lt j (Fin.lt_def.2 (by have := Fin.lt_def.1 hx; simp only at this; omega))
    · rw [el_out g x h]
      exact bot_lt_exs hL g i

theorem first_but {g i k : Fin 4} (hk : Second (exs L g) i k) :
    First (but (el L ((g.val : ℝ) : EReal)) (((4 + 4 * g.val + i.val : ℕ) : ℝ) : EReal)) ⟨4 + 4 * g.val + k.val, by omega⟩ := by
  have hin : ∀ j : Fin 4, j ≠ i → but (el L ((g.val : ℝ) : EReal)) (((4 + 4 * g.val + i.val : ℕ) : ℝ) : EReal) ⟨4 + 4 * g.val + j.val, by omega⟩ = exs L g j := by
    intro j hj
    unfold but
    rw [if_neg (fun h => hj (Fin.ext (by have := coe_nat_inj.1 h; simp only at this; omega))), el_in]
  have hno : but (el L ((g.val : ℝ) : EReal)) (((4 + 4 * g.val + i.val : ℕ) : ℝ) : EReal) ⟨4 + 4 * g.val + i.val, by omega⟩ = ⊥ := if_pos rfl
  have hout : ∀ x : Fin 128, ¬ (4 + 4 * g.val ≤ x.val ∧ x.val < 4 + 4 * g.val + 4) →
      but (el L ((g.val : ℝ) : EReal)) (((4 + 4 * g.val + i.val : ℕ) : ℝ) : EReal) x = ⊥ := by
    intro x h
    unfold but
    split_ifs
    · rfl
    · exact el_out g x h
  refine ⟨fun x => ?_, fun x hx => ?_⟩
  · rw [hin k hk.ne]
    by_cases h : 4 + 4 * g.val ≤ x.val ∧ x.val < 4 + 4 * g.val + 4
    · obtain ⟨j, rfl⟩ := lane_of g x h
      by_cases hj : j = i
      · subst hj
        rw [hno]
        exact bot_le
      · rw [hin j hj]
        exact hk.le j hj
    · rw [hout x h]
      exact bot_le
  · rw [hin k hk.ne]
    by_cases h : 4 + 4 * g.val ≤ x.val ∧ x.val < 4 + 4 * g.val + 4
    · obtain ⟨j, rfl⟩ := lane_of g x h
      by_cases hj : j = i
      · subst hj
        rw [hno]
        exact bot_lt_exs hL g k
      · rw [hin j hj]
        exact hk.lt j hj (Fin.lt_def.2 (by have := Fin.lt_def.1 hx; simp only at this; omega))
    · rw [hout x h]
      exact bot_lt_exs hL g k

theorem sum_gl {g : Fin 4} : ∑ x, Ideal.exp (gl L x - grp L g) = den (grp L) g := by
  obtain ⟨r, hr⟩ := grp_real hL g
  rw [sum_four _ 0 (by norm_num)]
  · unfold den
    refine Finset.sum_congr rfl fun j _ => ?_
    unfold gl
    rw [if_pos (by simp only; omega)]
    unfold grp
    exact congrArg (fun y => Ideal.exp (L y - _)) (Fin.ext (by simp only; omega))
  · intro x hx
    unfold gl
    rw [if_neg (by omega), hr, EReal.bot_sub]
    rfl

theorem sum_el {g i : Fin 4} : ∑ x, Ideal.exp (el L ((g.val : ℝ) : EReal) x - exs L g i) = den (exs L g) i := by
  obtain ⟨r, hr⟩ := exs_real hL g i
  rw [sum_four _ (4 + 4 * g.val) (by omega)]
  · unfold den
    refine Finset.sum_congr rfl fun j _ => ?_
    rw [el_in]
  · intro x hx
    rw [el_out g x hx, hr, EReal.bot_sub]
    rfl

/-- The route of a row whose group is `g` and whose experts are the group's `i` and `k`. -/
theorem route_eq {g i k : Fin 4} (hg : First (grp L) g) (hi : First (exs L g) i) (hk : Second (exs L g) i k) (l : Fin 128) :
    route L (gix L) l = mark ((g.val : ℝ) : EReal) (Ideal.div 1 (den (grp L) g))
      (((4 + 4 * g.val + i.val : ℕ) : ℝ) : EReal) (((4 + 4 * g.val + k.val : ℕ) : ℝ) : EReal)
      (Ideal.div 1 (den (exs L g) i)) (Ideal.div (Ideal.exp (exs L g k - exs L g i)) (den (exs L g) i)) l := by
  have h1 : mx (gl L) = grp L g := (fold_max _ _ (first_gl hL hg)).trans (if_pos (by simp only; omega))
  have h2 : mx (el L ((g.val : ℝ) : EReal)) = exs L g i := (fold_max _ _ (first_el hL hi)).trans (el_in g i)
  have h3 : am (el L ((g.val : ℝ) : EReal)) (exs L g i) = (((4 + 4 * g.val + i.val : ℕ) : ℝ) : EReal) := by
    rw [← el_in]
    exact fold_min _ _ (first_el hL hi)
  have h5 : but (el L ((g.val : ℝ) : EReal)) (((4 + 4 * g.val + i.val : ℕ) : ℝ) : EReal) ⟨4 + 4 * g.val + k.val, by omega⟩ = exs L g k := by
    unfold but
    rw [if_neg (fun h => hk.ne (Fin.ext (by have := coe_nat_inj.1 h; simp only at this; omega))), el_in]
  have h4 : mx (but (el L ((g.val : ℝ) : EReal)) (((4 + 4 * g.val + i.val : ℕ) : ℝ) : EReal)) = exs L g k :=
    (fold_max _ _ (first_but hL hk)).trans h5
  have h6 : am (but (el L ((g.val : ℝ) : EReal)) (((4 + 4 * g.val + i.val : ℕ) : ℝ) : EReal)) (exs L g k) = (((4 + 4 * g.val + k.val : ℕ) : ℝ) : EReal) := by
    rw [← h5]
    exact fold_min _ _ (first_but hL hk)
  unfold route
  rw [gix_eq hL hg, h1, h2, h3, h4, h6, sum_gl hL, sum_el hL]

end Cert.Route
end
-- ==== Proof.RouteRow.lean ====
/- The route that the call writes for a row, read off its text. -/
module

public import proofs.«01_k».proof.Proof.Gen.Kernel2Ideal.Frame
public import proofs.«01_k».proof.Proof.Pick
public import Idealize.ShloMosaic.Lib.Pointwise

@[expose] public section

set_option maxRecDepth 16384

noncomputable section

namespace Cert.Kernel2Ideal.Route

open Idealize.ShloMosaic Cert.Kernel2Ideal Cert.Kernel2Ideal.Gen Cert.Route

theorem bits_low : Ideal.ofBits FTy.f32 4286578688#32 = ⊥ := by simp [Ideal.ofBits, Ideal.ieee, -EReal.coe_mul]

theorem bits_high : Ideal.ofBits FTy.f32 2139095040#32 = ⊤ := by simp [Ideal.ofBits, Ideal.ieee, -EReal.coe_mul]

theorem bits_far : Ideal.ofBits FTy.f32 1124073472#32 = ((128 : ℝ) : EReal) := by
  simp [Ideal.ofBits, Ideal.ieee, -EReal.coe_mul]; norm_num

theorem mask_eq : (Named.named κ "mask" 4048155338#32 : Ideal .f32) = ⊥ := rfl

/-- A lane's number as an extended real. -/
theorem lane_real (l : Fin 128) : (FloatOps.sitofp FTy.f32 (BitVec.ofNat 32 l.val) : Ideal .f32) = ((l.val : ℝ) : EReal) := by
  have h : ∀ l : Fin 128, (BitVec.ofNat 32 l.val).toInt = (l.val : ℤ) := by decide +kernel
  show (((BitVec.ofNat 32 l.val).toInt : ℝ) : EReal) = _
  rw [h l]
  rfl

theorem group_word : ∀ l : Fin 128, 4 ≤ l.val →
    (IntOp.shrsi ArithUnit.vector (IntOp.subi (BitVec.ofNat 32 l.val) 4#32) 2#32).toInt = (((l.val - 4) / 4 : ℕ) : ℤ) := by
  decide +kernel

theorem ge_word : ∀ l : Fin 128, IntOp.cmpi CmpIPredicate.sge (BitVec.ofNat 32 l.val) 4#32 = BitVec.ofBool (decide (4 ≤ l.val)) := by
  decide +kernel

theorem lt_word : ∀ l : Fin 128, IntOp.cmpi CmpIPredicate.slt (BitVec.ofNat 32 l.val) 4#32 = BitVec.ofBool (decide (l.val < 4)) := by
  decide +kernel

/-- The choice of the experts' lanes. -/
theorem sel_experts (l : Fin 128) (gi a : EReal) :
    Scalar.select (IntOp.andi (IntOp.cmpi CmpIPredicate.sge (BitVec.ofNat 32 l.val) 4#32)
        (BitVec.ofBool (decide ((FloatOps.sitofp FTy.f32 (IntOp.shrsi ArithUnit.vector (IntOp.subi (BitVec.ofNat 32 l.val) 4#32) 2#32) : Ideal .f32) = gi))))
      a (Named.named κ "mask" 4048155338#32 : Ideal .f32)
    = if 4 ≤ l.val ∧ ((((l.val - 4) / 4 : ℕ) : ℝ) : EReal) = gi then a else ⊥ := by
  rw [ge_word, mask_eq]
  by_cases h : 4 ≤ l.val
  · have hs : (FloatOps.sitofp FTy.f32 (IntOp.shrsi ArithUnit.vector (IntOp.subi (BitVec.ofNat 32 l.val) 4#32) 2#32) : Ideal .f32)
        = ((((l.val - 4) / 4 : ℕ) : ℝ) : EReal) := by
      show ((((IntOp.shrsi ArithUnit.vector (IntOp.subi (BitVec.ofNat 32 l.val) 4#32) 2#32).toInt : ℤ) : ℝ) : EReal) = _
      rw [group_word l h]
      rfl
    rw [hs]
    by_cases h' : ((((l.val - 4) / 4 : ℕ) : ℝ) : EReal) = gi
    · simp [h, h', Scalar.select, IntOp.andi]
    · rw [decide_eq_false h', if_neg (fun hc => h' hc.2)]
      simp [Scalar.select, IntOp.andi]
  · simp [h, Scalar.select, IntOp.andi]

theorem sel_groups (l : Fin 128) (a : EReal) :
    Scalar.select (IntOp.cmpi CmpIPredicate.slt (BitVec.ofNat 32 l.val) 4#32) a (Named.named κ "mask" 4048155338#32 : Ideal .f32)
    = if l.val < 4 then a else ⊥ := by
  rw [lt_word, mask_eq]
  by_cases h : l.val < 4
  · simp [h, Scalar.select]
  · simp [h, Scalar.select]

/-! ## The first half of a tile's rows -/

section

variable (a b : FVec Ideal S256x1024 .f32) (v61 : FVec Ideal S256x1024 .f32) (v70 : FVec Ideal S256x1 .f32) (v73 : Vec Ideal S1x1024 .f32) (v82 : Vec Ideal S1024x256 .bf16)
  (v88 : Vec Ideal S1024x128 .bf16) (v92 : Vec Ideal S1x128 .f32) (L : FVec Ideal S256x128 .f32) (gi : FVec Ideal S256x1 .f32) (v200 : FVec Ideal S256x1024 .f32)
  (w : IVec S256x128 32) (t : Fin 256) (l : Fin 128)

/-- Row `t` of the logits. -/
abbrev lg (L : FVec Ideal S256x128 .f32) (t : Fin 256) : Fin 128 → EReal := fun x => L (ix2 t x)

theorem lane11 : k0_pay11 (F := Ideal) (ix2 t l) = ((l.val : ℝ) : EReal) := by
  pointwise [k0_pay11]
  exact lane_real l

theorem gl12 : k0_pay12 (F := Ideal) v61 v70 v73 v82 v88 v92 (ix2 t l) = gl (lg (k0_pay10 v61 v70 v73 v82 v88 v92) t) l := by
  pointwise [k0_pay12]
  exact sel_groups l _

theorem mx13 : k0_pay13 (F := Ideal) v61 v70 v73 v82 v88 v92 (ix2 t 0) = mx (gl (lg (k0_pay10 v61 v70 v73 v82 v88 v92) t)) := by
  pointwise [k0_pay13]
  simp only [bits_low, gl12]
  rfl

theorem gi14 : k0_pay14 (F := Ideal) v61 v70 v73 v82 v88 v92 (ix2 t 0) = gix (lg (k0_pay10 v61 v70 v73 v82 v88 v92) t) := by
  pointwise [k0_pay14]
  simp only [bits_high, bits_far, gl12, mx13, lane11]
  rfl

theorem gp16 : k0_pay16 (F := Ideal) (k0_pay15 v61 v70 v73 v82 v88 v92) (ix2 t 0)
    = Ideal.div 1 (∑ x, Ideal.exp (gl (lg (k0_pay10 v61 v70 v73 v82 v88 v92) t) x - mx (gl (lg (k0_pay10 v61 v70 v73 v82 v88 v92) t)))) := by
  pointwise [k0_pay16, k0_pay15]
  simp only [gl12, mx13]

theorem el17 (hw : ∀ (t : Fin 256) (l : Fin 128), w (ix2 t l) = BitVec.ofNat 32 l.val) : k0_pay17 (F := Ideal) L w gi (ix2 t l) = el (lg L t) (gi (ix2 t 0)) l := by
  pointwise [k0_pay17]
  rw [hw]
  exact sel_experts l _ _

theorem mx18 (hw : ∀ (t : Fin 256) (l : Fin 128), w (ix2 t l) = BitVec.ofNat 32 l.val) : k0_pay18 (F := Ideal) L w gi (ix2 t 0) = mx (el (lg L t) (gi (ix2 t 0))) := by
  pointwise [k0_pay18]
  simp only [bits_low, el17 (hw := hw)]
  rfl

theorem sum19 (hw : ∀ (t : Fin 256) (l : Fin 128), w (ix2 t l) = BitVec.ofNat 32 l.val) : k0_pay19 (F := Ideal) L w gi (ix2 t 0) = ∑ x, Ideal.exp (el (lg L t) (gi (ix2 t 0)) x - mx (el (lg L t) (gi (ix2 t 0)))) := by
  pointwise [k0_pay19]
  simp only [el17 (hw := hw), mx18 (hw := hw)]

theorem am20 (hw : ∀ (t : Fin 256) (l : Fin 128), w (ix2 t l) = BitVec.ofNat 32 l.val) : k0_pay20 (F := Ideal) L w k0_pay11 gi (ix2 t 0) = am (el (lg L t) (gi (ix2 t 0))) (mx (el (lg L t) (gi (ix2 t 0)))) := by
  pointwise [k0_pay20]
  simp only [bits_high, bits_far, el17 (hw := hw), mx18 (hw := hw), lane11]
  rfl

theorem but21 (hw : ∀ (t : Fin 256) (l : Fin 128), w (ix2 t l) = BitVec.ofNat 32 l.val) : k0_pay21 (F := Ideal) L w k0_pay11 gi (ix2 t l)
    = but (el (lg L t) (gi (ix2 t 0))) (am (el (lg L t) (gi (ix2 t 0))) (mx (el (lg L t) (gi (ix2 t 0))))) l := by
  pointwise [k0_pay21]
  simp only [mask_eq, el17 (hw := hw), am20 (hw := hw), lane11]
  rfl

theorem mx22 (hw : ∀ (t : Fin 256) (l : Fin 128), w (ix2 t l) = BitVec.ofNat 32 l.val) : k0_pay22 (F := Ideal) L w k0_pay11 gi (ix2 t 0)
    = mx (but (el (lg L t) (gi (ix2 t 0))) (am (el (lg L t) (gi (ix2 t 0))) (mx (el (lg L t) (gi (ix2 t 0)))))) := by
  pointwise [k0_pay22]
  simp only [bits_low, but21 (hw := hw)]
  rfl

theorem am23 (hw : ∀ (t : Fin 256) (l : Fin 128), w (ix2 t l) = BitVec.ofNat 32 l.val) : k0_pay23 (F := Ideal) L w k0_pay11 gi (ix2 t 0)
    = am (but (el (lg L t) (gi (ix2 t 0))) (am (el (lg L t) (gi (ix2 t 0))) (mx (el (lg L t) (gi (ix2 t 0))))))
        (mx (but (el (lg L t) (gi (ix2 t 0))) (am (el (lg L t) (gi (ix2 t 0))) (mx (el (lg L t) (gi (ix2 t 0))))))) := by
  pointwise [k0_pay23]
  simp only [bits_high, bits_far, but21 (hw := hw), mx22 (hw := hw), lane11]
  rfl

/-- The route of a row of the first half. -/
theorem route26 (hw : ∀ (t : Fin 256) (l : Fin 128), w (ix2 t l) = BitVec.ofNat 32 l.val) (hgi : gi (ix2 t 0) = gix (lg (k0_pay10 v61 v70 v73 v82 v88 v92) t)) :
    k0_pay26 (F := Ideal) k0_pay11 gi (k0_pay16 (k0_pay15 v61 v70 v73 v82 v88 v92))
      (k0_pay19 (k0_pay10 v61 v70 v73 v82 v88 v92) w gi) (k0_pay20 (k0_pay10 v61 v70 v73 v82 v88 v92) w k0_pay11 gi)
      (k0_pay23 (k0_pay10 v61 v70 v73 v82 v88 v92) w k0_pay11 gi) (k0_pay24 (k0_pay10 v61 v70 v73 v82 v88 v92) w gi)
      (k0_pay25 (k0_pay10 v61 v70 v73 v82 v88 v92) w k0_pay11 gi) (ix2 t l)
    = route (lg (k0_pay10 v61 v70 v73 v82 v88 v92) t) (gix (lg (k0_pay10 v61 v70 v73 v82 v88 v92) t)) l := by
  pointwise [k0_pay26, k0_pay24, k0_pay25]
  simp only [lane11, gp16, sum19 (hw := hw), am20 (hw := hw), am23 (hw := hw), mx22 (hw := hw), mx18 (hw := hw), hgi]
  rfl

/-! ## The second half -/

theorem lane31 : k0_pay31 (F := Ideal) (ix2 t l) = ((l.val : ℝ) : EReal) := by
  pointwise [k0_pay31]
  exact lane_real l

theorem gl32 : k0_pay32 (F := Ideal) v200 v82 v88 v92 (ix2 t l) = gl (lg (k0_pay30 v200 v82 v88 v92) t) l := by
  pointwise [k0_pay32]
  exact sel_groups l _

theorem mx33 : k0_pay33 (F := Ideal) v200 v82 v88 v92 (ix2 t 0) = mx (gl (lg (k0_pay30 v200 v82 v88 v92) t)) := by
  pointwise [k0_pay33]
  simp only [bits_low, gl32]
  rfl

theorem gi34 : k0_pay34 (F := Ideal) v200 v82 v88 v92 (ix2 t 0) = gix (lg (k0_pay30 v200 v82 v88 v92) t) := by
  pointwise [k0_pay34]
  simp only [bits_high, bits_far, gl32, mx33, lane31]
  rfl

theorem gp35 : k0_pay35 (F := Ideal) v200 v82 v88 v92 (ix2 t 0)
    = Ideal.div 1 (∑ x, Ideal.exp (gl (lg (k0_pay30 v200 v82 v88 v92) t) x - mx (gl (lg (k0_pay30 v200 v82 v88 v92) t)))) := by
  pointwise [k0_pay35]
  simp only [gl32, mx33]

theorem el37 (hw : ∀ (t : Fin 256) (l : Fin 128), w (ix2 t l) = BitVec.ofNat 32 l.val) : k0_pay37 (F := Ideal) L w gi k0_pay36 (ix2 t l) = el (lg L t) (gi (ix2 t 0)) l := by
  pointwise [k0_pay37, k0_pay36]
  rw [hw]
  exact sel_experts l _ _

theorem mx38 (hw : ∀ (t : Fin 256) (l : Fin 128), w (ix2 t l) = BitVec.ofNat 32 l.val) : k0_pay38 (F := Ideal) L w gi k0_pay36 (ix2 t 0) = mx (el (lg L t) (gi (ix2 t 0))) := by
  pointwise [k0_pay38]
  simp only [bits_low, el37 (hw := hw)]
  rfl

theorem sum39 (hw : ∀ (t : Fin 256) (l : Fin 128), w (ix2 t l) = BitVec.ofNat 32 l.val) : k0_pay39 (F := Ideal) L w gi k0_pay36 (ix2 t 0) = ∑ x, Ideal.exp (el (lg L t) (gi (ix2 t 0)) x - mx (el (lg L t) (gi (ix2 t 0)))) := by
  pointwise [k0_pay39]
  simp only [el37 (hw := hw), mx38 (hw := hw)]

theorem am40 (hw : ∀ (t : Fin 256) (l : Fin 128), w (ix2 t l) = BitVec.ofNat 32 l.val) : k0_pay40 (F := Ideal) L w k0_pay31 gi k0_pay36 (ix2 t 0) = am (el (lg L t) (gi (ix2 t 0))) (mx (el (lg L t) (gi (ix2 t 0)))) := by
  pointwise [k0_pay40]
  simp only [bits_high, bits_far, el37 (hw := hw), mx38 (hw := hw), lane31]
  rfl

theorem but41 (hw : ∀ (t : Fin 256) (l : Fin 128), w (ix2 t l) = BitVec.ofNat 32 l.val) : k0_pay41 (F := Ideal) L w k0_pay31 gi k0_pay36 (ix2 t l)
    = but (el (lg L t) (gi (ix2 t 0))) (am (el (lg L t) (gi (ix2 t 0))) (mx (el (lg L t) (gi (ix2 t 0))))) l := by
  pointwise [k0_pay41]
  simp only [mask_eq, el37 (hw := hw), am40 (hw := hw), lane31]
  rfl

theorem mx42 (hw : ∀ (t : Fin 256) (l : Fin 128), w (ix2 t l) = BitVec.ofNat 32 l.val) : k0_pay42 (F := Ideal) L w k0_pay31 gi k0_pay36 (ix2 t 0)
    = mx (but (el (lg L t) (gi (ix2 t 0))) (am (el (lg L t) (gi (ix2 t 0))) (mx (el (lg L t) (gi (ix2 t 0)))))) := by
  pointwise [k0_pay42]
  simp only [bits_low, but41 (hw := hw)]
  rfl

theorem am43 (hw : ∀ (t : Fin 256) (l : Fin 128), w (ix2 t l) = BitVec.ofNat 32 l.val) : k0_pay43 (F := Ideal) L w k0_pay31 gi k0_pay36 (ix2 t 0)
    = am (but (el (lg L t) (gi (ix2 t 0))) (am (el (lg L t) (gi (ix2 t 0))) (mx (el (lg L t) (gi (ix2 t 0))))))
        (mx (but (el (lg L t) (gi (ix2 t 0))) (am (el (lg L t) (gi (ix2 t 0))) (mx (el (lg L t) (gi (ix2 t 0))))))) := by
  pointwise [k0_pay43]
  simp only [bits_high, bits_far, but41 (hw := hw), mx42 (hw := hw), lane31]
  rfl

/-- The route of a row of the second half. -/
theorem route1 (hw : ∀ (t : Fin 256) (l : Fin 128), w (ix2 t l) = BitVec.ofNat 32 l.val) (hgi : gi (ix2 t 0) = gix (lg (k0_pay30 v200 v82 v88 v92) t)) :
    k0_pay1 (F := Ideal) k0_pay31 gi (k0_pay35 v200 v82 v88 v92)
      (k0_pay43 (k0_pay30 v200 v82 v88 v92) w k0_pay31 gi k0_pay36)
      (k0_pay45 (k0_pay30 v200 v82 v88 v92) w k0_pay31 gi k0_pay36)
      (k0_pay46 (k0_pay30 v200 v82 v88 v92) w k0_pay31 gi k0_pay36)
      (k0_pay47 (k0_pay30 v200 v82 v88 v92) w k0_pay31 gi k0_pay36) (Scalar.ofBits .f32 0x00000000#32)
      (k0_pay48 (k0_pay30 v200 v82 v88 v92) w k0_pay31 gi (k0_pay35 v200 v82 v88 v92) k0_pay36) (ix2 t l)
    = route (lg (k0_pay30 v200 v82 v88 v92) t) (gix (lg (k0_pay30 v200 v82 v88 v92) t)) l := by
  pointwise [k0_pay1, k0_pay44, k0_pay45, k0_pay46, k0_pay47, k0_pay48]
  simp only [lane31, gp35, sum39 (hw := hw), am40 (hw := hw), am43 (hw := hw), mx42 (hw := hw), mx38 (hw := hw), hgi]
  rfl

end

end Cert.Kernel2Ideal.Route
end
-- ==== Proof.RowOf.lean ====
/- A token's row through the projection, the normalization and the router's weights, as sums of products; when it is finite;
   and the softmax of four values. -/
module

public import proofs.«01_k».proof.Proof.Pick

@[expose] public section

set_option maxRecDepth 16384

noncomputable section

namespace Cert.Route

open Idealize.ShloMosaic

/-- The number added under the root. -/
abbrev eps : EReal := Ideal.ofBits FTy.f32 897988541#32

/-- One over the root of the mean square of `n` values (the mean's divisor as it is written). -/
def inv {n : ℕ} (N : EReal) (f : Fin n → EReal) : EReal := Ideal.rsqrt (Ideal.div (∑ k, f k * f k) N + eps)

/-- The residual and the three products of a row. -/
def x1of (ya : Fin 256 → EReal) (yb : Fin 512 → EReal) (yc : Fin 256 → EReal) (x : Fin 1024 → EReal) (wa : Fin 256 → Fin 1024 → EReal)
    (wb : Fin 512 → Fin 1024 → EReal) (wc : Fin 256 → Fin 1024 → EReal) (fg : Fin 512 → EReal) (j : Fin 1024) : EReal :=
  x j + (∑ k, ya k * wa k j + ∑ k, yb k * inv (Ideal.ofBits FTy.f32 1140850688#32) yb * fg k * wb k j + ∑ k, yc k * wc k j)

/-- The row divided by its root mean square and scaled. -/
def h2of (x1 : Fin 1024 → EReal) (n2 : Fin 1024 → EReal) (j : Fin 1024) : EReal := x1 j * inv (Ideal.ofBits FTy.f32 1149239296#32) x1 * n2 j

/-- The logits of a row: the weights' two parts, what the row's rounding leaves, and the bias. -/
def lgof (h : Fin 1024 → EReal) (w : Fin 1024 → Fin 256 → EReal) (b : Fin 128 → EReal) (l : Fin 128) : EReal :=
  ∑ k, h k * w k ⟨l.val, by omega⟩ + ∑ k, h k * w k ⟨128 + l.val, by omega⟩ + ∑ k, (h k - h k) * w k ⟨l.val, by omega⟩ + b l

/-- The logits of a row: its products with the weights and the bias. -/
def rlg {n : ℕ} (h : Fin 1024 → EReal) (W : Fin 1024 → Fin n → EReal) (b : Fin n → EReal) (j : Fin n) : EReal := ∑ k, h k * W k j + b j

/-- A sum over the joined columns is the sum over the three parts. -/
theorem sum_three (f : Fin 1024 → EReal) :
    ∑ x, f x = ∑ k : Fin 256, f ⟨k.val, by omega⟩ + ∑ k : Fin 512, f ⟨256 + k.val, by omega⟩ + ∑ k : Fin 256, f ⟨768 + k.val, by omega⟩ := by
  have h1 := Fin.sum_univ_add (a := 768) (b := 256) f
  have h2 := Fin.sum_univ_add (a := 256) (b := 512) fun x : Fin 768 => f (Fin.castAdd 256 x)
  exact h1.trans (congrArg (· + ∑ k : Fin 256, f (Fin.natAdd 768 k)) h2)

theorem eps_real : ∃ e : ℝ, 0 < e ∧ eps = (e : EReal) := by
  refine ⟨8796093 / 2 ^ 43, by norm_num, ?_⟩
  unfold eps
  simp [Ideal.ofBits, Ideal.ieee, -EReal.coe_mul]
  norm_num

theorem width_real : Ideal.ofBits FTy.f32 1149239296#32 = ((1024 : ℝ) : EReal) := by
  simp [Ideal.ofBits, Ideal.ieee, -EReal.coe_mul]
  norm_num

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem sq_nonneg' (x : EReal) : 0 ≤ x * x := by
  rcases le_total 0 x with h | h
  · exact mul_nonneg h h
  · have := mul_nonneg (EReal.neg_nonneg.2 h) (EReal.neg_nonneg.2 h)
    rwa [neg_mul_neg] at this

/-- The normalized row is finite, whatever the row: an infinite row has an infinite mean square, and one over its root is 0. -/
theorem h2_real (x1 n2 : Fin 1024 → EReal) (hn : ∀ j, ∃ r : ℝ, n2 j = (r : EReal)) (j : Fin 1024) : ∃ r : ℝ, h2of x1 n2 j = (r : EReal) := by
  obtain ⟨e, he, hee⟩ := eps_real
  obtain ⟨n, hnj⟩ := hn j
  unfold h2of inv
  rw [width_real, Ideal.div_coe (by norm_num), hee, hnj]
  by_cases h : ∃ k, x1 k = ⊤ ∨ x1 k = ⊥
  · obtain ⟨k, hk⟩ := h
    have hs : ∑ k, x1 k * x1 k = ⊤ := by
      refine top_le_iff.1 ?_
      refine le_trans ?_ (Finset.single_le_sum (f := fun k => x1 k * x1 k) (fun i _ => sq_nonneg' _) (Finset.mem_univ k))
      rcases hk with hk | hk <;> simp [hk]
    rw [hs, EReal.top_mul_coe_of_pos (by norm_num), EReal.top_add_coe, Ideal.rsqrt_top]
    exact ⟨0, by simp⟩
  · have hr : ∀ k, ∃ r : ℝ, x1 k = (r : EReal) := fun k => by
      have h1 : x1 k ≠ ⊤ := fun hc => h ⟨k, Or.inl hc⟩
      have h2 : x1 k ≠ ⊥ := fun hc => h ⟨k, Or.inr hc⟩
      exact ⟨(x1 k).toReal, (EReal.coe_toReal h1 h2).symm⟩
    choose r hr using hr
    simp only [hr, ← EReal.coe_mul, sum_coe, ← EReal.coe_add]
    have hp : 0 < (∑ k, r k * r k) * (1 / 1024) + e := by
      have : 0 ≤ ∑ k, r k * r k := Finset.sum_nonneg fun k _ => mul_self_nonneg _
      positivity
    rw [Ideal.rsqrt_coe, if_neg (not_lt.2 hp.le), if_neg hp.ne', ← EReal.coe_mul, ← EReal.coe_mul]
    exact ⟨_, rfl⟩

theorem rlg_real {n : ℕ} (h : Fin 1024 → EReal) (W : Fin 1024 → Fin n → EReal) (b : Fin n → EReal) (hh : ∀ k, ∃ r : ℝ, h k = (r : EReal))
    (hW : ∀ k j, ∃ r : ℝ, W k j = (r : EReal)) (hb : ∀ j, ∃ r : ℝ, b j = (r : EReal)) (j : Fin n) : ∃ r : ℝ, rlg h W b j = (r : EReal) := by
  choose r hr using hh
  choose w hw using hW
  choose c hc using hb
  unfold rlg
  simp only [hr, hw, hc, ← EReal.coe_mul, sum_coe, ← EReal.coe_add]
  exact ⟨_, rfl⟩

/-- The logits from the two parts of the weights: the second part and what the row's rounding leaves are 0. -/
theorem lgof_eq {n : ℕ} (h : Fin 1024 → EReal) (w : Fin 1024 → Fin 256 → EReal) (b : Fin 128 → EReal) (W : Fin 1024 → Fin n → EReal) (c : Fin n → EReal)
    (hh : ∀ k, ∃ r : ℝ, h k = (r : EReal)) (hW : ∀ k j, ∃ r : ℝ, W k j = (r : EReal)) (l : Fin 128) (j : Fin n)
    (h0 : ∀ k, w k ⟨l.val, by omega⟩ = W k j) (h1 : ∀ k, w k ⟨128 + l.val, by omega⟩ = W k j - W k j) (hc : b l = c j) :
    lgof h w b l = rlg h W c j := by
  have hz : ∀ k, W k j - W k j = 0 := fun k => by
    obtain ⟨r, hr⟩ := hW k j
    rw [hr, ← EReal.coe_sub, sub_self, EReal.coe_zero]
  have hz' : ∀ k, h k - h k = 0 := fun k => by
    obtain ⟨r, hr⟩ := hh k
    rw [hr, ← EReal.coe_sub, sub_self, EReal.coe_zero]
  unfold lgof rlg
  simp only [h0, h1, hz, hz', mul_zero, zero_mul, Finset.sum_const_zero, add_zero, hc]

/-! ## The softmax of four values -/

/-- The softmax, as it is written: against the greatest value, taken from below. -/
def sm (u : Fin 4 → EReal) (j : Fin 4) : EReal :=
  Ideal.div (Ideal.exp (u j - max ⊥ (Finset.fold max ⊥ u Finset.univ))) (∑ x, Ideal.exp (u x - max ⊥ (Finset.fold max ⊥ u Finset.univ)))

theorem sm_eq {u : Fin 4 → EReal} {i : Fin 4} (hi : First u i) (j : Fin 4) : sm u j = Ideal.div (Ideal.exp (u j - u i)) (den u i) := by
  unfold sm den
  rw [fold_max u i hi, max_eq_right bot_le]

theorem sm_self {u : Fin 4 → EReal} (hu : ∀ j, ∃ r : ℝ, u j = (r : EReal)) {i : Fin 4} (hi : First u i) : sm u i = Ideal.div 1 (den u i) := by
  rw [sm_eq hi]
  obtain ⟨r, hr⟩ := hu i
  rw [hr, ← EReal.coe_sub, sub_self, Ideal.exp_coe, Real.exp_zero, EReal.coe_one]

/-- The softmax of finite values keeps their order. -/
theorem sm_lt {u : Fin 4 → EReal} (hu : ∀ j, ∃ r : ℝ, u j = (r : EReal)) (j k : Fin 4) : sm u j < sm u k ↔ u j < u k := by
  obtain ⟨hi, -⟩ := sorted_top u
  rw [sm_eq hi, sm_eq hi]
  generalize sortedFrom (fun k k' => decide (u k' < u k)) 0 = i
  choose r hr using hu
  have hd : den u i = ((∑ x, Real.exp (r x - r i) : ℝ) : EReal) := by
    unfold den
    simp only [hr, ← EReal.coe_sub, Ideal.exp_coe, sum_coe]
  have hp : 0 < ∑ x, Real.exp (r x - r i) := Finset.sum_pos (fun _ _ => Real.exp_pos _) ⟨0, Finset.mem_univ _⟩
  rw [hd, Ideal.div_coe hp.ne', Ideal.div_coe hp.ne', hr, hr, hr, ← EReal.coe_sub, ← EReal.coe_sub, Ideal.exp_coe, Ideal.exp_coe,
    ← EReal.coe_mul, ← EReal.coe_mul, EReal.coe_lt_coe_iff, EReal.coe_lt_coe_iff, mul_lt_mul_iff_left₀ (by positivity), Real.exp_lt_exp]
  constructor <;> intro h <;> linarith

/-! ## The route as the reference writes it -/

/-- The reference's row: the mark of the group, then the two experts' weights each at its own lane. -/
def wish (g i k : Fin 4) (vg : EReal) (v : Fin 2 → EReal) (l : Fin 128) : EReal :=
  if l.val < 4 then (if g.val = l.val then 1 else 0)
  else if l.val - 4 < 16 then
    ∑ s : Fin 2, (if g.val * 4 + (if s = 0 then i.val else k.val) = l.val - 4 then (1 : EReal) else 0) * (vg * Ideal.div (v s) (∑ x, v x))
  else 0

theorem wish_eq (g i k : Fin 4) (vg : EReal) (v : Fin 2 → EReal) (l : Fin 128) :
    mark ((g.val : ℝ) : EReal) vg (((4 + 4 * g.val + i.val : ℕ) : ℝ) : EReal) (((4 + 4 * g.val + k.val : ℕ) : ℝ) : EReal) (v 0) (v 1) l
    = wish g i k vg v l := by
  have hi := i.isLt
  have hk := k.isLt
  have hg := g.isLt
  unfold mark wish
  simp only [coe_nat_inj, Fin.sum_univ_two, if_true, if_neg (by decide : ¬ (1 : Fin 2) = 0)]
  by_cases h4 : l.val < 4
  · rw [if_pos h4, if_neg (by omega), if_neg (by omega), zero_add, zero_add]
    exact if_congr eq_comm rfl rfl
  · rw [if_neg h4]
    by_cases h16 : l.val - 4 < 16
    · rw [if_pos h16, if_neg (by omega : ¬ l.val = g.val), add_zero, ite_mul, ite_mul, one_mul, one_mul, zero_mul, zero_mul]
      exact congrArg₂ (· + ·) (if_congr (by omega) rfl rfl) (if_congr (by omega) rfl rfl)
    · rw [if_neg h16, if_neg (by omega), if_neg (by omega), if_neg (by omega), add_zero, add_zero]

/-- The route of finite logits is the reference's row, the picks read off the softmaxes. -/
theorem route_wish {L : Fin 128 → EReal} (hL : ∀ l : Fin 128, l.val < 20 → ∃ r : ℝ, L l = (r : EReal)) {g i k : Fin 4}
    (hg : First (sm (grp L)) g) (hi : First (sm (exs L g)) i) (hk : Second (sm (exs L g)) i k) (l : Fin 128) :
    route L (gix L) l = wish g i k (sm (grp L) g) (fun s => sm (exs L g) (if s = 0 then i else k)) l := by
  have hu := grp_real hL
  have hv := exs_real hL g
  have hg' : First (grp L) g := hg.of_lt (sm_lt hu)
  have hi' : First (exs L g) i := hi.of_lt (sm_lt hv)
  have hk' : Second (exs L g) i k := hk.of_lt (sm_lt hv)
  rw [route_eq hL hg' hi' hk', ← wish_eq, sm_self hu hg']
  simp only [if_true, if_neg (by decide : ¬ (1 : Fin 2) = 0)]
  rw [sm_self hv hi', sm_eq hi']

end Cert.Route
end
-- ==== Proof.Rows.lean ====
/- What the call writes for the rows of a tile, as expressions of the blocks it reads. -/
module

public import proofs.«01_k».proof.Proof.RouteRow
public import proofs.«01_k».proof.Proof.RowOf
public import Idealize.ShloMosaic.Lib.Pipeline.ValueKit

@[expose] public section

set_option maxRecDepth 16384

noncomputable section

namespace Cert.Kernel2Ideal.Route

open Idealize.ShloMosaic Cert.Kernel2Ideal Cert.Kernel2Ideal.Gen Cert.Route

section

variable (x0 : Vec Ideal S512x256 .bf16) (x1 : Vec Ideal S512x512 .bf16) (x2 : Vec Ideal S512x256 .bf16) (x3 : Vec Ideal S512x1024 .f32) (x4 : Vec Ideal S256x1024 .bf16) (x5 : Vec Ideal S512x1024 .bf16) (x6 : Vec Ideal S256x1024 .bf16) (x7 : Vec Ideal S1x512 .f32) (x8 : Vec Ideal S1x1024 .f32) (x9 : Vec Ideal S1024x256 .bf16) (x10 : Vec Ideal S1x128 .f32)

/-- Row `r` of the residual stream after the projection. -/
abbrev X1 (r : Fin 512) : Fin 1024 → EReal :=
  x1of (fun k => x0 (ix2 r k)) (fun k => x1 (ix2 r k)) (fun k => x2 (ix2 r k)) (fun k => x3 (ix2 r k)) (fun k j => x4 (ix2 k j)) (fun k j => x5 (ix2 k j))
    (fun k j => x6 (ix2 k j)) (fun k => x7 (ix2 0 k))

/-- Row `r` of the normalized stream. -/
abbrev H2 (r : Fin 512) : Fin 1024 → EReal := h2of (X1 x0 x1 x2 x3 x4 x5 x6 x7 r) (fun k => x8 (ix2 0 k))

/-- Row `r` of the logits. -/
abbrev LG (r : Fin 512) : Fin 128 → EReal := lgof (H2 x0 x1 x2 x3 x4 x5 x6 x7 x8 r) (fun k l => x9 (ix2 k l)) (fun l => x10 (ix2 0 l))

theorem x1_lo (t : Fin 256) (j : Fin 1024) : k0_pay51 (F := Ideal) x0 x1 x2 x3 x4 x5 x6 x7 x8 x9 x10 (ix2 t j) = X1 x0 x1 x2 x3 x4 x5 x6 x7 ⟨t.val, by omega⟩ j := by
  pointwise [k0_pay51, k0_pay49, k0_pay2, k0_pay6]
  rfl

theorem x1_hi (t : Fin 256) (j : Fin 1024) : k0_pay27 (F := Ideal) (k0_pay50 x0 x1 x2 x3 x4 x5 x6 x7 x8 x9 x10) (View.ld x3 r0_13) (ix2 t j) = X1 x0 x1 x2 x3 x4 x5 x6 x7 ⟨256 + t.val, by omega⟩ j := by
  pointwise [k0_pay27, k0_pay50, k0_pay5, k0_pay4, k0_pay3]
  rfl

theorem inv_lo (t : Fin 256) : k0_pay52 (F := Ideal) x0 x1 x2 x3 x4 x5 x6 x7 x8 x9 x10 (ix2 t 0) = inv (Ideal.ofBits FTy.f32 1149239296#32) (X1 x0 x1 x2 x3 x4 x5 x6 x7 ⟨t.val, by omega⟩) := by
  have h : ∀ x, k0_pay6 (k0_pay49 x0 x1 x2 x3 x4 x5 x6 x7 x8 x9 x10) (View.ld x3 r0_7) (ix2 t x) = X1 x0 x1 x2 x3 x4 x5 x6 x7 ⟨t.val, by omega⟩ x := x1_lo x0 x1 x2 x3 x4 x5 x6 x7 x8 x9 x10 t
  pointwise [k0_pay52, k0_pay7]
  simp only [h]
  rfl

theorem h2_hi (t : Fin 256) (j : Fin 1024) : k0_pay57 (F := Ideal) x0 x1 x2 x3 x4 x5 x6 x7 x8 x9 x10 (ix2 t j) = H2 x0 x1 x2 x3 x4 x5 x6 x7 x8 ⟨256 + t.val, by omega⟩ j := by
  pointwise [k0_pay57, k0_pay28]
  simp only [x1_hi]
  rfl

theorem h2_lo (t : Fin 256) (j : Fin 1024) : k0_pay8 (F := Ideal) (k0_pay51 x0 x1 x2 x3 x4 x5 x6 x7 x8 x9 x10) (k0_pay52 x0 x1 x2 x3 x4 x5 x6 x7 x8 x9 x10) (View.ld x8 r0_8) (ix2 t j) = H2 x0 x1 x2 x3 x4 x5 x6 x7 x8 ⟨t.val, by omega⟩ j := by
  pointwise [k0_pay8]
  simp only [x1_lo, inv_lo]
  rfl

theorem lg_lo (t : Fin 256) (l : Fin 128) : k0_pay54 (F := Ideal) x0 x1 x2 x3 x4 x5 x6 x7 x8 x9 x10 (ix2 t l) = LG x0 x1 x2 x3 x4 x5 x6 x7 x8 x9 x10 ⟨t.val, by omega⟩ l := by
  pointwise [k0_pay54, k0_pay10, k0_pay9]
  simp only [h2_lo]
  rfl

theorem lg_hi (t : Fin 256) (l : Fin 128) : k0_pay59 (F := Ideal) x0 x1 x2 x3 x4 x5 x6 x7 x8 x9 x10 (ix2 t l) = LG x0 x1 x2 x3 x4 x5 x6 x7 x8 x9 x10 ⟨256 + t.val, by omega⟩ l := by
  pointwise [k0_pay59, k0_pay30, k0_pay29]
  simp only [h2_hi]
  rfl

/-! ## The two halves put together -/

theorem not_hi {n : ℕ} (t : Fin 256) (j : Fin n) (inb) :
    (ix2 (⟨t.val, by omega⟩ : Fin 512) j : Shape.Idx ⟨2, ![512, n]⟩) ∉ (Rect.unit (s := ⟨2, ![512, n]⟩) ![256, 0] ![256, n] inb).set := by
  exact Rect.not_mem_set_of_axis (Rect.unit (s := ⟨2, ![512, n]⟩) ![256, 0] ![256, n] inb) (ix2 (⟨t.val, by omega⟩ : Fin 512) j) (0 : Fin 2) 256 256
    rfl rfl rfl (Or.inl t.isLt)

theorem emb_at {n b : ℕ} (t : Fin 256) (j : Fin n) (inb) (hb : b + t.val < 512) :
    (Rect.unit (s := ⟨2, ![512, n]⟩) ![b, 0] ![256, n] inb).emb (ix2 t j) = (ix2 (⟨b + t.val, hb⟩ : Fin 512) j : Shape.Idx ⟨2, ![512, n]⟩) := by
  funext a
  refine Fin.ext ?_
  fin_cases a <;> simp [Rect.emb, Rect.unit]

/-- What two stores, one for each half of the rows, leave in a row of the first half, -/
theorem halves_lo {n : ℕ} {e : EltTy} (inb inb') (p q : (⟨2, ![256, n]⟩ : Shape).Idx → Elt Ideal e) (t : Fin 256) (j : Fin n) (h : t.val < 512) :
    View.canon (Val := Elt Ideal) (s := ⟨2, ![512, n]⟩) (e := e)
      [⟨Rect.unit (s := ⟨2, ![512, n]⟩) ![256, 0] ![256, n] inb, p⟩, ⟨Rect.unit (s := ⟨2, ![512, n]⟩) ![0, 0] ![256, n] inb', q⟩] (ix2 ⟨t.val, h⟩ j)
    = q (ix2 t j) := by
  refine (View.canon_cons_of_not_mem (Val := Elt Ideal) (s := ⟨2, ![512, n]⟩) (e := e)
    ⟨Rect.unit (s := ⟨2, ![512, n]⟩) ![256, 0] ![256, n] inb, p⟩ _ (not_hi t j inb)).trans ?_
  have he : (ix2 ⟨t.val, h⟩ j : Shape.Idx ⟨2, ![512, n]⟩) = (Rect.unit (s := ⟨2, ![512, n]⟩) ![0, 0] ![256, n] inb').emb (ix2 t j) :=
    Eq.symm ((emb_at t j inb' (by omega)).trans (congrArg (ix2 · j) (Fin.ext (Nat.zero_add _))))
  rw [he]
  exact View.canon_cons_emb (Val := Elt Ideal) (s := ⟨2, ![512, n]⟩) (e := e) (Rect.unit (s := ⟨2, ![512, n]⟩) ![0, 0] ![256, n] inb') q [] (ix2 t j)

/-- and in a row of the second. -/
theorem halves_hi {n : ℕ} {e : EltTy} (inb inb') (p q : (⟨2, ![256, n]⟩ : Shape).Idx → Elt Ideal e) (t : Fin 256) (j : Fin n) (h : 256 + t.val < 512) :
    View.canon (Val := Elt Ideal) (s := ⟨2, ![512, n]⟩) (e := e)
      [⟨Rect.unit (s := ⟨2, ![512, n]⟩) ![256, 0] ![256, n] inb, p⟩, ⟨Rect.unit (s := ⟨2, ![512, n]⟩) ![0, 0] ![256, n] inb', q⟩] (ix2 ⟨256 + t.val, h⟩ j)
    = p (ix2 t j) := by
  rw [← emb_at t j inb h]
  exact View.canon_cons_emb (Val := Elt Ideal) (s := ⟨2, ![512, n]⟩) (e := e) (Rect.unit (s := ⟨2, ![512, n]⟩) ![256, 0] ![256, n] inb) p _ (ix2 t j)

theorem low_half {r : Fin 512} (h : r.val < 256) : ∃ t : Fin 256, r = ⟨t.val, lt_of_lt_of_le t.isLt (by norm_num)⟩ := ⟨⟨r.val, h⟩, rfl⟩

theorem high_half {r : Fin 512} (h : ¬ r.val < 256) : ∃ t : Fin 256, r = ⟨256 + t.val, Nat.add_lt_add_left t.isLt 256⟩ :=
  ⟨⟨r.val - 256, by omega⟩, Fin.ext (by simp only; omega)⟩

theorem out11 (r : Fin 512) (j : Fin 1024) : out0_11 (F := Ideal) x0 x1 x2 x3 x4 x5 x6 x7 x8 x9 x10 (ix2 r j) = X1 x0 x1 x2 x3 x4 x5 x6 x7 r j := by
  unfold out0_11
  by_cases h : r.val < 256
  · obtain ⟨t, rfl⟩ := low_half h
    exact (halves_lo _ _ _ _ t j _).trans (x1_lo x0 x1 x2 x3 x4 x5 x6 x7 x8 x9 x10 t j)
  · obtain ⟨t, rfl⟩ := high_half h
    exact (halves_hi _ _ _ _ t j _).trans (x1_hi x0 x1 x2 x3 x4 x5 x6 x7 x8 x9 x10 t j)

theorem out12 (r : Fin 512) (j : Fin 1024) : out0_12 (F := Ideal) x0 x1 x2 x3 x4 x5 x6 x7 x8 x9 x10 (ix2 r j) = H2 x0 x1 x2 x3 x4 x5 x6 x7 x8 r j := by
  unfold out0_12
  by_cases h : r.val < 256
  · obtain ⟨t, rfl⟩ := low_half h
    exact (halves_lo _ _ _ _ t j _).trans (h2_lo x0 x1 x2 x3 x4 x5 x6 x7 x8 x9 x10 t j)
  · obtain ⟨t, rfl⟩ := high_half h
    exact (halves_hi _ _ _ _ t j _).trans (h2_hi x0 x1 x2 x3 x4 x5 x6 x7 x8 x9 x10 t j)

theorem iota_at (t : Fin 256) (l : Fin 128) : (iota .tc S256x128 32 [1] iota_S256x128_d1_w32) (ix2 t l) = BitVec.ofNat 32 l.val := by
  pointwise []

theorem out13 (r : Fin 512) (l : Fin 128) : out0_13 (F := Ideal) x0 x1 x2 x3 x4 x5 x6 x7 x8 x9 x10 (ix2 r l) = route (LG x0 x1 x2 x3 x4 x5 x6 x7 x8 x9 x10 r) (gix (LG x0 x1 x2 x3 x4 x5 x6 x7 x8 x9 x10 r)) l := by
  unfold out0_13
  by_cases h : r.val < 256
  · obtain ⟨t, rfl⟩ := low_half h
    refine (halves_lo _ _ _ _ t l _).trans ?_
    have hl : lg (k0_pay10 (k0_pay51 x0 x1 x2 x3 x4 x5 x6 x7 x8 x9 x10) (k0_pay52 x0 x1 x2 x3 x4 x5 x6 x7 x8 x9 x10) (View.ld x8 r0_8) (View.ld x9 r0_9) (View.ld x9 r0_10) (View.ld x10 r0_11)) t
        = LG x0 x1 x2 x3 x4 x5 x6 x7 x8 x9 x10 ⟨t.val, lt_of_lt_of_le t.isLt (by norm_num)⟩ := funext fun x => lg_lo x0 x1 x2 x3 x4 x5 x6 x7 x8 x9 x10 t x
    rw [← hl]
    exact route26 _ _ _ _ _ _ _ _ t l iota_at (gi14 _ _ _ _ _ _ t)
  · obtain ⟨t, rfl⟩ := high_half h
    refine (halves_hi _ _ _ _ t l _).trans ?_
    have hl : lg (k0_pay30 (k0_pay57 x0 x1 x2 x3 x4 x5 x6 x7 x8 x9 x10) (View.ld x9 r0_9) (View.ld x9 r0_10) (View.ld x10 r0_11)) t
        = LG x0 x1 x2 x3 x4 x5 x6 x7 x8 x9 x10 ⟨256 + t.val, Nat.add_lt_add_left t.isLt 256⟩ := funext fun x => lg_hi x0 x1 x2 x3 x4 x5 x6 x7 x8 x9 x10 t x
    rw [← hl]
    exact route1 _ _ _ _ _ _ t l iota_at (gi34 _ _ _ _ t)

end

end Cert.Kernel2Ideal.Route
end
-- ==== Proof.Ref2.lean ====
/- The reference of the projection and the router, read at an entry. -/
module

public import proofs.«01_k».proof.Proof.Gen.Reference2Ideal.Run
public import proofs.«01_k».proof.Proof.Gen.Reference2Ideal.Read
public import proofs.«01_k».proof.Proof.RowOf
public import Idealize.ShloMosaic.Lib.Pointwise

@[expose] public section

set_option maxRecDepth 16384

noncomputable section

namespace Cert.Reference2Ideal.Route

open Idealize.ShloMosaic Cert.Reference2Ideal Cert.Reference2Ideal.Read Cert.Route

theorem bits_low : Ideal.ofBits FTy.f32 4286578688#32 = ⊥ := by simp [Ideal.ofBits, Ideal.ieee, -EReal.coe_mul]

/-- A one-hot entry. -/
theorem hot_word (a b : BitVec 32) : (FloatOps.uitofp FTy.f32 (IntOp.cmpi CmpIPredicate.eq a b) : Ideal .f32) = if a = b then 1 else 0 := by
  by_cases h : a = b <;> simp [IntOp.cmpi, h, FloatOps.uitofp]

/-- The order in which the picks are made. -/
theorem gt_word (x y : EReal) : ((FloatOps.cmpfTotal (F := Ideal) (φ := .f32) .gt x y == 1#1) : Bool) = decide (y < x) := by
  show ((Ideal.cmpTotal .gt x y == 1#1) : Bool) = _
  by_cases h : y < x <;> simp [Ideal.cmpTotal, Ideal.cmp, CmpDirection.ordered, h]

theorem along_at (t : Fin 16384) (a b : Fin 4) : Shape.Idx.along (s := S16384x4) (ix2 t a) 1 b = ix2 t b := by
  funext i
  fin_cases i <;> rfl

/-- The place of a pick among four values. -/
abbrev place (u : Fin 4 → EReal) (i : Fin 4) : Fin 4 := sortedFrom (fun k k' => decide (u k' < u k)) i

theorem sort_val (x : FVec Ideal S16384x4 .f32) (y : IVec S16384x4 32) (t : Fin 16384) (i : Fin 4) :
    (Host.sort2 S16384x4 1 (fun l r => FloatOps.cmpfTotal (F := Ideal) (φ := .f32) .gt l.1 r.1) x y).1 (ix2 t i) = x (ix2 t (place (fun k => x (ix2 t k)) i)) := by
  unfold Host.sort2
  rw [dif_pos (show 1 < S16384x4.rank by decide)]
  show x (Shape.Idx.along (s := S16384x4) (ix2 t i) 1 (sortedFrom (fun k k' =>
    FloatOps.cmpfTotal (F := Ideal) (φ := .f32) .gt (x (Shape.Idx.along (s := S16384x4) (ix2 t i) 1 k)) (x (Shape.Idx.along (s := S16384x4) (ix2 t i) 1 k')) == 1#1) i)) = _
  refine (congrArg x (along_at t i _)).trans ?_
  refine congrArg (fun R : Fin 4 → Fin 4 → Bool => x (ix2 t (sortedFrom R i))) (funext fun k => funext fun k' => ?_)
  exact (gt_word _ _).trans (by rw [along_at t i k, along_at t i k'])

theorem sort_idx (x : FVec Ideal S16384x4 .f32) (y : IVec S16384x4 32) (t : Fin 16384) (i : Fin 4) :
    (Host.sort2 S16384x4 1 (fun l r => FloatOps.cmpfTotal (F := Ideal) (φ := .f32) .gt l.1 r.1) x y).2 (ix2 t i) = y (ix2 t (place (fun k => x (ix2 t k)) i)) := by
  unfold Host.sort2
  rw [dif_pos (show 1 < S16384x4.rank by decide)]
  show y (Shape.Idx.along (s := S16384x4) (ix2 t i) 1 (sortedFrom (fun k k' =>
    FloatOps.cmpfTotal (F := Ideal) (φ := .f32) .gt (x (Shape.Idx.along (s := S16384x4) (ix2 t i) 1 k)) (x (Shape.Idx.along (s := S16384x4) (ix2 t i) 1 k')) == 1#1) i)) = _
  refine (congrArg y (along_at t i _)).trans ?_
  refine congrArg (fun R : Fin 4 → Fin 4 → Bool => y (ix2 t (sortedFrom R i))) (funext fun k => funext fun k' => ?_)
  exact (gt_word _ _).trans (by rw [along_at t i k, along_at t i k'])

/-- The four columns' numbers. -/
def cols : S16384x4.Idx → BitVec 32 := fun i => if hd : 1 < S16384x4.rank then iotaInDim S16384x4 32 ⟨1, hd⟩ i else 0#32

/-- The first columns of four. -/
theorem first_cols {α : Type} {n : ℕ} (hn : n ≤ 4) (v : S16384x4.Idx → α) (h : S16384x4.Slices (fun _ => 0) ⟨2, ![16384, n]⟩) (t : Fin 16384) (s : Fin n) :
    extractStridedSlice ⟨2, ![16384, n]⟩ (fun _ => 0) v h (ix2 t s) = v (ix2 t ⟨s.val, by omega⟩) := by
  refine congrArg v (funext fun a => Fin.ext ?_)
  fin_cases a <;> exact Nat.zero_add _

/-- The picks from a row of four values: their places, -/
theorem top_idx {n : ℕ} (hn : n ≤ 4) (x : FVec Ideal S16384x4 .f32) (h : S16384x4.Slices (fun _ => 0) ⟨2, ![16384, n]⟩) (t : Fin 16384) (s : Fin n) :
    (Host.topK ⟨2, ![16384, n]⟩ 1 (FloatOps.cmpfTotal (F := Ideal) (φ := .f32) .gt) x h).2 (ix2 t s)
    = BitVec.ofNat 32 (place (fun k => x (ix2 t k)) ⟨s.val, by omega⟩).val := by
  exact (first_cols hn (Host.sort2 S16384x4 1 (fun l r => FloatOps.cmpfTotal (F := Ideal) (φ := .f32) .gt l.1 r.1) x cols).2 h t s).trans
    ((sort_idx x cols t _).trans rfl)

/-- and the values there. -/
theorem top_val {n : ℕ} (hn : n ≤ 4) (x : FVec Ideal S16384x4 .f32) (h : S16384x4.Slices (fun _ => 0) ⟨2, ![16384, n]⟩) (t : Fin 16384) (s : Fin n) :
    (Host.topK ⟨2, ![16384, n]⟩ 1 (FloatOps.cmpfTotal (F := Ideal) (φ := .f32) .gt) x h).1 (ix2 t s)
    = x (ix2 t (place (fun k => x (ix2 t k)) ⟨s.val, by omega⟩)) := by
  exact (first_cols hn (Host.sort2 S16384x4 1 (fun l r => FloatOps.cmpfTotal (F := Ideal) (φ := .f32) .gt l.1 r.1) x cols).1 h t s).trans
    (sort_val x cols t _)

section

variable (x0 : (⟨S16384x256, .bf16⟩ : BufTy).Contents (Elt Ideal)) (x1 : (⟨S16384x512, .bf16⟩ : BufTy).Contents (Elt Ideal)) (x2 : (⟨S16384x256, .bf16⟩ : BufTy).Contents (Elt Ideal)) (x3 : (⟨S16384x1024, .f32⟩ : BufTy).Contents (Elt Ideal)) (x4 : (⟨S1024x1024, .f32⟩ : BufTy).Contents (Elt Ideal)) (x5 : (⟨S512, .f32⟩ : BufTy).Contents (Elt Ideal)) (x6 : (⟨S1024, .f32⟩ : BufTy).Contents (Elt Ideal)) (x7 : (⟨S1024x4, .f32⟩ : BufTy).Contents (Elt Ideal)) (x8 : (⟨S4, .f32⟩ : BufTy).Contents (Elt Ideal)) (x9 : (⟨S1024x16, .f32⟩ : BufTy).Contents (Elt Ideal)) (x10 : (⟨S16, .f32⟩ : BufTy).Contents (Elt Ideal)) (t : Fin 16384)

theorem x1_at (j : Fin 1024) : val_main_v18 (F := Ideal) x0 x1 x2 x3 x4 x5 (ix2 t j)
    = x1of (fun k => x0 (ix2 t k)) (fun k => x1 (ix2 t k)) (fun k => x2 (ix2 t k)) (fun k => x3 (ix2 t k)) (fun k j => x4 (ix2 ⟨k.val, by omega⟩ j))
        (fun k j => x4 (ix2 ⟨256 + k.val, by omega⟩ j)) (fun k j => x4 (ix2 ⟨768 + k.val, by omega⟩ j)) (fun k => x5 (ix1 k)) j := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c]
  unfold x1of
  refine congrArg (x3 (ix2 t j) + ·) ((sum_three _).trans ?_)
  refine congrArg₂ (· + ·) (congrArg₂ (· + ·) (Finset.sum_congr rfl fun k _ => ?_) (Finset.sum_congr rfl fun k _ => ?_)) (Finset.sum_congr rfl fun k _ => ?_)
  · rw [dif_pos k.isLt]
  · rw [dif_neg (show ¬ 256 + k.val < 256 by omega), dif_pos (show 256 + k.val - 256 < 512 by omega)]
    have hk : ∀ h, (⟨256 + k.val - 256, h⟩ : Fin 512) = k := fun h => Fin.ext (Nat.add_sub_cancel_left _ _)
    rw [hk]
    rfl
  · rw [dif_neg (show ¬ 768 + k.val < 256 by omega), dif_neg (show ¬ 768 + k.val - 256 < 512 by omega)]
    have hk : ∀ h, (⟨768 + k.val - 256 - 512, h⟩ : Fin 256) = k := fun h => Fin.ext (by simp only; omega)
    rw [hk]

theorem h2_at (j : Fin 1024) : val_main_v31 (F := Ideal) x0 x1 x2 x3 x4 x5 x6 (ix2 t j)
    = h2of (fun k => val_main_v18 (F := Ideal) x0 x1 x2 x3 x4 x5 (ix2 t k)) (fun k => x6 (ix1 k)) j := by
  pointwise [val_main_v31, val_main_v30, val_main_v29, val_main_v28, val_main_v27, val_main_v26, val_main_v25, val_main_v24, val_main_v23, val_main_v22, val_main_v21, val_main_v20, val_main_v19, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c]
  rfl

theorem bf_at (j : Fin 1024) : val_main_v83 (F := Ideal) x0 x1 x2 x3 x4 x5 x6 (ix2 t j) = val_main_v31 (F := Ideal) x0 x1 x2 x3 x4 x5 x6 (ix2 t j) := by
  pointwise [val_main_v83]

/-- Row `t`'s normalized stream. -/
abbrev hrow : Fin 1024 → EReal := fun k => val_main_v31 (F := Ideal) x0 x1 x2 x3 x4 x5 x6 (ix2 t k)

theorem gl_at (g : Fin 4) : val_main_v35 (F := Ideal) x0 x1 x2 x3 x4 x5 x6 x7 x8 (ix2 t g) = rlg (hrow x0 x1 x2 x3 x4 x5 x6 t) (fun k g => x7 (ix2 k g)) (fun g => x8 (ix1 g)) g := by
  pointwise [val_main_v35, val_main_v34, val_main_v33, val_main_v32, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c]
  rfl

theorem el_at (x : Fin 16) : val_main_v50 (F := Ideal) x0 x1 x2 x3 x4 x5 x6 x9 x10 (ix2 t x) = rlg (hrow x0 x1 x2 x3 x4 x5 x6 t) (fun k x => x9 (ix2 k x)) (fun x => x10 (ix1 x)) x := by
  pointwise [val_main_v50, val_main_v49, val_main_v48, val_main_v47, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c]
  rfl

/-- Row `t`'s group logits, -/
abbrev gLog : Fin 4 → EReal := rlg (hrow x0 x1 x2 x3 x4 x5 x6 t) (fun k g => x7 (ix2 k g)) (fun g => x8 (ix1 g))

/-- its experts' logits, -/
abbrev eLog : Fin 16 → EReal := rlg (hrow x0 x1 x2 x3 x4 x5 x6 t) (fun k x => x9 (ix2 k x)) (fun x => x10 (ix1 x))

/-- the group picked, -/
abbrev gpick : Fin 4 := place (sm (gLog x0 x1 x2 x3 x4 x5 x6 x7 x8 t)) 0

/-- the logits of the group's experts, -/
abbrev eGrp (j : Fin 4) : EReal := eLog x0 x1 x2 x3 x4 x5 x6 x9 x10 t ⟨(gpick x0 x1 x2 x3 x4 x5 x6 x7 x8 t).val * 4 + j.val, by omega⟩

/-- and the experts picked. -/
abbrev epick (s : Fin 2) : Fin 4 := place (sm (eGrp x0 x1 x2 x3 x4 x5 x6 x7 x8 x9 x10 t)) ⟨s.val, by omega⟩

theorem gsm_at (g : Fin 4) : val_main_v46 (F := Ideal) x0 x1 x2 x3 x4 x5 x6 x7 x8 (ix2 t g) = sm (gLog x0 x1 x2 x3 x4 x5 x6 x7 x8 t) g := by
  pointwise [val_main_v46, val_main_v45, val_main_v44, val_main_v43, val_main_v42, val_main_v41, val_main_v40, val_main_v39, val_main_v38, val_main_v37, val_main_v36, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c]
  simp only [bits_low, gl_at]
  rfl

theorem gval_at : val_main_values (F := Ideal) x0 x1 x2 x3 x4 x5 x6 x7 x8 (ix2 t 0) = sm (gLog x0 x1 x2 x3 x4 x5 x6 x7 x8 t) (gpick x0 x1 x2 x3 x4 x5 x6 x7 x8 t) := by
  refine (top_val (n := 1) (by norm_num) (val_main_v46 (F := Ideal) x0 x1 x2 x3 x4 x5 x6 x7 x8) _ t 0).trans ?_
  rw [gsm_at]
  exact congrArg (fun u => sm (gLog x0 x1 x2 x3 x4 x5 x6 x7 x8 t) (place u 0)) (funext fun g => gsm_at x0 x1 x2 x3 x4 x5 x6 x7 x8 t g : (fun k => val_main_v46 (F := Ideal) x0 x1 x2 x3 x4 x5 x6 x7 x8 (ix2 t k)) = sm (gLog x0 x1 x2 x3 x4 x5 x6 x7 x8 t))

theorem gidx_at : val_main_indices (F := Ideal) x0 x1 x2 x3 x4 x5 x6 x7 x8 (ix2 t 0) = BitVec.ofNat 32 (gpick x0 x1 x2 x3 x4 x5 x6 x7 x8 t).val := by
  refine (top_idx (n := 1) (by norm_num) (val_main_v46 (F := Ideal) x0 x1 x2 x3 x4 x5 x6 x7 x8) _ t 0).trans ?_
  exact congrArg (fun u => BitVec.ofNat 32 (place u 0).val) (funext fun g => gsm_at x0 x1 x2 x3 x4 x5 x6 x7 x8 t g : (fun k => val_main_v46 (F := Ideal) x0 x1 x2 x3 x4 x5 x6 x7 x8 (ix2 t k)) = sm (gLog x0 x1 x2 x3 x4 x5 x6 x7 x8 t))

theorem sel_at (g : Fin 4) : val_main_v53 (F := Ideal) x0 x1 x2 x3 x4 x5 x6 x7 x8 (ix2 t g) = if (gpick x0 x1 x2 x3 x4 x5 x6 x7 x8 t).val = g.val then 1 else 0 := by
  pointwise [val_main_v53, val_main_v52, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c, val_main_call0_v4, val_main_call0_v3, val_main_call0_v2, val_main_call0_v1, val_main_call0_v0]
  rw [hot_word, gidx_at]
  have h : ∀ a b : Fin 4, BitVec.ofNat 32 a.val = BitVec.ofNat 32 b.val ↔ a.val = b.val := by decide
  exact if_congr (h _ _) rfl rfl

theorem eg_at (e : Fin 4) : val_main_v54 (F := Ideal) x0 x1 x2 x3 x4 x5 x6 x7 x8 x9 x10 (ix2 t e) = eGrp x0 x1 x2 x3 x4 x5 x6 x7 x8 x9 x10 t e := by
  pointwise [val_main_v54, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c]
  have h : ∀ g : Fin 4, val_main_v51 (F := Ideal) x0 x1 x2 x3 x4 x5 x6 x9 x10 (ix3 t g e) = eLog x0 x1 x2 x3 x4 x5 x6 x9 x10 t ⟨g.val * 4 + e.val, by omega⟩ := fun g => by
    pointwise [val_main_v51]
    exact el_at x0 x1 x2 x3 x4 x5 x6 x9 x10 t _
  simp only [h, sel_at]
  rw [Finset.sum_eq_single (gpick x0 x1 x2 x3 x4 x5 x6 x7 x8 t)]
  · rw [if_pos rfl, one_mul]
  · intro b _ hb
    rw [if_neg (fun hc => hb (Fin.ext hc.symm)), zero_mul]
  · exact fun hc => absurd (Finset.mem_univ _) hc

theorem esm_at (e : Fin 4) : val_main_v65 (F := Ideal) x0 x1 x2 x3 x4 x5 x6 x7 x8 x9 x10 (ix2 t e) = sm (eGrp x0 x1 x2 x3 x4 x5 x6 x7 x8 x9 x10 t) e := by
  pointwise [val_main_v65, val_main_v64, val_main_v63, val_main_v62, val_main_v61, val_main_v60, val_main_v59, val_main_v58, val_main_v57, val_main_v56, val_main_v55, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c]
  simp only [bits_low, eg_at]
  rfl

theorem eval_at (s : Fin 2) : val_main_values_11 (F := Ideal) x0 x1 x2 x3 x4 x5 x6 x7 x8 x9 x10 (ix2 t s) = sm (eGrp x0 x1 x2 x3 x4 x5 x6 x7 x8 x9 x10 t) (epick x0 x1 x2 x3 x4 x5 x6 x7 x8 x9 x10 t s) := by
  refine (top_val (n := 2) (by norm_num) (val_main_v65 (F := Ideal) x0 x1 x2 x3 x4 x5 x6 x7 x8 x9 x10) _ t s).trans ?_
  rw [esm_at]
  exact congrArg (fun u => sm (eGrp x0 x1 x2 x3 x4 x5 x6 x7 x8 x9 x10 t) (place u ⟨s.val, by omega⟩)) (funext fun g => esm_at x0 x1 x2 x3 x4 x5 x6 x7 x8 x9 x10 t g : (fun k => val_main_v65 (F := Ideal) x0 x1 x2 x3 x4 x5 x6 x7 x8 x9 x10 (ix2 t k)) = sm (eGrp x0 x1 x2 x3 x4 x5 x6 x7 x8 x9 x10 t))

theorem eidx_at (s : Fin 2) : val_main_indices_12 (F := Ideal) x0 x1 x2 x3 x4 x5 x6 x7 x8 x9 x10 (ix2 t s) = BitVec.ofNat 32 (epick x0 x1 x2 x3 x4 x5 x6 x7 x8 x9 x10 t s).val := by
  refine (top_idx (n := 2) (by norm_num) (val_main_v65 (F := Ideal) x0 x1 x2 x3 x4 x5 x6 x7 x8 x9 x10) _ t s).trans ?_
  exact congrArg (fun u => BitVec.ofNat 32 (place u ⟨s.val, by omega⟩).val) (funext fun g => esm_at x0 x1 x2 x3 x4 x5 x6 x7 x8 x9 x10 t g : (fun k => val_main_v65 (F := Ideal) x0 x1 x2 x3 x4 x5 x6 x7 x8 x9 x10 (ix2 t k)) = sm (eGrp x0 x1 x2 x3 x4 x5 x6 x7 x8 x9 x10 t))

theorem combine_at (x : Fin 16) : val_main_v80 (F := Ideal) x0 x1 x2 x3 x4 x5 x6 x7 x8 x9 x10 (ix2 t x)
    = ∑ s : Fin 2, (if (gpick x0 x1 x2 x3 x4 x5 x6 x7 x8 t).val * 4 + (epick x0 x1 x2 x3 x4 x5 x6 x7 x8 x9 x10 t s).val = x.val then (1 : EReal) else 0)
        * (sm (gLog x0 x1 x2 x3 x4 x5 x6 x7 x8 t) (gpick x0 x1 x2 x3 x4 x5 x6 x7 x8 t) * Ideal.div (sm (eGrp x0 x1 x2 x3 x4 x5 x6 x7 x8 x9 x10 t) (epick x0 x1 x2 x3 x4 x5 x6 x7 x8 x9 x10 t s)) (∑ s : Fin 2, sm (eGrp x0 x1 x2 x3 x4 x5 x6 x7 x8 x9 x10 t) (epick x0 x1 x2 x3 x4 x5 x6 x7 x8 x9 x10 t s))) := by
  pointwise [val_main_v80, val_main_v79, val_main_v78, val_main_v77, val_main_v76, val_main_v75, val_main_v74, val_main_v73, val_main_v72, val_main_v71, val_main_v70, val_main_v69, val_main_v68, val_main_v67, val_main_v66, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c, val_main_call1_v4, val_main_call1_v3, val_main_call1_v2, val_main_call1_v1, val_main_call1_v0]
  simp only [hot_word, gidx_at, eidx_at, gval_at, eval_at]
  have h : ∀ (a b : Fin 4) (x : Fin 16), IntOp.addi (IntOp.muli (BitVec.ofNat 32 a.val) 4#32) (BitVec.ofNat 32 b.val) = BitVec.ofNat 32 x.val
      ↔ a.val * 4 + b.val = x.val := by decide +kernel
  simp only [h]

/-- The reference's route. -/
theorem route_at (l : Fin 128) : val_main_v82 (F := Ideal) x0 x1 x2 x3 x4 x5 x6 x7 x8 x9 x10 (ix2 t l)
    = wish (gpick x0 x1 x2 x3 x4 x5 x6 x7 x8 t) (epick x0 x1 x2 x3 x4 x5 x6 x7 x8 x9 x10 t 0) (epick x0 x1 x2 x3 x4 x5 x6 x7 x8 x9 x10 t 1) (sm (gLog x0 x1 x2 x3 x4 x5 x6 x7 x8 t) (gpick x0 x1 x2 x3 x4 x5 x6 x7 x8 t)) (fun s => sm (eGrp x0 x1 x2 x3 x4 x5 x6 x7 x8 x9 x10 t) (epick x0 x1 x2 x3 x4 x5 x6 x7 x8 x9 x10 t s)) l := by
  pointwise [val_main_v82, val_main_v81, val_main_cst, val_main_cst_0, val_main_cst_1, val_main_cst_2, val_main_cst_3, val_main_cst_4, val_main_cst_5, val_main_cst_6, val_main_cst_7, val_main_cst_8, val_main_cst_9, val_main_cst_10, val_main_cst_13, val_main_cst_14, val_main_cst_15, val_main_c]
  unfold wish
  by_cases h4 : l.val < 4
  · rw [dif_pos h4, if_pos h4, sel_at]
  · rw [dif_neg h4, if_neg h4]
    by_cases h16 : l.val - 4 < 16
    · rw [dif_pos h16, if_pos h16, combine_at]
      refine Finset.sum_congr rfl fun s _ => congrArg (· * _) (if_congr ?_ rfl rfl)
      fin_cases s <;> exact Iff.rfl
    · rw [dif_neg h16, if_neg h16]

end

end Cert.Reference2Ideal.Route
end
-- ==== Proof.Pre2.lean ====
/- What the precondition `finite` says: the second norm's scale and the router's weights and biases are real numbers. -/
module

public import proofs.«01_k».proof.Defs
public import Idealize.ShloMosaic.Lib.ReduceAll
public import Idealize.ShloMosaic.Lib.WordArith
public import Idealize.ShloMosaic.Lib.Pointwise

@[expose] public section

set_option maxRecDepth 16384

noncomputable section

namespace Cert.Route

open Idealize.ShloMosaic

theorem word_decide (p : Prop) [Decidable p] : BitVec.ofBool (decide p) = 1#1 ↔ p := by
  by_cases hp : p <;> simp [hp]

/-- A value whose magnitude is below infinity is a real number. -/
theorem real_of_abs (x : EReal) (h : (FloatOps.absf (F := Ideal) (φ := .f32) x : EReal) < Ideal.ofBits FTy.f32 2139095040#32) : ∃ r : ℝ, x = (r : EReal) := by
  have hi : Ideal.ofBits FTy.f32 2139095040#32 = ⊤ := by
    simp [Ideal.ofBits, Ideal.ieee]
  rw [hi] at h
  change max x (-x) < ⊤ at h
  obtain ⟨h1, h2⟩ := max_lt_iff.mp h
  refine ⟨x.toReal, (EReal.coe_toReal h1.ne ?_).symm⟩
  rintro rfl
  simp at h2

open Cert.Pre_finite in
theorem finite_args [Cert.Pre_finite.Facts] (x0 : FVec Ideal S16384x256 .bf16) (x1 : FVec Ideal S16384x512 .bf16) (x2 : FVec Ideal S16384x256 .bf16)
    (x3 : FVec Ideal S16384x1024 .f32) (x4 : FVec Ideal S1024x1024 .f32) (x5 : FVec Ideal S512 .f32) (x6 : FVec Ideal S1024 .f32) (x7 : FVec Ideal S1024x4 .f32)
    (x8 : FVec Ideal S4 .f32) (x9 : FVec Ideal S1024x16 .f32) (x10 : FVec Ideal S16 .f32)
    (h : Cert.Pre_finite.fn (F := Ideal) x0 x1 x2 x3 x4 x5 x6 x7 x8 x9 x10 ix0 = 1#1) :
    (∀ k : Fin 1024, ∃ r : ℝ, x6 (ix1 k) = (r : EReal)) ∧ (∀ (k : Fin 1024) (j : Fin 4), ∃ r : ℝ, x7 (ix2 k j) = (r : EReal))
    ∧ (∀ j : Fin 4, ∃ r : ℝ, x8 (ix1 j) = (r : EReal)) ∧ (∀ (k : Fin 1024) (j : Fin 16), ∃ r : ℝ, x9 (ix2 k j) = (r : EReal))
    ∧ (∀ j : Fin 16, ∃ r : ℝ, x10 (ix1 j) = (r : EReal)) := by
  dsimp only [Cert.Pre_finite.fn, Cert.Pre_finite.fn_part1] at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  refine ⟨?_, ?_, ?_, ?_, ?_⟩
  · intro k
    have e := Host.reduce_andi_all _ _ _ _ _ h0 (ix1 k)
    pointwise [] at e
    exact real_of_abs _ ((word_decide _).mp e)
  · intro k j
    have e := Host.reduce_andi_all _ _ _ _ _ h1 (ix2 k j)
    pointwise [] at e
    exact real_of_abs _ ((word_decide _).mp e)
  · intro j
    have e := Host.reduce_andi_all _ _ _ _ _ h2 (ix1 j)
    pointwise [] at e
    exact real_of_abs _ ((word_decide _).mp e)
  · intro k j
    have e := Host.reduce_andi_all _ _ _ _ _ h3 (ix2 k j)
    pointwise [] at e
    exact real_of_abs _ ((word_decide _).mp e)
  · intro j
    have e := Host.reduce_andi_all _ _ _ _ _ h4 (ix1 j)
    pointwise [] at e
    exact real_of_abs _ ((word_decide _).mp e)

end Cert.Route

end
-- ==== Proof.Blocks2.lean ====
/- The three result arrays of the projection and router call, entry by entry, against the reference. -/
module

public import proofs.«01_k».proof.Proof.Rows
public import proofs.«01_k».proof.Proof.Ref2
public import proofs.«01_k».proof.Proof.Pre2
public import proofs.«01_k».proof.Proof.Gen.Kernel2Ideal.Frame
public import proofs.«01_k».proof.Proof.Gen.Pre_finite
public import Idealize.ShloMosaic.Lib.Pipeline.ValueKit
public import Idealize.ShloMosaic.Lib.Claim
public import Idealize.ShloMosaic.Lib.StableHlo.ReadAt

@[expose] public section

set_option maxRecDepth 16384

noncomputable section

namespace Cert.Kernel2Ideal.Route

open Idealize.ShloMosaic Cert.Kernel2Ideal Cert.Kernel2Ideal.Gen Cert.Route

variable (m : (ℓ : Loc nD τ sig) → Buf (Elt Ideal) ℓ)

abbrev a0 (c : Dev nD) : (⟨S16384x256, .bf16⟩ : BufTy).Contents (Elt Ideal) := m ((c.tc : Thread nD τ).loc main_arg0)
abbrev a1 (c : Dev nD) : (⟨S16384x512, .bf16⟩ : BufTy).Contents (Elt Ideal) := m ((c.tc : Thread nD τ).loc main_arg1)
abbrev a2 (c : Dev nD) : (⟨S16384x256, .bf16⟩ : BufTy).Contents (Elt Ideal) := m ((c.tc : Thread nD τ).loc main_arg2)
abbrev a3 (c : Dev nD) : (⟨S16384x1024, .f32⟩ : BufTy).Contents (Elt Ideal) := m ((c.tc : Thread nD τ).loc main_arg3)
abbrev a4 (c : Dev nD) : (⟨S1024x1024, .f32⟩ : BufTy).Contents (Elt Ideal) := m ((c.tc : Thread nD τ).loc main_arg4)
abbrev a5 (c : Dev nD) : (⟨S512, .f32⟩ : BufTy).Contents (Elt Ideal) := m ((c.tc : Thread nD τ).loc main_arg5)
abbrev a6 (c : Dev nD) : (⟨S1024, .f32⟩ : BufTy).Contents (Elt Ideal) := m ((c.tc : Thread nD τ).loc main_arg6)
abbrev a7 (c : Dev nD) : (⟨S1024x4, .f32⟩ : BufTy).Contents (Elt Ideal) := m ((c.tc : Thread nD τ).loc main_arg7)
abbrev a8 (c : Dev nD) : (⟨S4, .f32⟩ : BufTy).Contents (Elt Ideal) := m ((c.tc : Thread nD τ).loc main_arg8)
abbrev a9 (c : Dev nD) : (⟨S1024x16, .f32⟩ : BufTy).Contents (Elt Ideal) := m ((c.tc : Thread nD τ).loc main_arg9)
abbrev a10 (c : Dev nD) : (⟨S16, .f32⟩ : BufTy).Contents (Elt Ideal) := m ((c.tc : Thread nD τ).loc main_arg10)

/-- Row `r` of tile `t` in the whole array. -/
def row (t : Fin cfg0.N) (r : Fin 512) : Fin 16384 := ⟨512 * t.val + r.val, by have := t.isLt; have : cfg0.N = 32 := rfl; omega⟩

theorem idx : ∀ t : Fin cfg0.grid.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0) :=
  (by decide +kernel : ∀ t : Fin grid0.N, _)

theorem V_wa (c : Dev nD) (k : Fin 256) (j : Fin 1024) : V m c main_v11 (ix2 k j) = a4 m c (ix2 ⟨k.val, by omega⟩ j) := by
  after_reads_at

theorem V_wb (c : Dev nD) (k : Fin 512) (j : Fin 1024) : V m c main_v12 (ix2 k j) = a4 m c (ix2 ⟨256 + k.val, by omega⟩ j) := by
  after_reads_at

theorem V_wc (c : Dev nD) (k : Fin 256) (j : Fin 1024) : V m c main_v13 (ix2 k j) = a4 m c (ix2 ⟨768 + k.val, by omega⟩ j) := by
  after_reads_at

theorem V_fg (c : Dev nD) (k : Fin 512) : V m c main_v14 (ix2 0 k) = a5 m c (ix1 k) := by
  after_reads_at

theorem V_n2 (c : Dev nD) (k : Fin 1024) : V m c main_v15 (ix2 0 k) = a6 m c (ix1 k) := by
  after_reads_at

theorem V_g0 (c : Dev nD) (k : Fin 1024) (j : Fin 4) : V m c main_v7 (ix2 k ⟨j.val, by omega⟩) = a7 m c (ix2 k j) := by
  after_reads_at
  rw [dif_pos (by omega)]
  rfl

theorem V_g1 (c : Dev nD) (k : Fin 1024) (j : Fin 4) : V m c main_v7 (ix2 k ⟨128 + j.val, by omega⟩) = a7 m c (ix2 k j) - a7 m c (ix2 k j) := by
  after_reads_at
  rfl

theorem V_e0 (c : Dev nD) (k : Fin 1024) (j : Fin 16) : V m c main_v7 (ix2 k ⟨4 + j.val, by omega⟩) = a9 m c (ix2 k j) := by
  after_reads_at
  rw [dif_pos (by omega)]
  rfl

theorem V_e1 (c : Dev nD) (k : Fin 1024) (j : Fin 16) : V m c main_v7 (ix2 k ⟨128 + (4 + j.val), by omega⟩) = a9 m c (ix2 k j) - a9 m c (ix2 k j) := by
  after_reads_at
  rfl

theorem V_gb (c : Dev nD) (j : Fin 4) : V m c main_v10 (ix2 0 ⟨j.val, by omega⟩) = a8 m c (ix1 j) := by
  after_reads_at
  rw [dif_pos (by omega)]
  rfl

theorem V_eb (c : Dev nD) (j : Fin 16) : V m c main_v10 (ix2 0 ⟨4 + j.val, by omega⟩) = a10 m c (ix1 j) := by
  after_reads_at
  rw [dif_pos (by omega)]
  rfl

theorem blk0 (c : Dev nD) (t : Fin cfg0.grid.N) (r : Fin 512) (k : Fin 256) : iblk m c 0 t (ix2 r k) = a0 m c (ix2 (row t r) k) := by
  blk_ext [iblk, V, idx t, row]

theorem blk1 (c : Dev nD) (t : Fin cfg0.grid.N) (r : Fin 512) (k : Fin 512) : iblk m c 1 t (ix2 r k) = a1 m c (ix2 (row t r) k) := by
  blk_ext [iblk, V, idx t, row]

theorem blk2 (c : Dev nD) (t : Fin cfg0.grid.N) (r : Fin 512) (k : Fin 256) : iblk m c 2 t (ix2 r k) = a2 m c (ix2 (row t r) k) := by
  blk_ext [iblk, V, idx t, row]

theorem blk3 (c : Dev nD) (t : Fin cfg0.grid.N) (r : Fin 512) (k : Fin 1024) : iblk m c 3 t (ix2 r k) = a3 m c (ix2 (row t r) k) := by
  blk_ext [iblk, V, idx t, row]

theorem blk4 (c : Dev nD) (t : Fin cfg0.grid.N) (k : Fin 256) (j : Fin 1024) : iblk m c 4 t (ix2 k j) = V m c main_v11 (ix2 k j) := by
  blk_ext [iblk, idx t]

theorem blk5 (c : Dev nD) (t : Fin cfg0.grid.N) (k : Fin 512) (j : Fin 1024) : iblk m c 5 t (ix2 k j) = V m c main_v12 (ix2 k j) := by
  blk_ext [iblk, idx t]

theorem blk6 (c : Dev nD) (t : Fin cfg0.grid.N) (k : Fin 256) (j : Fin 1024) : iblk m c 6 t (ix2 k j) = V m c main_v13 (ix2 k j) := by
  blk_ext [iblk, idx t]

theorem blk7 (c : Dev nD) (t : Fin cfg0.grid.N) (k : Fin 1) (j : Fin 512) : iblk m c 7 t (ix2 k j) = V m c main_v14 (ix2 k j) := by
  blk_ext [iblk, idx t]

theorem blk8 (c : Dev nD) (t : Fin cfg0.grid.N) (k : Fin 1) (j : Fin 1024) : iblk m c 8 t (ix2 k j) = V m c main_v15 (ix2 k j) := by
  blk_ext [iblk, idx t]

theorem blk9 (c : Dev nD) (t : Fin cfg0.grid.N) (k : Fin 1024) (j : Fin 256) : iblk m c 9 t (ix2 k j) = V m c main_v7 (ix2 k j) := by
  blk_ext [iblk, idx t]

theorem blk10 (c : Dev nD) (t : Fin cfg0.grid.N) (k : Fin 1) (j : Fin 128) : iblk m c 10 t (ix2 k j) = V m c main_v10 (ix2 k j) := by
  blk_ext [iblk, idx t]

end Cert.Kernel2Ideal.Route

end
-- ==== Proof.Array2.lean ====
/- The three result arrays of the projection and router call, entry by entry, against the reference. -/
module

public import proofs.«01_k».proof.Proof.Blocks2
public import Idealize.ShloMosaic.Lib.Pipeline.ValueKit
public import Idealize.ShloMosaic.Lib.Claim

@[expose] public section

set_option maxRecDepth 16384

noncomputable section

namespace Cert.Kernel2Ideal.Route

open Idealize.ShloMosaic Cert.Kernel2Ideal Cert.Kernel2Ideal.Gen Cert.Route

variable (m : (ℓ : Loc nD τ sig) → Buf (Elt Ideal) ℓ)

/-- The reference's three results of the launched arguments: the residual stream after the projection, -/
abbrev want11 (c : Dev nD) : (⟨S16384x1024, .f32⟩ : BufTy).Contents (Elt Ideal) := Cert.Reference2Ideal.Read.val_main_v18 (F := Ideal) (a0 m c) (a1 m c) (a2 m c) (a3 m c) (a4 m c) (a5 m c)

/-- its normalized rows, -/
abbrev want12 (c : Dev nD) : (⟨S16384x1024, .bf16⟩ : BufTy).Contents (Elt Ideal) := Cert.Reference2Ideal.Read.val_main_v83 (F := Ideal) (a0 m c) (a1 m c) (a2 m c) (a3 m c) (a4 m c) (a5 m c) (a6 m c)

/-- and the routing. -/
abbrev want13 (c : Dev nD) : (⟨S16384x128, .f32⟩ : BufTy).Contents (Elt Ideal) := Cert.Reference2Ideal.Read.val_main_v82 (F := Ideal) (a0 m c) (a1 m c) (a2 m c) (a3 m c) (a4 m c) (a5 m c) (a6 m c) (a7 m c) (a8 m c) (a9 m c) (a10 m c)

theorem wa_blk (c : Dev nD) (t : Fin cfg0.grid.N) (k : Fin 256) (j : Fin 1024) : iblk m c 4 t (ix2 k j) = a4 m c (ix2 ⟨k.val, by omega⟩ j) :=
  (blk4 m c t k j).trans (V_wa m c k j)

theorem wb_blk (c : Dev nD) (t : Fin cfg0.grid.N) (k : Fin 512) (j : Fin 1024) : iblk m c 5 t (ix2 k j) = a4 m c (ix2 ⟨256 + k.val, by omega⟩ j) :=
  (blk5 m c t k j).trans (V_wb m c k j)

theorem wc_blk (c : Dev nD) (t : Fin cfg0.grid.N) (k : Fin 256) (j : Fin 1024) : iblk m c 6 t (ix2 k j) = a4 m c (ix2 ⟨768 + k.val, by omega⟩ j) :=
  (blk6 m c t k j).trans (V_wc m c k j)

theorem fg_blk (c : Dev nD) (t : Fin cfg0.grid.N) (k : Fin 512) : iblk m c 7 t (ix2 0 k) = a5 m c (ix1 k) := (blk7 m c t 0 k).trans (V_fg m c k)

theorem n2_blk (c : Dev nD) (t : Fin cfg0.grid.N) (k : Fin 1024) : iblk m c 8 t (ix2 0 k) = a6 m c (ix1 k) := (blk8 m c t 0 k).trans (V_n2 m c k)

/-- A tile's row of the residual stream is the reference's. -/
theorem x1_row (c : Dev nD) (t : Fin cfg0.grid.N) (r : Fin 512) (j : Fin 1024) :
    X1 (iblk m c 0 t) (iblk m c 1 t) (iblk m c 2 t) (iblk m c 3 t) (iblk m c 4 t) (iblk m c 5 t) (iblk m c 6 t) (iblk m c 7 t) r j = want11 m c (ix2 (row t r) j) := by
  refine Eq.trans ?_ (Cert.Reference2Ideal.Route.x1_at (a0 m c) (a1 m c) (a2 m c) (a3 m c) (a4 m c) (a5 m c) (row t r) j).symm
  unfold X1
  simp only [blk0, blk1, blk2, blk3, wa_blk, wb_blk, wc_blk, fg_blk]

/-- So is its normalized row. -/
theorem h2_row (c : Dev nD) (t : Fin cfg0.grid.N) (r : Fin 512) :
    H2 (iblk m c 0 t) (iblk m c 1 t) (iblk m c 2 t) (iblk m c 3 t) (iblk m c 4 t) (iblk m c 5 t) (iblk m c 6 t) (iblk m c 7 t) (iblk m c 8 t) r = Cert.Reference2Ideal.Route.hrow (a0 m c) (a1 m c) (a2 m c) (a3 m c) (a4 m c) (a5 m c) (a6 m c) (row t r) := by
  funext j
  refine Eq.trans ?_ (Cert.Reference2Ideal.Route.h2_at (a0 m c) (a1 m c) (a2 m c) (a3 m c) (a4 m c) (a5 m c) (a6 m c) (row t r) j).symm
  unfold H2
  rw [funext (x1_row m c t r)]
  simp only [n2_blk]

/-- The arguments that `finite` speaks of are real numbers. -/
structure Reals (c : Dev nD) : Prop where
  n2 : ∀ k : Fin 1024, ∃ r : ℝ, a6 m c (ix1 k) = (r : EReal)
  gw : ∀ (k : Fin 1024) (j : Fin 4), ∃ r : ℝ, a7 m c (ix2 k j) = (r : EReal)
  gb : ∀ j : Fin 4, ∃ r : ℝ, a8 m c (ix1 j) = (r : EReal)
  ew : ∀ (k : Fin 1024) (j : Fin 16), ∃ r : ℝ, a9 m c (ix2 k j) = (r : EReal)
  eb : ∀ j : Fin 16, ∃ r : ℝ, a10 m c (ix1 j) = (r : EReal)

theorem hrow_real {c : Dev nD} (h : Reals m c) (t : Fin 16384) (k : Fin 1024) : ∃ r : ℝ, Cert.Reference2Ideal.Route.hrow (a0 m c) (a1 m c) (a2 m c) (a3 m c) (a4 m c) (a5 m c) (a6 m c) t k = (r : EReal) := by
  obtain ⟨r, hr⟩ := h2_real (fun k => Cert.Reference2Ideal.Read.val_main_v18 (F := Ideal) (a0 m c) (a1 m c) (a2 m c) (a3 m c) (a4 m c) (a5 m c) (ix2 t k)) (fun k => a6 m c (ix1 k)) h.n2 k
  exact ⟨r, (Cert.Reference2Ideal.Route.h2_at (a0 m c) (a1 m c) (a2 m c) (a3 m c) (a4 m c) (a5 m c) (a6 m c) t k).trans hr⟩

/-- The group lanes of a tile's row of logits are the reference's group logits, -/
theorem lg_group {c : Dev nD} (h : Reals m c) (t : Fin cfg0.grid.N) (r : Fin 512) (j : Fin 4) :
    LG (iblk m c 0 t) (iblk m c 1 t) (iblk m c 2 t) (iblk m c 3 t) (iblk m c 4 t) (iblk m c 5 t) (iblk m c 6 t) (iblk m c 7 t) (iblk m c 8 t) (iblk m c 9 t) (iblk m c 10 t) r ⟨j.val, by omega⟩ = Cert.Reference2Ideal.Route.gLog (a0 m c) (a1 m c) (a2 m c) (a3 m c) (a4 m c) (a5 m c) (a6 m c) (a7 m c) (a8 m c) (row t r) j := by
  unfold LG
  rw [h2_row]
  exact lgof_eq _ _ _ (fun k g => a7 m c (ix2 k g)) (fun g => a8 m c (ix1 g)) (hrow_real m h (row t r)) h.gw _ j
    (fun k => (blk9 m c t k _).trans (V_g0 m c k j)) (fun k => (blk9 m c t k _).trans (V_g1 m c k j)) ((blk10 m c t 0 _).trans (V_gb m c j))

/-- and the expert lanes its expert logits. -/
theorem lg_expert {c : Dev nD} (h : Reals m c) (t : Fin cfg0.grid.N) (r : Fin 512) (j : Fin 16) :
    LG (iblk m c 0 t) (iblk m c 1 t) (iblk m c 2 t) (iblk m c 3 t) (iblk m c 4 t) (iblk m c 5 t) (iblk m c 6 t) (iblk m c 7 t) (iblk m c 8 t) (iblk m c 9 t) (iblk m c 10 t) r ⟨4 + j.val, by omega⟩ = Cert.Reference2Ideal.Route.eLog (a0 m c) (a1 m c) (a2 m c) (a3 m c) (a4 m c) (a5 m c) (a6 m c) (a9 m c) (a10 m c) (row t r) j := by
  unfold LG
  rw [h2_row]
  exact lgof_eq _ _ _ (fun k x => a9 m c (ix2 k x)) (fun x => a10 m c (ix1 x)) (hrow_real m h (row t r)) h.ew _ j
    (fun k => (blk9 m c t k _).trans (V_e0 m c k j)) (fun k => (blk9 m c t k _).trans (V_e1 m c k j)) ((blk10 m c t 0 _).trans (V_eb m c j))

theorem lg_real {c : Dev nD} (h : Reals m c) (t : Fin cfg0.grid.N) (r : Fin 512) (l : Fin 128) (hl : l.val < 20) :
    ∃ q : ℝ, LG (iblk m c 0 t) (iblk m c 1 t) (iblk m c 2 t) (iblk m c 3 t) (iblk m c 4 t) (iblk m c 5 t) (iblk m c 6 t) (iblk m c 7 t) (iblk m c 8 t) (iblk m c 9 t) (iblk m c 10 t) r l = (q : EReal) := by
  by_cases h4 : l.val < 4
  · obtain ⟨q, hq⟩ := rlg_real _ _ _ (hrow_real m h (row t r)) h.gw h.gb ⟨l.val, h4⟩
    exact ⟨q, (lg_group m h t r ⟨l.val, h4⟩).trans hq⟩
  · obtain ⟨q, hq⟩ := rlg_real _ _ _ (hrow_real m h (row t r)) h.ew h.eb ⟨l.val - 4, by omega⟩
    have e : (⟨4 + (l.val - 4), by omega⟩ : Fin 128) = l := Fin.ext (by simp only; omega)
    exact ⟨q, e ▸ (lg_expert m h t r ⟨l.val - 4, by omega⟩).trans hq⟩

/-- A tile's row of the routing is the reference's. -/
theorem route_row {c : Dev nD} (h : Reals m c) (t : Fin cfg0.grid.N) (r : Fin 512) (l : Fin 128) :
    route (LG (iblk m c 0 t) (iblk m c 1 t) (iblk m c 2 t) (iblk m c 3 t) (iblk m c 4 t) (iblk m c 5 t) (iblk m c 6 t) (iblk m c 7 t) (iblk m c 8 t) (iblk m c 9 t) (iblk m c 10 t) r) (gix (LG (iblk m c 0 t) (iblk m c 1 t) (iblk m c 2 t) (iblk m c 3 t) (iblk m c 4 t) (iblk m c 5 t) (iblk m c 6 t) (iblk m c 7 t) (iblk m c 8 t) (iblk m c 9 t) (iblk m c 10 t) r)) l = want13 m c (ix2 (row t r) l) := by
  have hg : grp (LG (iblk m c 0 t) (iblk m c 1 t) (iblk m c 2 t) (iblk m c 3 t) (iblk m c 4 t) (iblk m c 5 t) (iblk m c 6 t) (iblk m c 7 t) (iblk m c 8 t) (iblk m c 9 t) (iblk m c 10 t) r) = Cert.Reference2Ideal.Route.gLog (a0 m c) (a1 m c) (a2 m c) (a3 m c) (a4 m c) (a5 m c) (a6 m c) (a7 m c) (a8 m c) (row t r) := funext fun j => lg_group m h t r j
  have he : exs (LG (iblk m c 0 t) (iblk m c 1 t) (iblk m c 2 t) (iblk m c 3 t) (iblk m c 4 t) (iblk m c 5 t) (iblk m c 6 t) (iblk m c 7 t) (iblk m c 8 t) (iblk m c 9 t) (iblk m c 10 t) r) (Cert.Reference2Ideal.Route.gpick (a0 m c) (a1 m c) (a2 m c) (a3 m c) (a4 m c) (a5 m c) (a6 m c) (a7 m c) (a8 m c) (row t r)) = Cert.Reference2Ideal.Route.eGrp (a0 m c) (a1 m c) (a2 m c) (a3 m c) (a4 m c) (a5 m c) (a6 m c) (a7 m c) (a8 m c) (a9 m c) (a10 m c) (row t r) := funext fun j =>
    (congrArg (LG (iblk m c 0 t) (iblk m c 1 t) (iblk m c 2 t) (iblk m c 3 t) (iblk m c 4 t) (iblk m c 5 t) (iblk m c 6 t) (iblk m c 7 t) (iblk m c 8 t) (iblk m c 9 t) (iblk m c 10 t) r) (Fin.ext (by simp only; omega))).trans
      (lg_expert m h t r ⟨(Cert.Reference2Ideal.Route.gpick (a0 m c) (a1 m c) (a2 m c) (a3 m c) (a4 m c) (a5 m c) (a6 m c) (a7 m c) (a8 m c) (row t r)).val * 4 + j.val, by omega⟩)
  have sg := sorted_top (sm (grp (LG (iblk m c 0 t) (iblk m c 1 t) (iblk m c 2 t) (iblk m c 3 t) (iblk m c 4 t) (iblk m c 5 t) (iblk m c 6 t) (iblk m c 7 t) (iblk m c 8 t) (iblk m c 9 t) (iblk m c 10 t) r)))
  have se := sorted_top (sm (exs (LG (iblk m c 0 t) (iblk m c 1 t) (iblk m c 2 t) (iblk m c 3 t) (iblk m c 4 t) (iblk m c 5 t) (iblk m c 6 t) (iblk m c 7 t) (iblk m c 8 t) (iblk m c 9 t) (iblk m c 10 t) r) (Cert.Reference2Ideal.Route.gpick (a0 m c) (a1 m c) (a2 m c) (a3 m c) (a4 m c) (a5 m c) (a6 m c) (a7 m c) (a8 m c) (row t r))))
  refine Eq.trans ?_ (Cert.Reference2Ideal.Route.route_at (a0 m c) (a1 m c) (a2 m c) (a3 m c) (a4 m c) (a5 m c) (a6 m c) (a7 m c) (a8 m c) (a9 m c) (a10 m c) (row t r) l).symm
  rw [hg] at sg
  rw [he] at se
  refine (route_wish (lg_real m h t r) (g := Cert.Reference2Ideal.Route.gpick (a0 m c) (a1 m c) (a2 m c) (a3 m c) (a4 m c) (a5 m c) (a6 m c) (a7 m c) (a8 m c) (row t r)) (i := Cert.Reference2Ideal.Route.epick (a0 m c) (a1 m c) (a2 m c) (a3 m c) (a4 m c) (a5 m c) (a6 m c) (a7 m c) (a8 m c) (a9 m c) (a10 m c) (row t r) 0) (k := Cert.Reference2Ideal.Route.epick (a0 m c) (a1 m c) (a2 m c) (a3 m c) (a4 m c) (a5 m c) (a6 m c) (a7 m c) (a8 m c) (a9 m c) (a10 m c) (row t r) 1)
    (by rw [hg]; exact sg.1) (by rw [he]; exact se.1) (by rw [he]; exact se.2) l).trans ?_
  rw [hg, he]
  refine congrArg (fun v => wish _ _ _ _ v l) (funext fun s => ?_)
  fin_cases s <;> rfl

theorem emb11 (t : Fin cfg0.grid.N) (r : Fin 512) (d : Fin 1024) :
    ((View.whole main_v16_0).slice (win0_11.rect t)).emb (ix2 r d) = (ix2 (row t r) d : S16384x1024.Idx) := by
  blk_ext [idx t, row]

theorem emb12 (t : Fin cfg0.grid.N) (r : Fin 512) (d : Fin 1024) :
    ((View.whole main_v16_1).slice (win0_12.rect t)).emb (ix2 r d) = (ix2 (row t r) d : S16384x1024.Idx) := by
  blk_ext [idx t, row]

theorem emb13 (t : Fin cfg0.grid.N) (r : Fin 512) (d : Fin 128) :
    ((View.whole main_v16_2).slice (win0_13.rect t)).emb (ix2 r d) = (ix2 (row t r) d : S16384x128.Idx) := by
  blk_ext [idx t, row]

/-- Result array 0 is the reference's. -/
theorem arr11 (c : Dev nD) : (dats m 0 c).arrAt 11 (cfgs 0).N = want11 m c := by
  refine (dats m 0 c).arrAt_eq_of_covers 11 _ (by decide +kernel) fun t hf y => ?_
  blk_simp
  rw [after0_11]
  obtain ⟨r, d, rfl⟩ : ∃ (r : Fin 512) (d : Fin 1024), y = ix2 r d := ⟨y 0, y 1, eq_ix2 y⟩
  refine (out11 (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans ?_
  refine Eq.trans ?_ (congrArg (want11 m c) (emb11 t r d)).symm
  exact x1_row m c t r d

/-- Result array 1 is the reference's. -/
theorem arr12 (c : Dev nD) : (dats m 0 c).arrAt 12 (cfgs 0).N = want12 m c := by
  refine (dats m 0 c).arrAt_eq_of_covers 12 _ (by decide +kernel) fun t hf y => ?_
  blk_simp
  rw [after0_12]
  obtain ⟨r, d, rfl⟩ : ∃ (r : Fin 512) (d : Fin 1024), y = ix2 r d := ⟨y 0, y 1, eq_ix2 y⟩
  refine (out12 (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans ?_
  refine Eq.trans ?_ (congrArg (want12 m c) (emb12 t r d)).symm
  exact (congrFun (h2_row m c t r) d).trans (Cert.Reference2Ideal.Route.bf_at (a0 m c) (a1 m c) (a2 m c) (a3 m c) (a4 m c) (a5 m c) (a6 m c) (row t r) d).symm

/-- Result array 2 is the reference's. -/
theorem arr13 {c : Dev nD} (h : Reals m c) : (dats m 0 c).arrAt 13 (cfgs 0).N = want13 m c := by
  refine (dats m 0 c).arrAt_eq_of_covers 13 _ (by decide +kernel) fun t hf y => ?_
  blk_simp
  rw [after0_13]
  obtain ⟨r, d, rfl⟩ : ∃ (r : Fin 512) (d : Fin 128), y = ix2 r d := ⟨y 0, y 1, eq_ix2 y⟩
  refine (out13 (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans ?_
  refine Eq.trans ?_ (congrArg (want13 m c) (emb13 t r d)).symm
  exact route_row m h t r d

open Idealize.SL.Sem

/-- From arguments that meet `finite` the call and the reference end with the same three arrays. -/
theorem algebraic [Cert.Pre_finite.Facts] : Cert.algebraic_Kernel2Ideal_Reference2Ideal_pre_finite := by
  intro m g m' g' hpre hagree
  have hr : ∀ c : Dev nD, Reals m c := fun c => by
    obtain ⟨h0, h1, h2, h3, h4⟩ := finite_args _ _ _ _ _ _ _ _ _ _ _ (congrFun (hpre c) ix0)
    exact ⟨h0, h1, h2, h3, h4⟩
  refine ⟨fun c => want11 m c, fun c => want12 m c, fun c => want13 m c, ?_, ?_⟩
  · refine (θ_run defs _ _).mono (fun r h c => ?_) (θ_run_and (run_main m g) (frame (F := Ideal) m g))
    exact ⟨((h.1 c).1 11).trans (arr11 m c), ((h.1 c).1 12).trans (arr12 m c), ((h.1 c).1 13).trans (arr13 m (hr c)), h.2.1 c⟩
  · refine (θ_run Cert.Reference2Ideal.defs _ _).mono (fun r h c => ?_) (Cert.Reference2Ideal.Value.run m' g')
    obtain ⟨e0, e1, e2, e3, e4, e5, e6, e7, e8, e9, e10⟩ := hagree c
    refine ⟨(h c).1.trans ?_, (h c).2.1.trans ?_, (h c).2.2.1.trans ?_, (h c).2.2.2⟩
    · refine (Cert.Reference2Ideal.Read.val_main_v18_eq _).trans ?_
      show Cert.Reference2Ideal.Read.val_main_v18 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) = want11 m c
      rw [e0, e1, e2, e3, e4, e5]
    · refine (Cert.Reference2Ideal.Read.val_main_v83_eq _).trans ?_
      show Cert.Reference2Ideal.Read.val_main_v83 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) = want12 m c
      rw [e0, e1, e2, e3, e4, e5, e6]
    · refine (Cert.Reference2Ideal.Read.val_main_v82_eq _).trans ?_
      show Cert.Reference2Ideal.Read.val_main_v82 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) = want13 m c
      rw [e0, e1, e2, e3, e4, e5, e6, e7, e8, e9, e10]

end Cert.Kernel2Ideal.Route

end
-- ==== Proof.Proj.lean ====
/- A token of the input projection: its normalized row, the products with the weights, and the queries by heads. -/
module

public import proofs.«01_k».proof.Proof.RowOf
public import proofs.«01_k».proof.Proof.Gen.Kernel3Ideal.Skeleton
public import Idealize.ShloMosaic.Lib.Pointwise

@[expose] public section

set_option maxRecDepth 16384

noncomputable section

namespace Cert.Kernel3Ideal.Proj

open Idealize.ShloMosaic Cert.Kernel3Ideal Cert.Kernel3Ideal.Gen Cert.Route

/-- A row's products with the columns of a matrix. -/
def pr {n : ℕ} (h : Fin 1024 → EReal) (w : Fin 1024 → Fin n → EReal) (j : Fin n) : EReal := ∑ k, h k * w k j

/-- Entry `d` of head `a` of a row, normalized within the head. -/
def qn (u : Fin 512 → EReal) (g : Fin 512 → EReal) (j : Fin 512) : EReal :=
  u j * inv (Ideal.ofBits FTy.f32 1115684864#32) (fun d : Fin 64 => u ⟨64 * (j.val / 64) + d.val, by omega⟩) * g j

/-- A head's lanes: its entries, three ones, and zeros. -/
def lane (u : Fin 512 → EReal) (g : Fin 512 → EReal) (a : Fin 8) (l : Fin 128) : EReal :=
  if h : l.val < 64 then qn u g ⟨64 * a.val + l.val, by omega⟩ else if l.val < 67 then 1 else 0

theorem h13 (v47 : Vec Ideal S256x1024 .f32) (v58 : Vec Ideal S1x1024 .f32) (t : Fin 256) (k : Fin 1024) :
    k0_pay13 (F := Ideal) v47 v58 (ix2 t k) = h2of (fun k => v47 (ix2 t k)) (fun k => v58 (ix2 0 k)) k := by
  pointwise [k0_pay13]
  rfl

theorem h21 (v47 : Vec Ideal S256x1024 .f32) (v58 : Vec Ideal S1x1024 .f32) (t : Fin 256) (k : Fin 1024) :
    k0_pay21 (F := Ideal) v47 v58 (ix2 t k) = h2of (fun k => v47 (ix2 t k)) (fun k => v58 (ix2 0 k)) k := by
  pointwise [k0_pay21]
  rfl

theorem p20 (h : FVec Ideal S256x1024 .bf16) (w : Vec Ideal S1024x896 .bf16) (t : Fin 256) (j : Fin 896) :
    k0_pay20 (F := Ideal) h w (ix2 t j) = pr (fun k => h (ix2 t k)) (fun k j => w (ix2 k j)) j := by
  pointwise [k0_pay20]
  rfl

theorem p80 (h : FVec Ideal S256x1024 .bf16) (w : Vec Ideal S1024x896 .bf16) (t : Fin 256) (j : Fin 896) :
    k0_pay80 (F := Ideal) h w (ix2 t j) = pr (fun k => h (ix2 t k)) (fun k j => w (ix2 k j)) j := by
  pointwise [k0_pay80]
  rfl

theorem v19 (h : FVec Ideal S256x1024 .bf16) (w : Vec Ideal S1024x512 .bf16) (t : Fin 256) (j : Fin 512) :
    k0_pay79 (k0_pay19 (F := Ideal) h w) (ix2 j t) = pr (fun k => h (ix2 t k)) (fun k j => w (ix2 k j)) j := by
  pointwise [k0_pay79, k0_pay19]
  rfl

theorem v78 (h : FVec Ideal S256x1024 .bf16) (w : Vec Ideal S1024x512 .bf16) (t : Fin 256) (j : Fin 512) :
    k0_pay136 (k0_pay78 (F := Ideal) h w) (ix2 j t) = pr (fun k => h (ix2 t k)) (fun k j => w (ix2 k j)) j := by
  pointwise [k0_pay136, k0_pay78]
  rfl

theorem u16 (v47 : Vec Ideal S256x1024 .f32) (v58 : Vec Ideal S1x1024 .f32) (w : Vec Ideal S1024x512 .bf16) (t : Fin 256) (j : Fin 512) :
    k0_pay16 (F := Ideal) v47 v58 w (ix2 t j) = pr (h2of (fun k => v47 (ix2 t k)) (fun k => v58 (ix2 0 k))) (fun k j => w (ix2 k j)) j := by
  pointwise [k0_pay16]
  simp only [h13]
  rfl

theorem u56 (h : FVec Ideal S256x1024 .bf16) (w : Vec Ideal S1024x512 .bf16) (t : Fin 256) (j : Fin 512) :
    k0_pay56 (F := Ideal) h w (ix2 t j) = pr (fun k => h (ix2 t k)) (fun k j => w (ix2 k j)) j := by
  pointwise [k0_pay56]
  rfl

theorem shift_eq (a b : Fin 512) :
    IntOp.cmpi .eq (IntOp.shrsi ArithUnit.vector (BitVec.ofNat 32 a.val) 6#32) (IntOp.shrsi ArithUnit.vector (BitVec.ofNat 32 b.val) 6#32)
      = if a.val / 64 = b.val / 64 then 1#1 else 0#1 := by
  have h (c : Fin 512) : IntOp.shrsi ArithUnit.vector (BitVec.ofNat 32 c.val) 6#32 = BitVec.ofNat 32 (c.val / 64) := by
    revert c
    decide +kernel
  rw [h, h]
  by_cases e : a.val / 64 = b.val / 64
  · simp [IntOp.cmpi, e]
  · have w : (BitVec.ofNat 32 (a.val / 64) == BitVec.ofNat 32 (b.val / 64)) = false :=
      beq_eq_false_iff_ne.mpr fun w => e (by
        have := congrArg BitVec.toNat w
        simp only [BitVec.toNat_ofNat] at this
        omega)
    simp [IntOp.cmpi, e, w]

theorem ones_at (k j : Fin 512) : k0_pay7 (F := Ideal) (ix2 k j) = if k.val / 64 = j.val / 64 then (1 : EReal) else 0 := by
  pointwise [k0_pay7]
  rw [shift_eq]
  by_cases e : k.val / 64 = j.val / 64 <;> simp [e, Scalar.select]

/-- A sum over the columns of one head. -/
theorem head_sum (f : Fin 512 → EReal) (j : Fin 512) :
    (∑ x : Fin 512, f x * if x.val / 64 = j.val / 64 then (1 : EReal) else 0) = ∑ d : Fin 64, f ⟨64 * (j.val / 64) + d.val, by omega⟩ := by
  simp only [mul_ite, mul_one, mul_zero]
  rw [← Finset.sum_filter]
  refine (Finset.sum_bij (fun d _ => (⟨64 * (j.val / 64) + d.val, by omega⟩ : Fin 512)) (fun d _ => ?_) (fun a _ b _ h => ?_) (fun x hx => ?_) fun _ _ => rfl).symm
  · exact Finset.mem_filter.mpr ⟨Finset.mem_univ _, by simp only; omega⟩
  · have := congrArg Fin.val h
    exact Fin.ext (by simp only at this; omega)
  · have e := (Finset.mem_filter.mp hx).2
    exact ⟨⟨x.val % 64, by omega⟩, Finset.mem_univ _, Fin.ext (by simp only; omega)⟩

theorem bits_64 : Ideal.ofBits FTy.f32 1115684864#32 = ((64 : ℝ) : EReal) := by
  simp [Ideal.ofBits, Ideal.ieee, -EReal.coe_mul]; norm_num

theorem bits_64th : Ideal.ofBits FTy.f32 1015021568#32 = ((1 / 64 : ℝ) : EReal) := by
  simp [Ideal.ofBits, Ideal.ieee, -EReal.coe_mul]; norm_num

theorem div_64 (x : EReal) : x * Ideal.ofBits FTy.f32 1015021568#32 = Ideal.div x (Ideal.ofBits FTy.f32 1115684864#32) := by
  rw [bits_64, bits_64th, Ideal.div_coe (by norm_num)]

theorem q57 (u : FVec Ideal S256x512 .f32) (g : Vec Ideal S1x512 .f32) (t : Fin 256) (j : Fin 512) :
    k0_pay57 (F := Ideal) k0_pay7 u g (ix2 t j) = qn (fun j => u (ix2 t j)) (fun j => g (ix2 0 j)) j := by
  pointwise [k0_pay57]
  simp only [ones_at]
  rw [head_sum (fun x => u (ix2 t x) * u (ix2 t x)) j, div_64]
  rfl

theorem q115 (u : FVec Ideal S256x512 .f32) (g : Vec Ideal S1x512 .f32) (t : Fin 256) (j : Fin 512) :
    k0_pay115 (F := Ideal) k0_pay7 u (k0_pay114 u) (constant S256x512 .f32 0x00000000#32) g (ix2 t j) = qn (fun j => u (ix2 t j)) (fun j => g (ix2 0 j)) j := by
  pointwise [k0_pay115, k0_pay114]
  simp only [ones_at]
  rw [head_sum (fun x => u (ix2 t x) * u (ix2 t x)) j, div_64]
  rfl

theorem lane_words (l : Fin 128) (x : EReal) :
    Scalar.select (IntOp.cmpi CmpIPredicate.slt (BitVec.ofNat 32 l.val) 64#32) x
      (Scalar.select (IntOp.andi (IntOp.cmpi CmpIPredicate.sge (BitVec.ofNat 32 l.val) 64#32) (IntOp.cmpi CmpIPredicate.slt (BitVec.ofNat 32 l.val) 67#32)) (1 : EReal) 0)
    = if l.val < 64 then x else if l.val < 67 then 1 else 0 := by
  have h1 : IntOp.cmpi CmpIPredicate.slt (BitVec.ofNat 32 l.val) 64#32 = if l.val < 64 then 1#1 else 0#1 := by
    revert l; decide +kernel
  have h2 : IntOp.andi (IntOp.cmpi CmpIPredicate.sge (BitVec.ofNat 32 l.val) 64#32) (IntOp.cmpi CmpIPredicate.slt (BitVec.ofNat 32 l.val) 67#32)
      = if 64 ≤ l.val ∧ l.val < 67 then 1#1 else 0#1 := by
    revert l; decide +kernel
  rw [h1, h2]
  by_cases a : l.val < 64
  · simp [a, Scalar.select]
  · by_cases b : l.val < 67 <;> simp [a, b, Scalar.select, Nat.not_lt.mp a]

/-- The mask of the lanes of ones, as numbers. -/
abbrev mask : FVec Ideal S256x128 .f32 := k0_pay11 k0_pay10 (Scalar.ofBits .f32 0x3F800000#32) (Scalar.ofBits .f32 0x00000000#32)

theorem lane_at {u g : Fin 512 → EReal} {a : Fin 8} {l : Fin 128} {j : Fin 512} (h : l.val < 64 → j.val = 64 * a.val + l.val) :
    (if l.val < 64 then qn u g j else if l.val < 67 then 1 else 0) = lane u g a l := by
  unfold lane
  by_cases c : l.val < 64
  · rw [if_pos c, dif_pos c]
    exact congrArg (qn u g) (Fin.ext (h c))
  · rw [if_neg c, dif_neg c]

theorem q58 (u : FVec Ideal S256x512 .f32) (g : Vec Ideal S1x512 .f32) (t : Fin 256) (l : Fin 128) :
    k0_pay58 (F := Ideal) k0_pay7 k0_pay9 mask u g (ix2 l t) = lane (fun j => u (ix2 t j)) (fun j => g (ix2 0 j)) 0 l := by
  pointwise [k0_pay58, k0_pay9, k0_pay10, k0_pay11]
  simp only [q57, lane_words]
  exact lane_at fun _ => by simp only [Fin.val_ofNat]; omega

theorem q59 (u : FVec Ideal S256x512 .f32) (g : Vec Ideal S1x512 .f32) (t : Fin 256) (l : Fin 128) :
    k0_pay59 (F := Ideal) k0_pay7 k0_pay9 mask u g (ix2 l t) = lane (fun j => u (ix2 t j)) (fun j => g (ix2 0 j)) 1 l := by
  pointwise [k0_pay59, k0_pay9, k0_pay10, k0_pay11]
  simp only [q57, lane_words]
  exact lane_at fun _ => by simp only [Fin.val_ofNat]; omega

theorem q60 (u : FVec Ideal S256x512 .f32) (g : Vec Ideal S1x512 .f32) (t : Fin 256) (l : Fin 128) :
    k0_pay60 (F := Ideal) k0_pay9 mask (k0_pay57 k0_pay7 u g) (ix2 l t) = lane (fun j => u (ix2 t j)) (fun j => g (ix2 0 j)) 2 l := by
  pointwise [k0_pay60, k0_pay9, k0_pay10, k0_pay11]
  simp only [q57, lane_words]
  exact lane_at fun _ => by simp only [Fin.val_ofNat]; omega

theorem q61 (u : FVec Ideal S256x512 .f32) (g : Vec Ideal S1x512 .f32) (t : Fin 256) (l : Fin 128) :
    k0_pay61 (F := Ideal) k0_pay9 mask (k0_pay57 k0_pay7 u g) (ix2 l t) = lane (fun j => u (ix2 t j)) (fun j => g (ix2 0 j)) 3 l := by
  pointwise [k0_pay61, k0_pay9, k0_pay10, k0_pay11]
  simp only [q57, lane_words]
  exact lane_at fun _ => by simp only [Fin.val_ofNat]; omega

theorem q62 (u : FVec Ideal S256x512 .f32) (g : Vec Ideal S1x512 .f32) (t : Fin 256) (l : Fin 128) :
    k0_pay62 (F := Ideal) k0_pay9 mask (k0_pay57 k0_pay7 u g) (ix2 l t) = lane (fun j => u (ix2 t j)) (fun j => g (ix2 0 j)) 4 l := by
  pointwise [k0_pay62, k0_pay9, k0_pay10, k0_pay11]
  simp only [q57, lane_words]
  exact lane_at fun _ => by simp only [Fin.val_ofNat]; omega

theorem q63 (u : FVec Ideal S256x512 .f32) (g : Vec Ideal S1x512 .f32) (t : Fin 256) (l : Fin 128) :
    k0_pay63 (F := Ideal) k0_pay9 mask (k0_pay57 k0_pay7 u g) (ix2 l t) = lane (fun j => u (ix2 t j)) (fun j => g (ix2 0 j)) 5 l := by
  pointwise [k0_pay63, k0_pay9, k0_pay10, k0_pay11]
  simp only [q57, lane_words]
  exact lane_at fun _ => by simp only [Fin.val_ofNat]; omega

theorem q64 (u : FVec Ideal S256x512 .f32) (g : Vec Ideal S1x512 .f32) (t : Fin 256) (l : Fin 128) :
    k0_pay64 (F := Ideal) k0_pay9 mask (k0_pay57 k0_pay7 u g) (ix2 l t) = lane (fun j => u (ix2 t j)) (fun j => g (ix2 0 j)) 6 l := by
  pointwise [k0_pay64, k0_pay9, k0_pay10, k0_pay11]
  simp only [q57, lane_words]
  exact lane_at fun _ => by simp only [Fin.val_ofNat]; omega

theorem q65 (u : FVec Ideal S256x512 .f32) (g : Vec Ideal S1x512 .f32) (t : Fin 256) (l : Fin 128) :
    k0_pay65 (F := Ideal) k0_pay9 mask (k0_pay57 k0_pay7 u g) (ix2 l t) = lane (fun j => u (ix2 t j)) (fun j => g (ix2 0 j)) 7 l := by
  pointwise [k0_pay65, k0_pay9, k0_pay10, k0_pay11]
  simp only [q57, lane_words]
  exact lane_at fun _ => by simp only [Fin.val_ofNat]; omega

theorem q116 (u : FVec Ideal S256x512 .f32) (g : Vec Ideal S1x512 .f32) (t : Fin 256) (l : Fin 128) :
    k0_pay116 (F := Ideal) k0_pay7 k0_pay9 mask u (k0_pay114 u) (constant S256x512 .f32 0x00000000#32) g (ix2 l t) = lane (fun j => u (ix2 t j)) (fun j => g (ix2 0 j)) 0 l := by
  pointwise [k0_pay116, k0_pay9, k0_pay10, k0_pay11]
  simp only [q115, lane_words]
  exact lane_at fun _ => by simp only [Fin.val_ofNat]; omega

theorem q117 (u : FVec Ideal S256x512 .f32) (g : Vec Ideal S1x512 .f32) (t : Fin 256) (l : Fin 128) :
    k0_pay117 (F := Ideal) k0_pay7 k0_pay9 mask u (k0_pay114 u) (constant S256x512 .f32 0x00000000#32) g (ix2 l t) = lane (fun j => u (ix2 t j)) (fun j => g (ix2 0 j)) 1 l := by
  pointwise [k0_pay117, k0_pay9, k0_pay10, k0_pay11]
  simp only [q115, lane_words]
  exact lane_at fun _ => by simp only [Fin.val_ofNat]; omega

theorem q118 (u : FVec Ideal S256x512 .f32) (g : Vec Ideal S1x512 .f32) (t : Fin 256) (l : Fin 128) :
    k0_pay118 (F := Ideal) k0_pay7 k0_pay9 mask u (k0_pay114 u) (constant S256x512 .f32 0x00000000#32) g (ix2 l t) = lane (fun j => u (ix2 t j)) (fun j => g (ix2 0 j)) 2 l := by
  pointwise [k0_pay118, k0_pay9, k0_pay10, k0_pay11]
  simp only [q115, lane_words]
  exact lane_at fun _ => by simp only [Fin.val_ofNat]; omega

theorem q119 (u : FVec Ideal S256x512 .f32) (g : Vec Ideal S1x512 .f32) (t : Fin 256) (l : Fin 128) :
    k0_pay119 (F := Ideal) k0_pay7 k0_pay9 mask u (k0_pay114 u) (constant S256x512 .f32 0x00000000#32) g (ix2 l t) = lane (fun j => u (ix2 t j)) (fun j => g (ix2 0 j)) 3 l := by
  pointwise [k0_pay119, k0_pay9, k0_pay10, k0_pay11]
  simp only [q115, lane_words]
  exact lane_at fun _ => by simp only [Fin.val_ofNat]; omega

theorem q120 (u : FVec Ideal S256x512 .f32) (g : Vec Ideal S1x512 .f32) (t : Fin 256) (l : Fin 128) :
    k0_pay120 (F := Ideal) k0_pay7 k0_pay9 mask u (k0_pay114 u) (constant S256x512 .f32 0x00000000#32) g (ix2 l t) = lane (fun j => u (ix2 t j)) (fun j => g (ix2 0 j)) 4 l := by
  pointwise [k0_pay120, k0_pay9, k0_pay10, k0_pay11]
  simp only [q115, lane_words]
  exact lane_at fun _ => by simp only [Fin.val_ofNat]; omega

theorem q122 (u : FVec Ideal S256x512 .f32) (g : Vec Ideal S1x512 .f32) (t : Fin 256) (l : Fin 128) :
    k0_pay122 (F := Ideal) k0_pay9 mask (k0_pay121 k0_pay7 u (k0_pay114 u) (constant S256x512 .f32 0x00000000#32) g) (ix2 l t) = lane (fun j => u (ix2 t j)) (fun j => g (ix2 0 j)) 5 l := by
  pointwise [k0_pay122, k0_pay121, k0_pay9, k0_pay10, k0_pay11]
  simp only [q115, lane_words]
  exact lane_at fun _ => by simp only [Fin.val_ofNat]; omega

theorem q123 (u : FVec Ideal S256x512 .f32) (g : Vec Ideal S1x512 .f32) (t : Fin 256) (l : Fin 128) :
    k0_pay123 (F := Ideal) k0_pay9 mask (k0_pay115 k0_pay7 u (k0_pay114 u) (constant S256x512 .f32 0x00000000#32) g) (ix2 l t) = lane (fun j => u (ix2 t j)) (fun j => g (ix2 0 j)) 6 l := by
  pointwise [k0_pay123, k0_pay121, k0_pay9, k0_pay10, k0_pay11]
  simp only [q115, lane_words]
  exact lane_at fun _ => by simp only [Fin.val_ofNat]; omega

theorem q124 (u : FVec Ideal S256x512 .f32) (g : Vec Ideal S1x512 .f32) (t : Fin 256) (l : Fin 128) :
    k0_pay124 (F := Ideal) k0_pay9 mask (k0_pay115 k0_pay7 u (k0_pay114 u) (constant S256x512 .f32 0x00000000#32) g) (ix2 l t) = lane (fun j => u (ix2 t j)) (fun j => g (ix2 0 j)) 7 l := by
  pointwise [k0_pay124, k0_pay121, k0_pay9, k0_pay10, k0_pay11]
  simp only [q115, lane_words]
  exact lane_at fun _ => by simp only [Fin.val_ofNat]; omega

end Cert.Kernel3Ideal.Proj

end
-- ==== Proof.Stored3.lean ====
/- What one step of the input projection stores, in terms of its block of tokens and the weights. -/
module

public import proofs.«01_k».proof.Proof.Proj
public import Idealize.ShloMosaic.Lib.Pipeline.ValueKit

@[expose] public section

set_option maxRecDepth 16384

noncomputable section

namespace Cert.Kernel3Ideal.Proj

open Idealize.ShloMosaic Cert.Kernel3Ideal Cert.Kernel3Ideal.Gen Cert.Route

variable (x0 : Vec Ideal S512x1024 .f32) (x1 : Vec Ideal S1x1024 .f32) (x2 : Vec Ideal S1024x3072 .bf16) (x3 : Vec Ideal S1x512 .f32)

/-- A token's normalized row. -/
def hrow (r : Fin 512) : Fin 1024 → EReal := h2of (fun k => x0 (ix2 r k)) (fun k => x1 (ix2 0 k))

def colQ (k : Fin 1024) (j : Fin 512) : EReal := x2 (ix2 k (⟨512 + j.val, by omega⟩ : Fin 3072))
def colV (k : Fin 1024) (j : Fin 512) : EReal := x2 (ix2 k (⟨1536 + j.val, by omega⟩ : Fin 3072))
def colP (k : Fin 1024) (j : Fin 896) : EReal := x2 (ix2 k (⟨2048 + j.val, by omega⟩ : Fin 3072))

/-- The block of queries. -/
def g13 : Vec Ideal S1024x512 .bf16 := fun z =>
  lane (pr (hrow x0 x1 (z 1)) (colQ x2)) (fun j => x3 (ix2 0 j)) (⟨(z 0).val / 128, by have : (z 0).val < 1024 := (z 0).isLt; omega⟩)
    (⟨(z 0).val % 128, by omega⟩)

/-- The block of values. -/
def g15 : Vec Ideal S512x512 .bf16 := fun z => pr (hrow x0 x1 (z 1)) (colV x2) (z 0)

/-- The block of the remaining columns. -/
def g16 : Vec Ideal S512x896 .f32 := fun z => pr (hrow x0 x1 (z 0)) (colP x2) (z 1)

theorem ldx0 (h) (t : Fin 256) (k : Fin 1024) :
    View.ld (Val := Elt Ideal) (e' := .f32) x0 (Rect.unit (s := S512x1024) ![0, 0] ![256, 1024] h) (ix2 t k) = x0 (ix2 (⟨t.val, by omega⟩ : Fin 512) k) :=
  View.ld_unit_apply_of _ _ _ _ _ _ fun a => by
    fin_cases a <;> simp [ix2]

theorem ldx256 (h) (t : Fin 256) (k : Fin 1024) :
    View.ld (Val := Elt Ideal) (e' := .f32) x0 (Rect.unit (s := S512x1024) ![256, 0] ![256, 1024] h) (ix2 t k) = x0 (ix2 (⟨256 + t.val, by omega⟩ : Fin 512) k) :=
  View.ld_unit_apply_of _ _ _ _ _ _ fun a => by
    fin_cases a <;> simp [ix2]

theorem ldg (h) (t : Fin 1) (k : Fin 1024) :
    View.ld (Val := Elt Ideal) (e' := .f32) x1 (Rect.unit (s := S1x1024) ![0, 0] ![1, 1024] h) (ix2 t k) = x1 (ix2 t k) :=
  View.ld_unit_apply_of _ _ _ _ _ _ fun a => by
    fin_cases a <;> simp [ix2]

theorem ldqg (h) (t : Fin 1) (k : Fin 512) :
    View.ld (Val := Elt Ideal) (e' := .f32) x3 (Rect.unit (s := S1x512) ![0, 0] ![1, 512] h) (ix2 t k) = x3 (ix2 t k) :=
  View.ld_unit_apply_of _ _ _ _ _ _ fun a => by
    fin_cases a <;> simp [ix2]

theorem ldq (h) (t : Fin 1024) (k : Fin 512) :
    View.ld (Val := Elt Ideal) (e' := .bf16) x2 (Rect.unit (s := S1024x3072) ![0, 512] ![1024, 512] h) (ix2 t k) = x2 (ix2 t (⟨512 + k.val, by omega⟩ : Fin 3072)) :=
  View.ld_unit_apply_of _ _ _ _ _ _ fun a => by
    fin_cases a <;> simp [ix2]

theorem ldv (h) (t : Fin 1024) (k : Fin 512) :
    View.ld (Val := Elt Ideal) (e' := .bf16) x2 (Rect.unit (s := S1024x3072) ![0, 1536] ![1024, 512] h) (ix2 t k) = x2 (ix2 t (⟨1536 + k.val, by omega⟩ : Fin 3072)) :=
  View.ld_unit_apply_of _ _ _ _ _ _ fun a => by
    fin_cases a <;> simp [ix2]

theorem ldp (h) (t : Fin 1024) (k : Fin 896) :
    View.ld (Val := Elt Ideal) (e' := .bf16) x2 (Rect.unit (s := S1024x3072) ![0, 2048] ![1024, 896] h) (ix2 t k) = x2 (ix2 t (⟨2048 + k.val, by omega⟩ : Fin 3072)) :=
  View.ld_unit_apply_of _ _ _ _ _ _ fun a => by
    fin_cases a <;> simp [ix2]

theorem emb16_0 (h) (t : Fin 256) (j : Fin 896) :
    g16 x0 x1 x2 ((Rect.unit (s := S512x896) ![0, 0] ![256, 896] h).emb (ix2 t j)) = pr (hrow x0 x1 ⟨t.val, by omega⟩) (colP x2) j := by
  have e : (Rect.unit (s := S512x896) ![0, 0] ![256, 896] h).emb (ix2 t j) = (ix2 (⟨t.val, by omega⟩ : Fin 512) j : S512x896.Idx) :=
    funext fun a => Fin.ext (by fin_cases a <;> simp [ix2])
  rw [e]
  rfl

theorem emb15_0 (h) (j : Fin 512) (t : Fin 256) :
    g15 x0 x1 x2 ((Rect.unit (s := S512x512) ![0, 0] ![512, 256] h).emb (ix2 j t)) = pr (hrow x0 x1 ⟨t.val, by omega⟩) (colV x2) j := by
  have e : (Rect.unit (s := S512x512) ![0, 0] ![512, 256] h).emb (ix2 j t) = (ix2 j (⟨t.val, by omega⟩ : Fin 512) : S512x512.Idx) :=
    funext fun a => Fin.ext (by fin_cases a <;> simp [ix2])
  rw [e]
  rfl

theorem emb13_0 (b : ℕ) (a : Fin 8) (hb : b = 128 * a.val) (h) (l : Fin 128) (t : Fin 256) :
    g13 x0 x1 x2 x3 ((Rect.unit (s := S1024x512) ![b, 0] ![128, 256] h).emb (ix2 l t))
      = lane (pr (hrow x0 x1 ⟨t.val, by omega⟩) (colQ x2)) (fun j => x3 (ix2 0 j)) a l := by
  have e : (Rect.unit (s := S1024x512) ![b, 0] ![128, 256] h).emb (ix2 l t)
      = (ix2 (⟨128 * a.val + l.val, by omega⟩ : Fin 1024) (⟨t.val, by omega⟩ : Fin 512) : S1024x512.Idx) :=
    funext fun a => Fin.ext (by fin_cases a <;> simp [ix2, hb])
  rw [e]
  exact congrArg₂ (lane _ _) (Fin.ext (by simp [ix2]; omega)) (Fin.ext (by simp [ix2]))

theorem emb16_256 (h) (t : Fin 256) (j : Fin 896) :
    g16 x0 x1 x2 ((Rect.unit (s := S512x896) ![256, 0] ![256, 896] h).emb (ix2 t j)) = pr (hrow x0 x1 ⟨256 + t.val, by omega⟩) (colP x2) j := by
  have e : (Rect.unit (s := S512x896) ![256, 0] ![256, 896] h).emb (ix2 t j) = (ix2 (⟨256 + t.val, by omega⟩ : Fin 512) j : S512x896.Idx) :=
    funext fun a => Fin.ext (by fin_cases a <;> simp [ix2])
  rw [e]
  rfl

theorem emb15_256 (h) (j : Fin 512) (t : Fin 256) :
    g15 x0 x1 x2 ((Rect.unit (s := S512x512) ![0, 256] ![512, 256] h).emb (ix2 j t)) = pr (hrow x0 x1 ⟨256 + t.val, by omega⟩) (colV x2) j := by
  have e : (Rect.unit (s := S512x512) ![0, 256] ![512, 256] h).emb (ix2 j t) = (ix2 j (⟨256 + t.val, by omega⟩ : Fin 512) : S512x512.Idx) :=
    funext fun a => Fin.ext (by fin_cases a <;> simp [ix2])
  rw [e]
  rfl

theorem emb13_256 (b : ℕ) (a : Fin 8) (hb : b = 128 * a.val) (h) (l : Fin 128) (t : Fin 256) :
    g13 x0 x1 x2 x3 ((Rect.unit (s := S1024x512) ![b, 256] ![128, 256] h).emb (ix2 l t))
      = lane (pr (hrow x0 x1 ⟨256 + t.val, by omega⟩) (colQ x2)) (fun j => x3 (ix2 0 j)) a l := by
  have e : (Rect.unit (s := S1024x512) ![b, 256] ![128, 256] h).emb (ix2 l t)
      = (ix2 (⟨128 * a.val + l.val, by omega⟩ : Fin 1024) (⟨256 + t.val, by omega⟩ : Fin 512) : S1024x512.Idx) :=
    funext fun a => Fin.ext (by fin_cases a <;> simp [ix2, hb])
  rw [e]
  exact congrArg₂ (lane _ _) (Fin.ext (by simp [ix2]; omega)) (Fin.ext (by simp [ix2]))

theorem pr_eq {n : ℕ} {h h' : Fin 1024 → EReal} {w w' : Fin 1024 → Fin n → EReal} {j : Fin n} (e : ∀ k, h k = h' k) (e' : ∀ k, w k j = w' k j) :
    pr h w j = pr h' w' j := Finset.sum_congr rfl fun k _ => by rw [e, e']

theorem lane_eq {u u' g g' : Fin 512 → EReal} {a : Fin 8} {l : Fin 128} (e : ∀ j, u j = u' j) (e' : ∀ j, g j = g' j) :
    lane u g a l = lane u' g' a l := by rw [funext e, funext e']

theorem h2of_eq {x x' g g' : Fin 1024 → EReal} {k : Fin 1024} (e : ∀ j, x j = x' j) (e' : ∀ j, g j = g' j) :
    h2of x g k = h2of x' g' k := by rw [funext e, funext e']

end Cert.Kernel3Ideal.Proj

end
-- ==== Proof.Out3.lean ====
/- The blocks a step of the input projection leaves, at a first step of a batch row and at a later one. -/
module

public import proofs.«01_k».proof.Proof.Stored3
public import proofs.«01_k».proof.Proof.Gen.Kernel3Ideal.Frame

@[expose] public section

set_option maxRecDepth 16384

noncomputable section

namespace Cert.Kernel3Ideal.Proj

open Idealize.ShloMosaic Cert.Kernel3Ideal Cert.Kernel3Ideal.Gen Cert.Route

theorem out16_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S4x256 .f32) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S512x512 .bf16) (harg16 : arg16.IsWhole) (arg17 : Memref sig .tc .vmem S512x896 .f32) (harg17 : arg17.IsWhole) (arg18 : Memref sig .tc .vmem S8x128 .f32) (harg18 : arg18.IsWhole) (arg19 : Memref sig .tc .vmem S8x256 .f32) (harg19 : arg19.IsWhole) (arg20 : Memref sig .tc .vmem S8x256 .f32) (harg20 : arg20.IsWhole) (arg21 : Memref sig .tc .vmem S2x264x256 .f32) (harg21 : arg21.IsWhole) (hc0 : cond0_0 i)
    (x0 : Vec Ideal S512x1024 .f32) (x1 : Vec Ideal S1x1024 .f32) (x2 : Vec Ideal S1024x3072 .bf16) (x3 : Vec Ideal S1x512 .f32) (x4 : Vec Ideal S1x512 .f32) (x5 : Vec Ideal S1x128 .f32) (x6 : Vec Ideal S4x256 .f32) (x7 : Vec Ideal S1x256 .f32) (x8 : Vec Ideal S256x512 .bf16) (x9 : Vec Ideal S1x512 .f32) (x10 : Vec Ideal S1x256 .f32) (x11 : Vec Ideal S1x256 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = g16 x0 x1 x2 := by
  funext z
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  refine View.canon_apply_of_pieces (g16 x0 x1 x2) _ (fun p hp y => ?_) z (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 z)
  unfold kernelRun0_A at hp
  dsimp only at hp
  simp only [List.mem_cons, List.mem_nil_iff, or_false] at hp
  rcases hp with rfl | rfl
  · obtain ⟨t, j, rfl⟩ : ∃ (t : Fin 256) (j : Fin 896), y = ix2 t j := ⟨y 0, y 1, eq_ix2 y⟩
    dsimp only
    sl_unfold_words
    simp only [View.readAt_eq_ld, harg1.read_unread, harg2.read_unread, harg3.read_unread, harg4.read_unread]
    refine (p80 _ _ t j).trans (Eq.trans ?_ (emb16_256 x0 x1 x2 _ t j).symm)
    refine pr_eq (fun k => (h21 _ _ t k).trans (h2of_eq (fun k => ?_) fun k => ?_)) fun k => ?_
    · exact ldx256 x0 _ t k
    · exact ldg x1 _ 0 k
    · exact ldp x2 _ k j
  · obtain ⟨t, j, rfl⟩ : ∃ (t : Fin 256) (j : Fin 896), y = ix2 t j := ⟨y 0, y 1, eq_ix2 y⟩
    dsimp only
    sl_unfold_words
    simp only [View.readAt_eq_ld, harg1.read_unread, harg2.read_unread, harg3.read_unread, harg4.read_unread]
    refine (p20 _ _ t j).trans (Eq.trans ?_ (emb16_0 x0 x1 x2 _ t j).symm)
    refine pr_eq (fun k => (h13 _ _ t k).trans (h2of_eq (fun k => ?_) fun k => ?_)) fun k => ?_
    · exact ldx0 x0 _ t k
    · exact ldg x1 _ 0 k
    · exact ldp x2 _ k j

theorem out15_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S4x256 .f32) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S512x512 .bf16) (harg16 : arg16.IsWhole) (arg17 : Memref sig .tc .vmem S512x896 .f32) (harg17 : arg17.IsWhole) (arg18 : Memref sig .tc .vmem S8x128 .f32) (harg18 : arg18.IsWhole) (arg19 : Memref sig .tc .vmem S8x256 .f32) (harg19 : arg19.IsWhole) (arg20 : Memref sig .tc .vmem S8x256 .f32) (harg20 : arg20.IsWhole) (arg21 : Memref sig .tc .vmem S2x264x256 .f32) (harg21 : arg21.IsWhole) (hc0 : cond0_0 i)
    (x0 : Vec Ideal S512x1024 .f32) (x1 : Vec Ideal S1x1024 .f32) (x2 : Vec Ideal S1024x3072 .bf16) (x3 : Vec Ideal S1x512 .f32) (x4 : Vec Ideal S1x512 .f32) (x5 : Vec Ideal S1x128 .f32) (x6 : Vec Ideal S4x256 .f32) (x7 : Vec Ideal S1x256 .f32) (x8 : Vec Ideal S256x512 .bf16) (x9 : Vec Ideal S1x512 .f32) (x10 : Vec Ideal S1x256 .f32) (x11 : Vec Ideal S1x256 .f32) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = g15 x0 x1 x2 := by
  funext z
  unfold out0_A_15
  rw [View.read_writes_eq_canon _ _ _ (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  refine View.canon_apply_of_pieces (g15 x0 x1 x2) _ (fun p hp y => ?_) z (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 z)
  unfold kernelRun0_A at hp
  dsimp only at hp
  simp only [List.mem_cons, List.mem_nil_iff, or_false] at hp
  rcases hp with rfl | rfl
  · obtain ⟨j, t, rfl⟩ : ∃ (j : Fin 512) (t : Fin 256), y = ix2 j t := ⟨y 0, y 1, eq_ix2 y⟩
    dsimp only
    sl_unfold_words
    simp only [View.readAt_eq_ld, harg1.read_unread, harg2.read_unread, harg3.read_unread, harg4.read_unread]
    refine (v78 _ _ t j).trans (Eq.trans ?_ (emb15_256 x0 x1 x2 _ j t).symm)
    refine pr_eq (fun k => (h21 _ _ t k).trans (h2of_eq (fun k => ?_) fun k => ?_)) fun k => ?_
    · exact ldx256 x0 _ t k
    · exact ldg x1 _ 0 k
    · exact ldv x2 _ k j
  · obtain ⟨j, t, rfl⟩ : ∃ (j : Fin 512) (t : Fin 256), y = ix2 j t := ⟨y 0, y 1, eq_ix2 y⟩
    dsimp only
    sl_unfold_words
    simp only [View.readAt_eq_ld, harg1.read_unread, harg2.read_unread, harg3.read_unread, harg4.read_unread]
    refine (v19 _ _ t j).trans (Eq.trans ?_ (emb15_0 x0 x1 x2 _ j t).symm)
    refine pr_eq (fun k => (h13 _ _ t k).trans (h2of_eq (fun k => ?_) fun k => ?_)) fun k => ?_
    · exact ldx0 x0 _ t k
    · exact ldg x1 _ 0 k
    · exact ldv x2 _ k j

theorem out13_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S4x256 .f32) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S512x512 .bf16) (harg16 : arg16.IsWhole) (arg17 : Memref sig .tc .vmem S512x896 .f32) (harg17 : arg17.IsWhole) (arg18 : Memref sig .tc .vmem S8x128 .f32) (harg18 : arg18.IsWhole) (arg19 : Memref sig .tc .vmem S8x256 .f32) (harg19 : arg19.IsWhole) (arg20 : Memref sig .tc .vmem S8x256 .f32) (harg20 : arg20.IsWhole) (arg21 : Memref sig .tc .vmem S2x264x256 .f32) (harg21 : arg21.IsWhole) (hc0 : cond0_0 i)
    (x0 : Vec Ideal S512x1024 .f32) (x1 : Vec Ideal S1x1024 .f32) (x2 : Vec Ideal S1024x3072 .bf16) (x3 : Vec Ideal S1x512 .f32) (x4 : Vec Ideal S1x512 .f32) (x5 : Vec Ideal S1x128 .f32) (x6 : Vec Ideal S4x256 .f32) (x7 : Vec Ideal S1x256 .f32) (x8 : Vec Ideal S256x512 .bf16) (x9 : Vec Ideal S1x512 .f32) (x10 : Vec Ideal S1x256 .f32) (x11 : Vec Ideal S1x256 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = g13 x0 x1 x2 x3 := by
  funext z
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  refine View.canon_apply_of_pieces (g13 x0 x1 x2 x3) _ (fun p hp y => ?_) z (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 z)
  unfold kernelRun0_A at hp
  dsimp only at hp
  simp only [List.mem_cons, List.mem_nil_iff, or_false] at hp
  rcases hp with rfl | rfl | rfl | rfl | rfl | rfl | rfl | rfl | rfl | rfl | rfl | rfl | rfl | rfl | rfl | rfl
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q124 _ _ t l).trans (Eq.trans ?_ (emb13_256 x0 x1 x2 x3 896 7 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q123 _ _ t l).trans (Eq.trans ?_ (emb13_256 x0 x1 x2 x3 768 6 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q122 _ _ t l).trans (Eq.trans ?_ (emb13_256 x0 x1 x2 x3 640 5 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q120 _ _ t l).trans (Eq.trans ?_ (emb13_256 x0 x1 x2 x3 512 4 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q119 _ _ t l).trans (Eq.trans ?_ (emb13_256 x0 x1 x2 x3 384 3 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q118 _ _ t l).trans (Eq.trans ?_ (emb13_256 x0 x1 x2 x3 256 2 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q117 _ _ t l).trans (Eq.trans ?_ (emb13_256 x0 x1 x2 x3 128 1 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q116 _ _ t l).trans (Eq.trans ?_ (emb13_256 x0 x1 x2 x3 0 0 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q65 _ _ t l).trans (Eq.trans ?_ (emb13_0 x0 x1 x2 x3 896 7 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q64 _ _ t l).trans (Eq.trans ?_ (emb13_0 x0 x1 x2 x3 768 6 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q63 _ _ t l).trans (Eq.trans ?_ (emb13_0 x0 x1 x2 x3 640 5 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q62 _ _ t l).trans (Eq.trans ?_ (emb13_0 x0 x1 x2 x3 512 4 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q61 _ _ t l).trans (Eq.trans ?_ (emb13_0 x0 x1 x2 x3 384 3 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q60 _ _ t l).trans (Eq.trans ?_ (emb13_0 x0 x1 x2 x3 256 2 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q59 _ _ t l).trans (Eq.trans ?_ (emb13_0 x0 x1 x2 x3 128 1 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q58 _ _ t l).trans (Eq.trans ?_ (emb13_0 x0 x1 x2 x3 0 0 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j

theorem out16_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S4x256 .f32) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S512x512 .bf16) (harg16 : arg16.IsWhole) (arg17 : Memref sig .tc .vmem S512x896 .f32) (harg17 : arg17.IsWhole) (arg18 : Memref sig .tc .vmem S8x128 .f32) (harg18 : arg18.IsWhole) (arg19 : Memref sig .tc .vmem S8x256 .f32) (harg19 : arg19.IsWhole) (arg20 : Memref sig .tc .vmem S8x256 .f32) (harg20 : arg20.IsWhole) (arg21 : Memref sig .tc .vmem S2x264x256 .f32) (harg21 : arg21.IsWhole) (hc0 : ¬cond0_0 i)
    (x0 : Vec Ideal S512x1024 .f32) (x1 : Vec Ideal S1x1024 .f32) (x2 : Vec Ideal S1024x3072 .bf16) (x3 : Vec Ideal S1x512 .f32) (x4 : Vec Ideal S1x512 .f32) (x5 : Vec Ideal S1x128 .f32) (x6 : Vec Ideal S4x256 .f32) (x7 : Vec Ideal S1x256 .f32) (x8 : Vec Ideal S256x512 .bf16) (x9 : Vec Ideal S1x512 .f32) (x10 : Vec Ideal S1x256 .f32) (x11 : Vec Ideal S1x256 .f32) (xs0 : Vec Ideal S8x128 .f32) (xs1 : Vec Ideal S8x256 .f32) (xs2 : Vec Ideal S8x256 .f32) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2 = g16 x0 x1 x2 := by
  funext z
  unfold out0_B_16
  rw [View.read_writes_eq_canon _ _ _ (cover0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2)]
  refine View.canon_apply_of_pieces (g16 x0 x1 x2) _ (fun p hp y => ?_) z (cover0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2 z)
  unfold kernelRun0_B at hp
  dsimp only at hp
  simp only [List.mem_cons, List.mem_nil_iff, or_false] at hp
  rcases hp with rfl | rfl
  · obtain ⟨t, j, rfl⟩ : ∃ (t : Fin 256) (j : Fin 896), y = ix2 t j := ⟨y 0, y 1, eq_ix2 y⟩
    dsimp only
    sl_unfold_words
    simp only [View.readAt_eq_ld, harg1.read_unread, harg2.read_unread, harg3.read_unread, harg4.read_unread]
    refine (p80 _ _ t j).trans (Eq.trans ?_ (emb16_256 x0 x1 x2 _ t j).symm)
    refine pr_eq (fun k => (h21 _ _ t k).trans (h2of_eq (fun k => ?_) fun k => ?_)) fun k => ?_
    · exact ldx256 x0 _ t k
    · exact ldg x1 _ 0 k
    · exact ldp x2 _ k j
  · obtain ⟨t, j, rfl⟩ : ∃ (t : Fin 256) (j : Fin 896), y = ix2 t j := ⟨y 0, y 1, eq_ix2 y⟩
    dsimp only
    sl_unfold_words
    simp only [View.readAt_eq_ld, harg1.read_unread, harg2.read_unread, harg3.read_unread, harg4.read_unread]
    refine (p20 _ _ t j).trans (Eq.trans ?_ (emb16_0 x0 x1 x2 _ t j).symm)
    refine pr_eq (fun k => (h13 _ _ t k).trans (h2of_eq (fun k => ?_) fun k => ?_)) fun k => ?_
    · exact ldx0 x0 _ t k
    · exact ldg x1 _ 0 k
    · exact ldp x2 _ k j

theorem out15_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S4x256 .f32) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S512x512 .bf16) (harg16 : arg16.IsWhole) (arg17 : Memref sig .tc .vmem S512x896 .f32) (harg17 : arg17.IsWhole) (arg18 : Memref sig .tc .vmem S8x128 .f32) (harg18 : arg18.IsWhole) (arg19 : Memref sig .tc .vmem S8x256 .f32) (harg19 : arg19.IsWhole) (arg20 : Memref sig .tc .vmem S8x256 .f32) (harg20 : arg20.IsWhole) (arg21 : Memref sig .tc .vmem S2x264x256 .f32) (harg21 : arg21.IsWhole) (hc0 : ¬cond0_0 i)
    (x0 : Vec Ideal S512x1024 .f32) (x1 : Vec Ideal S1x1024 .f32) (x2 : Vec Ideal S1024x3072 .bf16) (x3 : Vec Ideal S1x512 .f32) (x4 : Vec Ideal S1x512 .f32) (x5 : Vec Ideal S1x128 .f32) (x6 : Vec Ideal S4x256 .f32) (x7 : Vec Ideal S1x256 .f32) (x8 : Vec Ideal S256x512 .bf16) (x9 : Vec Ideal S1x512 .f32) (x10 : Vec Ideal S1x256 .f32) (x11 : Vec Ideal S1x256 .f32) (xs0 : Vec Ideal S8x128 .f32) (xs1 : Vec Ideal S8x256 .f32) (xs2 : Vec Ideal S8x256 .f32) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2 = g15 x0 x1 x2 := by
  funext z
  unfold out0_B_15
  rw [View.read_writes_eq_canon _ _ _ (cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2)]
  refine View.canon_apply_of_pieces (g15 x0 x1 x2) _ (fun p hp y => ?_) z (cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2 z)
  unfold kernelRun0_B at hp
  dsimp only at hp
  simp only [List.mem_cons, List.mem_nil_iff, or_false] at hp
  rcases hp with rfl | rfl
  · obtain ⟨j, t, rfl⟩ : ∃ (j : Fin 512) (t : Fin 256), y = ix2 j t := ⟨y 0, y 1, eq_ix2 y⟩
    dsimp only
    sl_unfold_words
    simp only [View.readAt_eq_ld, harg1.read_unread, harg2.read_unread, harg3.read_unread, harg4.read_unread]
    refine (v78 _ _ t j).trans (Eq.trans ?_ (emb15_256 x0 x1 x2 _ j t).symm)
    refine pr_eq (fun k => (h21 _ _ t k).trans (h2of_eq (fun k => ?_) fun k => ?_)) fun k => ?_
    · exact ldx256 x0 _ t k
    · exact ldg x1 _ 0 k
    · exact ldv x2 _ k j
  · obtain ⟨j, t, rfl⟩ : ∃ (j : Fin 512) (t : Fin 256), y = ix2 j t := ⟨y 0, y 1, eq_ix2 y⟩
    dsimp only
    sl_unfold_words
    simp only [View.readAt_eq_ld, harg1.read_unread, harg2.read_unread, harg3.read_unread, harg4.read_unread]
    refine (v19 _ _ t j).trans (Eq.trans ?_ (emb15_0 x0 x1 x2 _ j t).symm)
    refine pr_eq (fun k => (h13 _ _ t k).trans (h2of_eq (fun k => ?_) fun k => ?_)) fun k => ?_
    · exact ldx0 x0 _ t k
    · exact ldg x1 _ 0 k
    · exact ldv x2 _ k j

theorem out13_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S4x256 .f32) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S512x512 .bf16) (harg16 : arg16.IsWhole) (arg17 : Memref sig .tc .vmem S512x896 .f32) (harg17 : arg17.IsWhole) (arg18 : Memref sig .tc .vmem S8x128 .f32) (harg18 : arg18.IsWhole) (arg19 : Memref sig .tc .vmem S8x256 .f32) (harg19 : arg19.IsWhole) (arg20 : Memref sig .tc .vmem S8x256 .f32) (harg20 : arg20.IsWhole) (arg21 : Memref sig .tc .vmem S2x264x256 .f32) (harg21 : arg21.IsWhole) (hc0 : ¬cond0_0 i)
    (x0 : Vec Ideal S512x1024 .f32) (x1 : Vec Ideal S1x1024 .f32) (x2 : Vec Ideal S1024x3072 .bf16) (x3 : Vec Ideal S1x512 .f32) (x4 : Vec Ideal S1x512 .f32) (x5 : Vec Ideal S1x128 .f32) (x6 : Vec Ideal S4x256 .f32) (x7 : Vec Ideal S1x256 .f32) (x8 : Vec Ideal S256x512 .bf16) (x9 : Vec Ideal S1x512 .f32) (x10 : Vec Ideal S1x256 .f32) (x11 : Vec Ideal S1x256 .f32) (xs0 : Vec Ideal S8x128 .f32) (xs1 : Vec Ideal S8x256 .f32) (xs2 : Vec Ideal S8x256 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2 = g13 x0 x1 x2 x3 := by
  funext z
  unfold out0_B_13
  rw [View.read_writes_eq_canon _ _ _ (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2)]
  refine View.canon_apply_of_pieces (g13 x0 x1 x2 x3) _ (fun p hp y => ?_) z (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2 z)
  unfold kernelRun0_B at hp
  dsimp only at hp
  simp only [List.mem_cons, List.mem_nil_iff, or_false] at hp
  rcases hp with rfl | rfl | rfl | rfl | rfl | rfl | rfl | rfl | rfl | rfl | rfl | rfl | rfl | rfl | rfl | rfl
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q124 _ _ t l).trans (Eq.trans ?_ (emb13_256 x0 x1 x2 x3 896 7 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q123 _ _ t l).trans (Eq.trans ?_ (emb13_256 x0 x1 x2 x3 768 6 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q122 _ _ t l).trans (Eq.trans ?_ (emb13_256 x0 x1 x2 x3 640 5 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q120 _ _ t l).trans (Eq.trans ?_ (emb13_256 x0 x1 x2 x3 512 4 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q119 _ _ t l).trans (Eq.trans ?_ (emb13_256 x0 x1 x2 x3 384 3 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q118 _ _ t l).trans (Eq.trans ?_ (emb13_256 x0 x1 x2 x3 256 2 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q117 _ _ t l).trans (Eq.trans ?_ (emb13_256 x0 x1 x2 x3 128 1 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q116 _ _ t l).trans (Eq.trans ?_ (emb13_256 x0 x1 x2 x3 0 0 rfl _ l t).symm)
    refine lane_eq (fun j => (u56 _ _ t j).trans (pr_eq (fun k => (h21 _ _ t k).trans (h2of_eq (fun k => ?_) fun k => ?_)) fun k => ?_)) fun j => ?_
    · exact ldx256 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q65 _ _ t l).trans (Eq.trans ?_ (emb13_0 x0 x1 x2 x3 896 7 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q64 _ _ t l).trans (Eq.trans ?_ (emb13_0 x0 x1 x2 x3 768 6 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q63 _ _ t l).trans (Eq.trans ?_ (emb13_0 x0 x1 x2 x3 640 5 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q62 _ _ t l).trans (Eq.trans ?_ (emb13_0 x0 x1 x2 x3 512 4 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q61 _ _ t l).trans (Eq.trans ?_ (emb13_0 x0 x1 x2 x3 384 3 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q60 _ _ t l).trans (Eq.trans ?_ (emb13_0 x0 x1 x2 x3 256 2 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q59 _ _ t l).trans (Eq.trans ?_ (emb13_0 x0 x1 x2 x3 128 1 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j
  · obtain ⟨l, t, rfl⟩ : ∃ (l : Fin 128) (t : Fin 256), y = ix2 l t := ⟨y 0, y 1, eq_ix2 y⟩
    dsimp only
    sl_unfold_words
    simp only [View.readAt_eq_ld, harg1.read_unread, harg2.read_unread, harg3.read_unread, harg4.read_unread]
    refine (q58 _ _ t l).trans (Eq.trans ?_ (emb13_0 x0 x1 x2 x3 0 0 rfl _ l t).symm)
    refine lane_eq (fun j => (u16 _ _ _ t j).trans (pr_eq (fun k => h2of_eq (fun k => ?_) fun k => ?_) fun k => ?_)) fun j => ?_
    · exact ldx0 x0 _ t k
    · exact ldg x1 _ 0 k
    · exact ldq x2 _ k j
    · exact ldqg x3 _ 0 j

end Cert.Kernel3Ideal.Proj

end
-- ==== Proof.Keys3.lean ====
/- The keys of the input projection: what a step stores in the feature lanes of each head. -/
module

public import proofs.«01_k».proof.Proof.Stored3

@[expose] public section

set_option maxRecDepth 16384

noncomputable section

namespace Cert.Kernel3Ideal.Proj

open Idealize.ShloMosaic Cert.Kernel3Ideal Cert.Kernel3Ideal.Gen Cert.Route

variable (x0 : Vec Ideal S512x1024 .f32) (x1 : Vec Ideal S1x1024 .f32) (x2 : Vec Ideal S1024x3072 .bf16) (x4 : Vec Ideal S1x512 .f32)

theorem u18 (h : FVec Ideal S256x1024 .bf16) (w : Vec Ideal S1024x512 .bf16) (t : Fin 256) (j : Fin 512) :
    k0_pay18 (F := Ideal) h (k0_pay17 w) (ix2 t j) = pr (fun k => h (ix2 t k)) (fun k j => w (ix2 k j)) j := by
  pointwise [k0_pay18, k0_pay17]
  rfl

theorem u66 (h : FVec Ideal S256x1024 .bf16) (w : Vec Ideal S1024x512 .bf16) (t : Fin 256) (j : Fin 512) :
    k0_pay66 (F := Ideal) h w (ix2 t j) = pr (fun k => h (ix2 t k)) (fun k j => w (ix2 k j)) j := by
  pointwise [k0_pay66]
  rfl

theorem n67 (u : FVec Ideal S256x512 .f32) (g : Vec Ideal S1x512 .f32) (t : Fin 256) (j : Fin 512) :
    k0_pay67 (F := Ideal) k0_pay7 u g (ix2 t j) = qn (fun j => u (ix2 t j)) (fun j => g (ix2 0 j)) j := by
  pointwise [k0_pay67]
  simp only [ones_at]
  rw [head_sum (fun x => u (ix2 t x) * u (ix2 t x)) j, div_64]
  rfl

theorem n125 (u : FVec Ideal S256x512 .f32) (g : Vec Ideal S1x512 .f32) (t : Fin 256) (j : Fin 512) :
    k0_pay125 (F := Ideal) k0_pay7 u g (ix2 t j) = qn (fun j => u (ix2 t j)) (fun j => g (ix2 0 j)) j := by
  pointwise [k0_pay125]
  simp only [ones_at]
  rw [head_sum (fun x => u (ix2 t x) * u (ix2 t x)) j, div_64]
  rfl

theorem feature {l : Fin 128} (h : l.val < 64) (x y : EReal) :
    Scalar.select (IntOp.cmpi CmpIPredicate.slt (BitVec.ofNat 32 l.val) 64#32) x y = x := by
  have h1 : IntOp.cmpi CmpIPredicate.slt (BitVec.ofNat 32 l.val) 64#32 = if l.val < 64 then 1#1 else 0#1 := by
    revert l; decide +kernel
  rw [h1]
  simp [h, Scalar.select]

theorem k68 (m : IVec S256x128 1) (b : FVec Ideal S256x128 .f32) (u : FVec Ideal S256x512 .f32) (g : Vec Ideal S1x512 .f32) (t : Fin 256) (l : Fin 128) (h : l.val < 64) :
    k0_pay68 (F := Ideal) k0_pay7 k0_pay9 m u b g (ix2 t l) = qn (fun j => u (ix2 t j)) (fun j => g (ix2 0 j)) ⟨0 + l.val, by omega⟩ := by
  pointwise [k0_pay68, k0_pay9]
  rw [feature h, n67]

theorem k69 (m : IVec S256x128 1) (b : FVec Ideal S256x128 .f32) (u : FVec Ideal S256x512 .f32) (g : Vec Ideal S1x512 .f32) (t : Fin 256) (l : Fin 128) (h : l.val < 64) :
    k0_pay69 (F := Ideal) k0_pay7 k0_pay9 m u b g (ix2 t l) = qn (fun j => u (ix2 t j)) (fun j => g (ix2 0 j)) ⟨64 + l.val, by omega⟩ := by
  pointwise [k0_pay69, k0_pay9]
  rw [feature h, n67]
  exact congrArg (qn _ _) (Fin.ext (by simp only [Fin.val_ofNat]; omega))
theorem k70 (m : IVec S256x128 1) (b : FVec Ideal S256x128 .f32) (u : FVec Ideal S256x512 .f32) (g : Vec Ideal S1x512 .f32) (t : Fin 256) (l : Fin 128) (h : l.val < 64) :
    k0_pay70 (F := Ideal) k0_pay7 k0_pay9 m u b g (ix2 t l) = qn (fun j => u (ix2 t j)) (fun j => g (ix2 0 j)) ⟨128 + l.val, by omega⟩ := by
  pointwise [k0_pay70, k0_pay9]
  rw [feature h, n67]

theorem k71 (m : IVec S256x128 1) (b : FVec Ideal S256x128 .f32) (u : FVec Ideal S256x512 .f32) (g : Vec Ideal S1x512 .f32) (t : Fin 256) (l : Fin 128) (h : l.val < 64) :
    k0_pay71 (F := Ideal) k0_pay9 m b (k0_pay67 k0_pay7 u g) (ix2 t l) = qn (fun j => u (ix2 t j)) (fun j => g (ix2 0 j)) ⟨192 + l.val, by omega⟩ := by
  pointwise [k0_pay71, k0_pay9]
  rw [feature h, n67]
  exact congrArg (qn _ _) (Fin.ext (by simp only [Fin.val_ofNat]; omega))
theorem k72 (m : IVec S256x128 1) (b : FVec Ideal S256x128 .f32) (u : FVec Ideal S256x512 .f32) (g : Vec Ideal S1x512 .f32) (t : Fin 256) (l : Fin 128) (h : l.val < 64) :
    k0_pay72 (F := Ideal) k0_pay9 m b (k0_pay67 k0_pay7 u g) (ix2 t l) = qn (fun j => u (ix2 t j)) (fun j => g (ix2 0 j)) ⟨256 + l.val, by omega⟩ := by
  pointwise [k0_pay72, k0_pay9]
  rw [feature h, n67]

theorem k73 (m : IVec S256x128 1) (b : FVec Ideal S256x128 .f32) (u : FVec Ideal S256x512 .f32) (g : Vec Ideal S1x512 .f32) (t : Fin 256) (l : Fin 128) (h : l.val < 64) :
    k0_pay73 (F := Ideal) k0_pay9 m b (k0_pay67 k0_pay7 u g) (ix2 t l) = qn (fun j => u (ix2 t j)) (fun j => g (ix2 0 j)) ⟨320 + l.val, by omega⟩ := by
  pointwise [k0_pay73, k0_pay9]
  rw [feature h, n67]
  exact congrArg (qn _ _) (Fin.ext (by simp only [Fin.val_ofNat]; omega))
theorem k74 (m : IVec S256x128 1) (b : FVec Ideal S256x128 .f32) (u : FVec Ideal S256x512 .f32) (g : Vec Ideal S1x512 .f32) (t : Fin 256) (l : Fin 128) (h : l.val < 64) :
    k0_pay74 (F := Ideal) k0_pay9 m b (k0_pay67 k0_pay7 u g) (ix2 t l) = qn (fun j => u (ix2 t j)) (fun j => g (ix2 0 j)) ⟨384 + l.val, by omega⟩ := by
  pointwise [k0_pay74, k0_pay9]
  rw [feature h, n67]

theorem k77 (b : FVec Ideal S256x128 .f32) (u : FVec Ideal S256x512 .f32) (g : Vec Ideal S1x512 .f32) (t : Fin 256) (l : Fin 128) (h : l.val < 64) :
    k0_pay77 (F := Ideal) k0_pay9 (k0_pay75 (k0_pay67 k0_pay7 u g)) b (ix2 t l) = qn (fun j => u (ix2 t j)) (fun j => g (ix2 0 j)) ⟨448 + l.val, by omega⟩ := by
  pointwise [k0_pay77, k0_pay75, k0_pay9]
  rw [feature h, n67]
  exact congrArg (qn _ _) (Fin.ext (by simp only [Fin.val_ofNat]; omega))
theorem k126 (m : IVec S256x128 1) (b : FVec Ideal S256x128 .f32) (u : FVec Ideal S256x512 .f32) (g : Vec Ideal S1x512 .f32) (t : Fin 256) (l : Fin 128) (h : l.val < 64) :
    k0_pay126 (F := Ideal) k0_pay7 k0_pay9 m u b g (ix2 t l) = qn (fun j => u (ix2 t j)) (fun j => g (ix2 0 j)) ⟨0 + l.val, by omega⟩ := by
  pointwise [k0_pay126, k0_pay9]
  rw [feature h, n125]

theorem k129 (m : IVec S256x128 1) (b : FVec Ideal S256x128 .f32) (u : FVec Ideal S256x512 .f32) (g : Vec Ideal S1x512 .f32) (t : Fin 256) (l : Fin 128) (h : l.val < 64) :
    k0_pay129 (F := Ideal) k0_pay9 m b (k0_pay128 k0_pay7 u g) (ix2 t l) = qn (fun j => u (ix2 t j)) (fun j => g (ix2 0 j)) ⟨64 + l.val, by omega⟩ := by
  pointwise [k0_pay129, k0_pay128, k0_pay9]
  rw [feature h, n125]
  exact congrArg (qn _ _) (Fin.ext (by simp only [Fin.val_ofNat]; omega))
theorem k130 (m : IVec S256x128 1) (b : FVec Ideal S256x128 .f32) (u : FVec Ideal S256x512 .f32) (g : Vec Ideal S1x512 .f32) (t : Fin 256) (l : Fin 128) (h : l.val < 64) :
    k0_pay130 (F := Ideal) k0_pay9 m b (k0_pay125 k0_pay7 u g) (ix2 t l) = qn (fun j => u (ix2 t j)) (fun j => g (ix2 0 j)) ⟨128 + l.val, by omega⟩ := by
  pointwise [k0_pay130, k0_pay9]
  rw [feature h, n125]

theorem k131 (m : IVec S256x128 1) (b : FVec Ideal S256x128 .f32) (u : FVec Ideal S256x512 .f32) (g : Vec Ideal S1x512 .f32) (t : Fin 256) (l : Fin 128) (h : l.val < 64) :
    k0_pay131 (F := Ideal) k0_pay9 m b (k0_pay125 k0_pay7 u g) (ix2 t l) = qn (fun j => u (ix2 t j)) (fun j => g (ix2 0 j)) ⟨192 + l.val, by omega⟩ := by
  pointwise [k0_pay131, k0_pay9]
  rw [feature h, n125]
  exact congrArg (qn _ _) (Fin.ext (by simp only [Fin.val_ofNat]; omega))
theorem k132 (m : IVec S256x128 1) (b : FVec Ideal S256x128 .f32) (u : FVec Ideal S256x512 .f32) (g : Vec Ideal S1x512 .f32) (t : Fin 256) (l : Fin 128) (h : l.val < 64) :
    k0_pay132 (F := Ideal) k0_pay9 m b (k0_pay125 k0_pay7 u g) (ix2 t l) = qn (fun j => u (ix2 t j)) (fun j => g (ix2 0 j)) ⟨256 + l.val, by omega⟩ := by
  pointwise [k0_pay132, k0_pay9]
  rw [feature h, n125]

theorem k133 (m : IVec S256x128 1) (b : FVec Ideal S256x128 .f32) (u : FVec Ideal S256x512 .f32) (g : Vec Ideal S1x512 .f32) (t : Fin 256) (l : Fin 128) (h : l.val < 64) :
    k0_pay133 (F := Ideal) k0_pay9 m b (k0_pay125 k0_pay7 u g) (ix2 t l) = qn (fun j => u (ix2 t j)) (fun j => g (ix2 0 j)) ⟨320 + l.val, by omega⟩ := by
  pointwise [k0_pay133, k0_pay9]
  rw [feature h, n125]
  exact congrArg (qn _ _) (Fin.ext (by simp only [Fin.val_ofNat]; omega))
theorem k134 (m : IVec S256x128 1) (b : FVec Ideal S256x128 .f32) (u : FVec Ideal S256x512 .f32) (g : Vec Ideal S1x512 .f32) (t : Fin 256) (l : Fin 128) (h : l.val < 64) :
    k0_pay134 (F := Ideal) k0_pay9 m b (k0_pay125 k0_pay7 u g) (ix2 t l) = qn (fun j => u (ix2 t j)) (fun j => g (ix2 0 j)) ⟨384 + l.val, by omega⟩ := by
  pointwise [k0_pay134, k0_pay9]
  rw [feature h, n125]

theorem k135 (m : IVec S256x128 1) (b : FVec Ideal S256x128 .f32) (u : FVec Ideal S256x512 .f32) (g : Vec Ideal S1x512 .f32) (t : Fin 256) (l : Fin 128) (h : l.val < 64) :
    k0_pay135 (F := Ideal) k0_pay9 m b (k0_pay125 k0_pay7 u g) (ix2 t l) = qn (fun j => u (ix2 t j)) (fun j => g (ix2 0 j)) ⟨448 + l.val, by omega⟩ := by
  pointwise [k0_pay135, k0_pay9]
  rw [feature h, n125]
  exact congrArg (qn _ _) (Fin.ext (by simp only [Fin.val_ofNat]; omega))
def colK (k : Fin 1024) (j : Fin 512) : EReal := x2 (ix2 k (⟨1024 + j.val, by omega⟩ : Fin 3072))

/-- The block of keys, right in the feature lanes. -/
def g14 : Vec Ideal S512x1024 .bf16 := fun z =>
  qn (pr (hrow x0 x1 (z 0)) (colK x2)) (fun j => x4 (ix2 0 j))
    (⟨64 * ((z 1).val / 128) + (z 1).val % 128 % 64, by have : (z 1).val < 1024 := (z 1).isLt; omega⟩)

theorem ldk (h) (t : Fin 1024) (k : Fin 512) :
    View.ld (Val := Elt Ideal) (e' := .bf16) x2 (Rect.unit (s := S1024x3072) ![0, 1024] ![1024, 512] h) (ix2 t k) = x2 (ix2 t (⟨1024 + k.val, by omega⟩ : Fin 3072)) :=
  View.ld_unit_apply_of _ _ _ _ _ _ fun a => by
    fin_cases a <;> simp [ix2]

theorem ldkg (h) (t : Fin 1) (k : Fin 512) :
    View.ld (Val := Elt Ideal) (e' := .f32) x4 (Rect.unit (s := S1x512) ![0, 0] ![1, 512] h) (ix2 t k) = x4 (ix2 t k) :=
  View.ld_unit_apply_of _ _ _ _ _ _ fun a => by
    fin_cases a <;> simp [ix2]

theorem qn_eq {u u' g g' : Fin 512 → EReal} {j : Fin 512} (e : ∀ j, u j = u' j) (e' : ∀ j, g j = g' j) : qn u g j = qn u' g' j := by
  rw [funext e, funext e']

theorem at14_0 (b : ℕ) (a : Fin 8) (hb : b = 128 * a.val) (h) (t : Fin 256) (l : Fin 128) :
    (Rect.unit (s := S512x1024) ![0, b] ![256, 128] h).emb (ix2 t l)
      = (ix2 (⟨t.val, by omega⟩ : Fin 512) (⟨128 * a.val + l.val, by omega⟩ : Fin 1024) : S512x1024.Idx) :=
  funext fun a => Fin.ext (by fin_cases a <;> simp [ix2, hb])

theorem lt14_0 (b : ℕ) (a : Fin 8) (hb : b = 128 * a.val) (h) (t : Fin 256) (l : Fin 128)
    (hz : ((Rect.unit (s := S512x1024) ![0, b] ![256, 128] h).emb (ix2 t l) 1).val % 128 < 64) : l.val < 64 := by
  rw [at14_0 b a hb] at hz
  simp only [ix2] at hz
  omega

theorem emb14_0 (b : ℕ) (a : Fin 8) (hb : b = 128 * a.val) (h) (t : Fin 256) (l : Fin 128) (hl : l.val < 64) :
    g14 x0 x1 x2 x4 ((Rect.unit (s := S512x1024) ![0, b] ![256, 128] h).emb (ix2 t l))
      = qn (pr (hrow x0 x1 ⟨t.val, by omega⟩) (colK x2)) (fun j => x4 (ix2 0 j)) ⟨64 * a.val + l.val, by omega⟩ := by
  rw [at14_0 b a hb]
  exact congrArg (qn _ _) (Fin.ext (by simp [ix2]; omega))

theorem at14_256 (b : ℕ) (a : Fin 8) (hb : b = 128 * a.val) (h) (t : Fin 256) (l : Fin 128) :
    (Rect.unit (s := S512x1024) ![256, b] ![256, 128] h).emb (ix2 t l)
      = (ix2 (⟨256 + t.val, by omega⟩ : Fin 512) (⟨128 * a.val + l.val, by omega⟩ : Fin 1024) : S512x1024.Idx) :=
  funext fun a => Fin.ext (by fin_cases a <;> simp [ix2, hb])

theorem lt14_256 (b : ℕ) (a : Fin 8) (hb : b = 128 * a.val) (h) (t : Fin 256) (l : Fin 128)
    (hz : ((Rect.unit (s := S512x1024) ![256, b] ![256, 128] h).emb (ix2 t l) 1).val % 128 < 64) : l.val < 64 := by
  rw [at14_256 b a hb] at hz
  simp only [ix2] at hz
  omega

theorem emb14_256 (b : ℕ) (a : Fin 8) (hb : b = 128 * a.val) (h) (t : Fin 256) (l : Fin 128) (hl : l.val < 64) :
    g14 x0 x1 x2 x4 ((Rect.unit (s := S512x1024) ![256, b] ![256, 128] h).emb (ix2 t l))
      = qn (pr (hrow x0 x1 ⟨256 + t.val, by omega⟩) (colK x2)) (fun j => x4 (ix2 0 j)) ⟨64 * a.val + l.val, by omega⟩ := by
  rw [at14_256 b a hb]
  exact congrArg (qn _ _) (Fin.ext (by simp [ix2]; omega))

end Cert.Kernel3Ideal.Proj

end
-- ==== Proof.OutK3.lean ====
/- The feature lanes of the keys a step of the input projection leaves, at a first step of a batch row and at a later one. -/
module

public import proofs.«01_k».proof.Proof.Keys3
public import proofs.«01_k».proof.Proof.Gen.Kernel3Ideal.Frame

@[expose] public section

set_option maxRecDepth 16384

noncomputable section

namespace Cert.Kernel3Ideal.Proj

open Idealize.ShloMosaic Cert.Kernel3Ideal Cert.Kernel3Ideal.Gen Cert.Route

theorem out14_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S4x256 .f32) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S512x512 .bf16) (harg16 : arg16.IsWhole) (arg17 : Memref sig .tc .vmem S512x896 .f32) (harg17 : arg17.IsWhole) (arg18 : Memref sig .tc .vmem S8x128 .f32) (harg18 : arg18.IsWhole) (arg19 : Memref sig .tc .vmem S8x256 .f32) (harg19 : arg19.IsWhole) (arg20 : Memref sig .tc .vmem S8x256 .f32) (harg20 : arg20.IsWhole) (arg21 : Memref sig .tc .vmem S2x264x256 .f32) (harg21 : arg21.IsWhole) (hc0 : cond0_0 i)
    (x0 : Vec Ideal S512x1024 .f32) (x1 : Vec Ideal S1x1024 .f32) (x2 : Vec Ideal S1024x3072 .bf16) (x3 : Vec Ideal S1x512 .f32) (x4 : Vec Ideal S1x512 .f32) (x5 : Vec Ideal S1x128 .f32) (x6 : Vec Ideal S4x256 .f32) (x7 : Vec Ideal S1x256 .f32) (x8 : Vec Ideal S256x512 .bf16) (x9 : Vec Ideal S1x512 .f32) (x10 : Vec Ideal S1x256 .f32) (x11 : Vec Ideal S1x256 .f32) (z : S512x1024.Idx) (hz : (z 1).val % 128 < 64) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 z = g14 x0 x1 x2 x4 z := by
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  refine View.canon_eq_of_allAt _ z _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 z) ?_
  intro p hp y hy
  subst hy
  unfold kernelRun0_A at hp
  dsimp only at hp
  simp only [List.mem_cons, List.mem_nil_iff, or_false] at hp
  rcases hp with rfl | rfl | rfl | rfl | rfl | rfl | rfl | rfl | rfl | rfl | rfl | rfl | rfl | rfl | rfl | rfl
  · obtain ⟨t, l, rfl⟩ : ∃ (t : Fin 256) (l : Fin 128), y = ix2 t l := ⟨y 0, y 1, eq_ix2 y⟩
    have hl := lt14_256 896 7 rfl inb_S512x1024_S256x128_256_896 t l hz
    dsimp only
    sl_unfold_words
    simp only [View.readAt_eq_ld, harg1.read_unread, harg2.read_unread, harg3.read_unread, harg5.read_unread]
    refine (k135 _ _ _ _ t l hl).trans (Eq.trans ?_ (emb14_256 x0 x1 x2 x4 896 7 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 768 6 rfl inb_S512x1024_S256x128_256_768 t l hz
    dsimp only
    sl_unfold_words
    simp only [View.readAt_eq_ld, harg1.read_unread, harg2.read_unread, harg3.read_unread, harg5.read_unread]
    refine (k134 _ _ _ _ t l hl).trans (Eq.trans ?_ (emb14_256 x0 x1 x2 x4 768 6 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 640 5 rfl inb_S512x1024_S256x128_256_640 t l hz
    dsimp only
    sl_unfold_words
    simp only [View.readAt_eq_ld, harg1.read_unread, harg2.read_unread, harg3.read_unread, harg5.read_unread]
    refine (k133 _ _ _ _ t l hl).trans (Eq.trans ?_ (emb14_256 x0 x1 x2 x4 640 5 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 512 4 rfl inb_S512x1024_S256x128_256_512 t l hz
    dsimp only
    sl_unfold_words
    simp only [View.readAt_eq_ld, harg1.read_unread, harg2.read_unread, harg3.read_unread, harg5.read_unread]
    refine (k132 _ _ _ _ t l hl).trans (Eq.trans ?_ (emb14_256 x0 x1 x2 x4 512 4 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 384 3 rfl inb_S512x1024_S256x128_256_384 t l hz
    dsimp only
    sl_unfold_words
    simp only [View.readAt_eq_ld, harg1.read_unread, harg2.read_unread, harg3.read_unread, harg5.read_unread]
    refine (k131 _ _ _ _ t l hl).trans (Eq.trans ?_ (emb14_256 x0 x1 x2 x4 384 3 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 256 2 rfl inb_S512x1024_S256x128_256_256 t l hz
    dsimp only
    sl_unfold_words
    simp only [View.readAt_eq_ld, harg1.read_unread, harg2.read_unread, harg3.read_unread, harg5.read_unread]
    refine (k130 _ _ _ _ t l hl).trans (Eq.trans ?_ (emb14_256 x0 x1 x2 x4 256 2 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 128 1 rfl inb_S512x1024_S256x128_256_128 t l hz
    dsimp only
    sl_unfold_words
    simp only [View.readAt_eq_ld, harg1.read_unread, harg2.read_unread, harg3.read_unread, harg5.read_unread]
    refine (k129 _ _ _ _ t l hl).trans (Eq.trans ?_ (emb14_256 x0 x1 x2 x4 128 1 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 0 0 rfl inb_S512x1024_S256x128_256_0 t l hz
    dsimp only
    sl_unfold_words
    simp only [View.readAt_eq_ld, harg1.read_unread, harg2.read_unread, harg3.read_unread, harg5.read_unread]
    refine (k126 _ _ _ _ t l hl).trans (Eq.trans ?_ (emb14_256 x0 x1 x2 x4 0 0 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 896 7 rfl inb_S512x1024_S256x128_0_896 t l hz
    dsimp only
    sl_unfold_words
    simp only [View.readAt_eq_ld, harg1.read_unread, harg2.read_unread, harg3.read_unread, harg5.read_unread]
    refine (k77 _ _ _ t l hl).trans (Eq.trans ?_ (emb14_0 x0 x1 x2 x4 896 7 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 768 6 rfl inb_S512x1024_S256x128_0_768 t l hz
    dsimp only
    sl_unfold_words
    simp only [View.readAt_eq_ld, harg1.read_unread, harg2.read_unread, harg3.read_unread, harg5.read_unread]
    refine (k74 _ _ _ _ t l hl).trans (Eq.trans ?_ (emb14_0 x0 x1 x2 x4 768 6 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 640 5 rfl inb_S512x1024_S256x128_0_640 t l hz
    dsimp only
    sl_unfold_words
    simp only [View.readAt_eq_ld, harg1.read_unread, harg2.read_unread, harg3.read_unread, harg5.read_unread]
    refine (k73 _ _ _ _ t l hl).trans (Eq.trans ?_ (emb14_0 x0 x1 x2 x4 640 5 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 512 4 rfl inb_S512x1024_S256x128_0_512 t l hz
    dsimp only
    sl_unfold_words
    simp only [View.readAt_eq_ld, harg1.read_unread, harg2.read_unread, harg3.read_unread, harg5.read_unread]
    refine (k72 _ _ _ _ t l hl).trans (Eq.trans ?_ (emb14_0 x0 x1 x2 x4 512 4 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 384 3 rfl inb_S512x1024_S256x128_0_384 t l hz
    dsimp only
    sl_unfold_words
    simp only [View.readAt_eq_ld, harg1.read_unread, harg2.read_unread, harg3.read_unread, harg5.read_unread]
    refine (k71 _ _ _ _ t l hl).trans (Eq.trans ?_ (emb14_0 x0 x1 x2 x4 384 3 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 256 2 rfl inb_S512x1024_S256x128_0_256 t l hz
    dsimp only
    sl_unfold_words
    simp only [View.readAt_eq_ld, harg1.read_unread, harg2.read_unread, harg3.read_unread, harg5.read_unread]
    refine (k70 _ _ _ _ t l hl).trans (Eq.trans ?_ (emb14_0 x0 x1 x2 x4 256 2 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 128 1 rfl inb_S512x1024_S256x128_0_128 t l hz
    dsimp only
    sl_unfold_words
    simp only [View.readAt_eq_ld, harg1.read_unread, harg2.read_unread, harg3.read_unread, harg5.read_unread]
    refine (k69 _ _ _ _ t l hl).trans (Eq.trans ?_ (emb14_0 x0 x1 x2 x4 128 1 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 0 0 rfl inb_S512x1024_S256x128_0_0 t l hz
    dsimp only
    sl_unfold_words
    simp only [View.readAt_eq_ld, harg1.read_unread, harg2.read_unread, harg3.read_unread, harg5.read_unread]
    refine (k68 _ _ _ _ t l hl).trans (Eq.trans ?_ (emb14_0 x0 x1 x2 x4 0 0 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j

theorem out14_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S4x256 .f32) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S512x512 .bf16) (harg16 : arg16.IsWhole) (arg17 : Memref sig .tc .vmem S512x896 .f32) (harg17 : arg17.IsWhole) (arg18 : Memref sig .tc .vmem S8x128 .f32) (harg18 : arg18.IsWhole) (arg19 : Memref sig .tc .vmem S8x256 .f32) (harg19 : arg19.IsWhole) (arg20 : Memref sig .tc .vmem S8x256 .f32) (harg20 : arg20.IsWhole) (arg21 : Memref sig .tc .vmem S2x264x256 .f32) (harg21 : arg21.IsWhole) (hc0 : ¬cond0_0 i)
    (x0 : Vec Ideal S512x1024 .f32) (x1 : Vec Ideal S1x1024 .f32) (x2 : Vec Ideal S1024x3072 .bf16) (x3 : Vec Ideal S1x512 .f32) (x4 : Vec Ideal S1x512 .f32) (x5 : Vec Ideal S1x128 .f32) (x6 : Vec Ideal S4x256 .f32) (x7 : Vec Ideal S1x256 .f32) (x8 : Vec Ideal S256x512 .bf16) (x9 : Vec Ideal S1x512 .f32) (x10 : Vec Ideal S1x256 .f32) (x11 : Vec Ideal S1x256 .f32) (xs0 : Vec Ideal S8x128 .f32) (xs1 : Vec Ideal S8x256 .f32) (xs2 : Vec Ideal S8x256 .f32) (z : S512x1024.Idx) (hz : (z 1).val % 128 < 64) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2 z = g14 x0 x1 x2 x4 z := by
  unfold out0_B_14
  rw [View.read_writes_eq_canon _ _ _ (cover0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2)]
  refine View.canon_eq_of_allAt _ z _ (cover0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 xs2 z) ?_
  intro p hp y hy
  subst hy
  unfold kernelRun0_B at hp
  dsimp only at hp
  simp only [List.mem_cons, List.mem_nil_iff, or_false] at hp
  rcases hp with rfl | rfl | rfl | rfl | rfl | rfl | rfl | rfl | rfl | rfl | rfl | rfl | rfl | rfl | rfl | rfl
  · obtain ⟨t, l, rfl⟩ : ∃ (t : Fin 256) (l : Fin 128), y = ix2 t l := ⟨y 0, y 1, eq_ix2 y⟩
    have hl := lt14_256 896 7 rfl inb_S512x1024_S256x128_256_896 t l hz
    dsimp only
    sl_unfold_words
    simp only [View.readAt_eq_ld, harg1.read_unread, harg2.read_unread, harg3.read_unread, harg5.read_unread]
    refine (k135 _ _ _ _ t l hl).trans (Eq.trans ?_ (emb14_256 x0 x1 x2 x4 896 7 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 768 6 rfl inb_S512x1024_S256x128_256_768 t l hz
    dsimp only
    sl_unfold_words
    simp only [View.readAt_eq_ld, harg1.read_unread, harg2.read_unread, harg3.read_unread, harg5.read_unread]
    refine (k134 _ _ _ _ t l hl).trans (Eq.trans ?_ (emb14_256 x0 x1 x2 x4 768 6 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 640 5 rfl inb_S512x1024_S256x128_256_640 t l hz
    dsimp only
    sl_unfold_words
    simp only [View.readAt_eq_ld, harg1.read_unread, harg2.read_unread, harg3.read_unread, harg5.read_unread]
    refine (k133 _ _ _ _ t l hl).trans (Eq.trans ?_ (emb14_256 x0 x1 x2 x4 640 5 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 512 4 rfl inb_S512x1024_S256x128_256_512 t l hz
    dsimp only
    sl_unfold_words
    simp only [View.readAt_eq_ld, harg1.read_unread, harg2.read_unread, harg3.read_unread, harg5.read_unread]
    refine (k132 _ _ _ _ t l hl).trans (Eq.trans ?_ (emb14_256 x0 x1 x2 x4 512 4 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 384 3 rfl inb_S512x1024_S256x128_256_384 t l hz
    dsimp only
    sl_unfold_words
    simp only [View.readAt_eq_ld, harg1.read_unread, harg2.read_unread, harg3.read_unread, harg5.read_unread]
    refine (k131 _ _ _ _ t l hl).trans (Eq.trans ?_ (emb14_256 x0 x1 x2 x4 384 3 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 256 2 rfl inb_S512x1024_S256x128_256_256 t l hz
    dsimp only
    sl_unfold_words
    simp only [View.readAt_eq_ld, harg1.read_unread, harg2.read_unread, harg3.read_unread, harg5.read_unread]
    refine (k130 _ _ _ _ t l hl).trans (Eq.trans ?_ (emb14_256 x0 x1 x2 x4 256 2 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 128 1 rfl inb_S512x1024_S256x128_256_128 t l hz
    dsimp only
    sl_unfold_words
    simp only [View.readAt_eq_ld, harg1.read_unread, harg2.read_unread, harg3.read_unread, harg5.read_unread]
    refine (k129 _ _ _ _ t l hl).trans (Eq.trans ?_ (emb14_256 x0 x1 x2 x4 128 1 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_256 0 0 rfl inb_S512x1024_S256x128_256_0 t l hz
    dsimp only
    sl_unfold_words
    simp only [View.readAt_eq_ld, harg1.read_unread, harg2.read_unread, harg3.read_unread, harg5.read_unread]
    refine (k126 _ _ _ _ t l hl).trans (Eq.trans ?_ (emb14_256 x0 x1 x2 x4 0 0 rfl _ t l hl).symm)
    refine qn_eq (fun j => (u66 _ _ t j).trans (pr_eq (fun k => (h21 _ _ t k).trans (h2of_eq (fun k => ?_) fun k => ?_)) fun k => ?_)) fun j => ?_
    · exact ldx256 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 896 7 rfl inb_S512x1024_S256x128_0_896 t l hz
    dsimp only
    sl_unfold_words
    simp only [View.readAt_eq_ld, harg1.read_unread, harg2.read_unread, harg3.read_unread, harg5.read_unread]
    refine (k77 _ _ _ t l hl).trans (Eq.trans ?_ (emb14_0 x0 x1 x2 x4 896 7 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 768 6 rfl inb_S512x1024_S256x128_0_768 t l hz
    dsimp only
    sl_unfold_words
    simp only [View.readAt_eq_ld, harg1.read_unread, harg2.read_unread, harg3.read_unread, harg5.read_unread]
    refine (k74 _ _ _ _ t l hl).trans (Eq.trans ?_ (emb14_0 x0 x1 x2 x4 768 6 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 640 5 rfl inb_S512x1024_S256x128_0_640 t l hz
    dsimp only
    sl_unfold_words
    simp only [View.readAt_eq_ld, harg1.read_unread, harg2.read_unread, harg3.read_unread, harg5.read_unread]
    refine (k73 _ _ _ _ t l hl).trans (Eq.trans ?_ (emb14_0 x0 x1 x2 x4 640 5 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 512 4 rfl inb_S512x1024_S256x128_0_512 t l hz
    dsimp only
    sl_unfold_words
    simp only [View.readAt_eq_ld, harg1.read_unread, harg2.read_unread, harg3.read_unread, harg5.read_unread]
    refine (k72 _ _ _ _ t l hl).trans (Eq.trans ?_ (emb14_0 x0 x1 x2 x4 512 4 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 384 3 rfl inb_S512x1024_S256x128_0_384 t l hz
    dsimp only
    sl_unfold_words
    simp only [View.readAt_eq_ld, harg1.read_unread, harg2.read_unread, harg3.read_unread, harg5.read_unread]
    refine (k71 _ _ _ _ t l hl).trans (Eq.trans ?_ (emb14_0 x0 x1 x2 x4 384 3 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 256 2 rfl inb_S512x1024_S256x128_0_256 t l hz
    dsimp only
    sl_unfold_words
    simp only [View.readAt_eq_ld, harg1.read_unread, harg2.read_unread, harg3.read_unread, harg5.read_unread]
    refine (k70 _ _ _ _ t l hl).trans (Eq.trans ?_ (emb14_0 x0 x1 x2 x4 256 2 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 128 1 rfl inb_S512x1024_S256x128_0_128 t l hz
    dsimp only
    sl_unfold_words
    simp only [View.readAt_eq_ld, harg1.read_unread, harg2.read_unread, harg3.read_unread, harg5.read_unread]
    refine (k69 _ _ _ _ t l hl).trans (Eq.trans ?_ (emb14_0 x0 x1 x2 x4 128 1 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j
  · obtain ⟨t, l, rfl⟩ : ∃ (t : Fin 256) (l : Fin 128), y = ix2 t l := ⟨y 0, y 1, eq_ix2 y⟩
    have hl := lt14_0 0 0 rfl inb_S512x1024_S256x128_0_0 t l hz
    dsimp only
    sl_unfold_words
    simp only [View.readAt_eq_ld, harg1.read_unread, harg2.read_unread, harg3.read_unread, harg5.read_unread]
    refine (k68 _ _ _ _ t l hl).trans (Eq.trans ?_ (emb14_0 x0 x1 x2 x4 0 0 rfl _ t l hl).symm)
    refine qn_eq (fun j => (u18 _ _ t j).trans (pr_eq (fun k => (h13 _ _ t k).trans (h2of_eq (fun k => ?_) fun k => ?_)) fun k => ?_)) fun j => ?_
    · exact ldx0 x0 _ t k
    · exact ldg x1 _ 0 k
    · exact ldk x2 _ k j
    · exact ldkg x4 _ 0 j

end Cert.Kernel3Ideal.Proj

end
-- ==== Proof.Ref3.lean ====
/- The input projection's reference, entry by entry. -/
module

public import proofs.«01_k».proof.Proof.Proj
public import proofs.«01_k».proof.Proof.Gen.Reference3Ideal.Read
public import Idealize.ShloMosaic.Lib.Pointwise

@[expose] public section

set_option maxRecDepth 16384

noncomputable section

namespace Cert.Reference3Ideal.Proj

open Idealize.ShloMosaic Cert.Reference3Ideal Cert.Reference3Ideal.Read Cert.Route Cert.Kernel3Ideal.Proj

variable (x0 : (⟨S16384x1024, .f32⟩ : BufTy).Contents (Elt Ideal)) (x1 : (⟨S1024, .f32⟩ : BufTy).Contents (Elt Ideal)) (x2 : (⟨S1024x2952, .f32⟩ : BufTy).Contents (Elt Ideal)) (x12 : (⟨S64, .f32⟩ : BufTy).Contents (Elt Ideal)) (x13 : (⟨S64, .f32⟩ : BufTy).Contents (Elt Ideal))

/-- A token's normalized row. -/
def nrow (t : Fin 16384) : Fin 1024 → EReal := h2of (fun k => x0 (ix2 t k)) (fun k => x1 (ix1 k))

theorem u_at (t : Fin 16384) (j : Fin 2952) : val_main_v13 (F := Ideal) x0 x1 x2 (ix2 t j) = pr (nrow x0 x1 t) (fun k j => x2 (ix2 k j)) j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem p_at (t : Fin 16384) (j : Fin 896) : val_main_v38 (F := Ideal) x0 x1 x2 (ix2 t j) = pr (nrow x0 x1 t) (fun k (j : Fin 896) => x2 (ix2 k (⟨2056 + j.val, by omega⟩ : Fin 2952))) j := by
  pointwise [val_main_v38]
  rw [u_at]
  rfl

theorem v_at (t : Fin 16384) (j : Fin 512) : val_main_v37 (F := Ideal) x0 x1 x2 (ix2 j t) = pr (nrow x0 x1 t) (fun k (j : Fin 512) => x2 (ix2 k (⟨1536 + j.val, by omega⟩ : Fin 2952))) j := by
  pointwise [val_main_v37, val_main_v34, val_main_v33]
  rw [u_at]
  rfl

theorem head_at (t : Fin 16384) (a : Fin 8) (d : Fin 64) : val_main_v15 (F := Ideal) x0 x1 x2 (ix3 t a d) = pr (nrow x0 x1 t) (fun k (j : Fin 512) => x2 (ix2 k (⟨512 + j.val, by omega⟩ : Fin 2952))) ⟨64 * a.val + d.val, by omega⟩ := by
  rw [val_main_v15_apply]
  have e : idx_main_v15 (ix3 t a d) = (ix2 t (⟨64 * a.val + d.val, by omega⟩ : Fin 512) : S16384x512.Idx) :=
    funext fun i => Fin.ext (by fin_cases i <;> simp [idx_main_v15, ix3, ix2] <;> omega)
  rw [e]
  pointwise [val_main_v14]
  rw [u_at]
  rfl

theorem norm_at (t : Fin 16384) (a : Fin 8) (d : Fin 64) : val_main_v28 (F := Ideal) x0 x1 x2 x12 (ix3 t a d)
    = qn (pr (nrow x0 x1 t) (fun k (j : Fin 512) => x2 (ix2 k (⟨512 + j.val, by omega⟩ : Fin 2952)))) (fun j => x12 (ix1 (⟨j.val % 64, by omega⟩ : Fin 64))) ⟨64 * a.val + d.val, by omega⟩ := by
  pointwise [val_main_v28, val_main_v27, val_main_v26, val_main_v25, val_main_v24, val_main_v23, val_main_v22, val_main_v21, val_main_v20, val_main_v19, val_main_v18, val_main_v17, val_main_v16, val_main_cst_2, val_main_cst_3, val_main_cst_4]
  simp only [head_at]
  have h1 : (64 * a.val + d.val) / 64 = a.val := by omega
  have h2 : (⟨(64 * a.val + d.val) % 64, by omega⟩ : Fin 64) = d := Fin.ext (by simp only; omega)
  unfold qn
  simp only [h1, h2]
  rfl

theorem q_at (t : Fin 16384) (a : Fin 8) (l : Fin 128) : val_main_v36 (F := Ideal) x0 x1 x2 x12 (ix2 (⟨128 * a.val + l.val, by omega⟩ : Fin 1024) t)
    = lane (pr (nrow x0 x1 t) (fun k (j : Fin 512) => x2 (ix2 k (⟨512 + j.val, by omega⟩ : Fin 2952)))) (fun j => x12 (ix1 (⟨j.val % 64, by omega⟩ : Fin 64))) a l := by
  rw [val_main_v36_apply, val_main_v35_apply]
  have e : idx_main_v35 (ix2 (⟨128 * a.val + l.val, by omega⟩ : Fin 1024) t) = (ix3 a l t : S8x128x16384.Idx) :=
    funext fun i => Fin.ext (by fin_cases i <;> simp [idx_main_v35, ix3, ix2] <;> omega)
  rw [e]
  pointwise [val_main_v32, val_main_v31, val_main_v29, val_main_v30, val_main_cst_5, val_main_cst_6]
  unfold lane
  by_cases h : l.val < 64
  · rw [dif_pos h, dif_pos h, norm_at]
  · rw [dif_neg h, dif_neg h]
    by_cases h' : l.val < 67
    · rw [dif_pos (by omega), if_pos h']
    · rw [dif_neg (by omega), if_neg h']

theorem keyhead_at (t : Fin 16384) (a : Fin 8) (d : Fin 64) : val_main_v40 (F := Ideal) x0 x1 x2 (ix3 t a d) = pr (nrow x0 x1 t) (fun k (j : Fin 512) => x2 (ix2 k (⟨1024 + j.val, by omega⟩ : Fin 2952))) ⟨64 * a.val + d.val, by omega⟩ := by
  rw [val_main_v40_apply]
  have e : idx_main_v40 (ix3 t a d) = (ix2 t (⟨64 * a.val + d.val, by omega⟩ : Fin 512) : S16384x512.Idx) :=
    funext fun i => Fin.ext (by fin_cases i <;> simp [idx_main_v40, ix3, ix2] <;> omega)
  rw [e]
  pointwise [val_main_v39]
  rw [u_at]
  rfl

theorem k_at (t : Fin 16384) (a : Fin 8) (d : Fin 64) : val_main_v54 (F := Ideal) x0 x1 x2 x13 (ix3 t a d)
    = qn (pr (nrow x0 x1 t) (fun k (j : Fin 512) => x2 (ix2 k (⟨1024 + j.val, by omega⟩ : Fin 2952)))) (fun j => x13 (ix1 (⟨j.val % 64, by omega⟩ : Fin 64))) ⟨64 * a.val + d.val, by omega⟩ := by
  pointwise [val_main_v54, val_main_v53, val_main_v52, val_main_v51, val_main_v50, val_main_v49, val_main_v48, val_main_v47, val_main_v46, val_main_v45, val_main_v44, val_main_v43, val_main_v42, val_main_v41, val_main_cst_7, val_main_cst_8, val_main_cst_9]
  simp only [keyhead_at]
  have h1 : (64 * a.val + d.val) / 64 = a.val := by omega
  have h2 : (⟨(64 * a.val + d.val) % 64, by omega⟩ : Fin 64) = d := Fin.ext (by simp only; omega)
  unfold qn
  simp only [h1, h2]
  rfl

end Cert.Reference3Ideal.Proj

end
-- ==== Proof.Array3.lean ====
/- The result arrays of the input projection, entry by entry, against the reference. -/
module

public import proofs.«01_k».proof.Defs
public import proofs.«01_k».proof.Proof.Out3
public import proofs.«01_k».proof.Proof.OutK3
public import proofs.«01_k».proof.Proof.Ref3
public import Idealize.ShloMosaic.Lib.Pipeline.ValueKit
public import Idealize.ShloMosaic.Lib.Claim
public import Idealize.ShloMosaic.Lib.StableHlo.ReadAt

@[expose] public section

set_option maxRecDepth 16384

noncomputable section

namespace Cert.Kernel3Ideal.Proj

open Idealize.ShloMosaic Cert.Kernel3Ideal Cert.Kernel3Ideal.Gen Cert.Route

variable (m : (ℓ : Loc nD τ sig) → Buf (Elt Ideal) ℓ)

abbrev a0 (c : Dev nD) : (⟨S16384x1024, .f32⟩ : BufTy).Contents (Elt Ideal) := m ((c.tc : Thread nD τ).loc main_arg0)
abbrev a1 (c : Dev nD) : (⟨S1024, .f32⟩ : BufTy).Contents (Elt Ideal) := m ((c.tc : Thread nD τ).loc main_arg1)
abbrev a2 (c : Dev nD) : (⟨S1024x2952, .f32⟩ : BufTy).Contents (Elt Ideal) := m ((c.tc : Thread nD τ).loc main_arg2)
abbrev a12 (c : Dev nD) : (⟨S64, .f32⟩ : BufTy).Contents (Elt Ideal) := m ((c.tc : Thread nD τ).loc main_arg12)
abbrev a13 (c : Dev nD) : (⟨S64, .f32⟩ : BufTy).Contents (Elt Ideal) := m ((c.tc : Thread nD τ).loc main_arg13)

/-- Row `r` of tile `t` in the whole array. -/
def row (t : Fin cfg0.N) (r : Fin 512) : Fin 16384 := ⟨512 * t.val + r.val, by have := t.isLt; have : cfg0.N = 32 := rfl; omega⟩

theorem idx : ∀ t : Fin cfg0.grid.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_14.index t 0 = t.val ∧ win0_14.index t 1 = 0)
    ∧ (win0_13.index t 0 = 0 ∧ win0_13.index t 1 = t.val)
    ∧ (win0_15.index t 0 = 0 ∧ win0_15.index t 1 = t.val)
    ∧ (win0_16.index t 0 = t.val ∧ win0_16.index t 1 = 0) :=
  (by decide +kernel : ∀ t : Fin grid0.N, _)

theorem V_g (c : Dev nD) (k : Fin 1024) : V m c main_v51 (ix2 0 k) = a1 m c (ix1 k) := by
  after_reads_at

theorem V_wlow (c : Dev nD) (k : Fin 1024) (j : Fin 2048) : V m c main_v7 (ix2 k ⟨j.val, by omega⟩) = a2 m c (ix2 k ⟨j.val, by omega⟩) := by
  after_reads_at
  after_reads_at

theorem V_wq (c : Dev nD) (k : Fin 1024) (j : Fin 512) : V m c main_v7 (ix2 k ⟨512 + j.val, by omega⟩) = a2 m c (ix2 k ⟨512 + j.val, by omega⟩) :=
  V_wlow m c k ⟨512 + j.val, by omega⟩

theorem V_wk (c : Dev nD) (k : Fin 1024) (j : Fin 512) : V m c main_v7 (ix2 k ⟨1024 + j.val, by omega⟩) = a2 m c (ix2 k ⟨1024 + j.val, by omega⟩) :=
  V_wlow m c k ⟨1024 + j.val, by omega⟩

theorem V_wv (c : Dev nD) (k : Fin 1024) (j : Fin 512) : V m c main_v7 (ix2 k ⟨1536 + j.val, by omega⟩) = a2 m c (ix2 k ⟨1536 + j.val, by omega⟩) :=
  V_wlow m c k ⟨1536 + j.val, by omega⟩

theorem V_wp (c : Dev nD) (k : Fin 1024) (j : Fin 896) : V m c main_v7 (ix2 k ⟨2048 + j.val, by omega⟩) = a2 m c (ix2 k ⟨2056 + j.val, by omega⟩) := by
  after_reads_at
  after_reads_at

theorem V_qg (c : Dev nD) (j : Fin 512) : V m c main_v11 (ix2 0 j) = a12 m c (ix1 (⟨j.val % 64, by omega⟩ : Fin 64)) := by
  after_reads_at

theorem V_kg (c : Dev nD) (j : Fin 512) : V m c main_v15 (ix2 0 j) = a13 m c (ix1 (⟨j.val % 64, by omega⟩ : Fin 64)) := by
  after_reads_at

theorem blk0 (c : Dev nD) (t : Fin cfg0.grid.N) (r : Fin 512) (k : Fin 1024) : iblk m c 0 t (ix2 r k) = a0 m c (ix2 (row t r) k) := by
  blk_ext [iblk, V, idx t, row]

theorem blk1 (c : Dev nD) (t : Fin cfg0.grid.N) (k : Fin 1) (j : Fin 1024) : iblk m c 1 t (ix2 k j) = V m c main_v51 (ix2 k j) := by
  blk_ext [iblk, idx t]

theorem blk2 (c : Dev nD) (t : Fin cfg0.grid.N) (k : Fin 1024) (j : Fin 3072) : iblk m c 2 t (ix2 k j) = V m c main_v7 (ix2 k j) := by
  blk_ext [iblk, idx t]

theorem blk3 (c : Dev nD) (t : Fin cfg0.grid.N) (k : Fin 1) (j : Fin 512) : iblk m c 3 t (ix2 k j) = V m c main_v11 (ix2 k j) := by
  blk_ext [iblk, idx t]

theorem blk4 (c : Dev nD) (t : Fin cfg0.grid.N) (k : Fin 1) (j : Fin 512) : iblk m c 4 t (ix2 k j) = V m c main_v15 (ix2 k j) := by
  blk_ext [iblk, idx t]

/-- The queries, the values and the remaining columns, of the launched arguments. -/
abbrev want13 (c : Dev nD) : (⟨S1024x16384, .bf16⟩ : BufTy).Contents (Elt Ideal) := Cert.Reference3Ideal.Read.val_main_v36 (F := Ideal) (a0 m c) (a1 m c) (a2 m c) (a12 m c)
abbrev want15 (c : Dev nD) : (⟨S512x16384, .bf16⟩ : BufTy).Contents (Elt Ideal) := Cert.Reference3Ideal.Read.val_main_v37 (F := Ideal) (a0 m c) (a1 m c) (a2 m c)
abbrev want16 (c : Dev nD) : (⟨S16384x896, .f32⟩ : BufTy).Contents (Elt Ideal) := Cert.Reference3Ideal.Read.val_main_v38 (F := Ideal) (a0 m c) (a1 m c) (a2 m c)
abbrev want54 (c : Dev nD) : (⟨S16384x8x64, .bf16⟩ : BufTy).Contents (Elt Ideal) := Cert.Reference3Ideal.Read.val_main_v54 (F := Ideal) (a0 m c) (a1 m c) (a2 m c) (a13 m c)

theorem row_at (c : Dev nD) (t : Fin cfg0.grid.N) (r : Fin 512) (k : Fin 1024) :
    hrow (iblk m c 0 t) (iblk m c 1 t) r k = Cert.Reference3Ideal.Proj.nrow (a0 m c) (a1 m c) (row t r) k :=
  h2of_eq (fun k => blk0 m c t r k) fun k => (blk1 m c t 0 k).trans (V_g m c k)

theorem block13 (c : Dev nD) (t : Fin cfg0.grid.N) : (dats m 0 c).after 13 t = g13 (iblk m c 0 t) (iblk m c 1 t) (iblk m c 2 t) (iblk m c 3 t) := by
  rw [after0_13]
  by_cases h : t.val % 8 = 0
  · rw [outsAt0_A m c t h]
    dsimp only
    rw [out13_A]
  · rw [outsAt0_B m c t h]
    dsimp only
    rw [out13_B]

theorem block14 (c : Dev nD) (t : Fin cfg0.grid.N) (z : S512x1024.Idx) (hz : (z 1).val % 128 < 64) :
    (dats m 0 c).after 14 t z = g14 (iblk m c 0 t) (iblk m c 1 t) (iblk m c 2 t) (iblk m c 4 t) z := by
  rw [after0_14]
  by_cases h : t.val % 8 = 0
  · rw [outsAt0_A m c t h]
    dsimp only
    rw [out14_A (hz := hz)]
  · rw [outsAt0_B m c t h]
    dsimp only
    rw [out14_B (hz := hz)]

theorem block15 (c : Dev nD) (t : Fin cfg0.grid.N) : (dats m 0 c).after 15 t = g15 (iblk m c 0 t) (iblk m c 1 t) (iblk m c 2 t) := by
  rw [after0_15]
  by_cases h : t.val % 8 = 0
  · rw [outsAt0_A m c t h]
    dsimp only
    rw [out15_A]
  · rw [outsAt0_B m c t h]
    dsimp only
    rw [out15_B]

theorem block16 (c : Dev nD) (t : Fin cfg0.grid.N) : (dats m 0 c).after 16 t = g16 (iblk m c 0 t) (iblk m c 1 t) (iblk m c 2 t) := by
  rw [after0_16]
  by_cases h : t.val % 8 = 0
  · rw [outsAt0_A m c t h]
    dsimp only
    rw [out16_A]
  · rw [outsAt0_B m c t h]
    dsimp only
    rw [out16_B]

theorem emb13 (t : Fin cfg0.grid.N) (d : Fin 1024) (r : Fin 512) :
    ((View.whole main_v52_1).slice (win0_13.rect t)).emb (ix2 d r) = (ix2 d (row t r) : S1024x16384.Idx) := by
  blk_ext [idx t, row]

theorem emb14 (t : Fin cfg0.grid.N) (r : Fin 512) (d : Fin 1024) :
    ((View.whole main_v52_2).slice (win0_14.rect t)).emb (ix2 r d) = (ix2 (row t r) d : S16384x1024.Idx) := by
  blk_ext [idx t, row]

theorem emb15 (t : Fin cfg0.grid.N) (d : Fin 512) (r : Fin 512) :
    ((View.whole main_v52_3).slice (win0_15.rect t)).emb (ix2 d r) = (ix2 d (row t r) : S512x16384.Idx) := by
  blk_ext [idx t, row]

theorem emb16 (t : Fin cfg0.grid.N) (r : Fin 512) (d : Fin 896) :
    ((View.whole main_v52_4).slice (win0_16.rect t)).emb (ix2 r d) = (ix2 (row t r) d : S16384x896.Idx) := by
  blk_ext [idx t, row]

/-- The array of queries is the reference's. -/
theorem arr13 (c : Dev nD) : (dats m 0 c).arrAt 13 (cfgs 0).N = want13 m c := by
  refine (dats m 0 c).arrAt_eq_of_covers 13 _ (by decide +kernel) fun t hf y => ?_
  blk_simp
  rw [block13]
  obtain ⟨d, r, rfl⟩ : ∃ (d : Fin 1024) (r : Fin 512), y = ix2 d r := ⟨y 0, y 1, eq_ix2 y⟩
  refine Eq.trans ?_ (congrArg (want13 m c) (emb13 t d r)).symm
  have e : (⟨128 * (⟨d.val / 128, by omega⟩ : Fin 8).val + (⟨d.val % 128, by omega⟩ : Fin 128).val, by simp only; omega⟩ : Fin 1024) = d :=
    Fin.ext (by simp only; omega)
  refine Eq.trans ?_ (congrArg (fun z : Fin 1024 => want13 m c (ix2 z (row t r))) e)
  refine Eq.trans ?_ (Cert.Reference3Ideal.Proj.q_at (a0 m c) (a1 m c) (a2 m c) (a12 m c) (row t r) ⟨d.val / 128, by omega⟩ ⟨d.val % 128, by omega⟩).symm
  exact lane_eq (fun j => pr_eq (fun k => row_at m c t r k) fun k => (blk2 m c t k _).trans (V_wq m c k j)) fun j => (blk3 m c t 0 j).trans (V_qg m c j)

/-- A token's key, by head and feature. -/
def key (c : Dev nD) (i : S16384x1024.Idx) : EReal :=
  qn (pr (Cert.Reference3Ideal.Proj.nrow (a0 m c) (a1 m c) (i 0)) (fun k (j : Fin 512) => a2 m c (ix2 k (⟨1024 + j.val, by omega⟩ : Fin 2952))))
    (fun j => a13 m c (ix1 (⟨j.val % 64, by omega⟩ : Fin 64)))
    ⟨64 * ((i 1).val / 128) + (i 1).val % 128 % 64, by have : (i 1).val < 1024 := (i 1).isLt; omega⟩

/-- The array of keys has the keys in the feature lanes. -/
theorem arr14 (c : Dev nD) (i : S16384x1024.Idx) (hi : (i 1).val % 128 < 64) : (dats m 0 c).arrAt 14 (cfgs 0).N i = key m c i := by
  refine ((dats m 0 c).arrAt_forall_of_covers 14 (fun i v => ((i : S16384x1024.Idx) 1).val % 128 < 64 → v = key m c i) (by decide +kernel) (fun t hf y => ?_) i) hi
  blk_simp
  obtain ⟨r, d, rfl⟩ : ∃ (r : Fin 512) (d : Fin 1024), y = ix2 r d := ⟨y 0, y 1, eq_ix2 y⟩
  have e := emb14 t r d
  intro hd
  obtain ⟨-, -, -, -, -, ⟨-, e1⟩, -⟩ := idx t
  have hd' : d.val % 128 < 64 := by
    rw [e1, Nat.zero_mul, Nat.zero_add] at hd
    exact hd
  refine (block14 m c t (ix2 r d) hd').trans (Eq.trans ?_ (congrArg (key m c) e).symm)
  exact qn_eq (fun j => pr_eq (fun k => row_at m c t r k) fun k => (blk2 m c t k _).trans (V_wk m c k j)) fun j => (blk4 m c t 0 j).trans (V_kg m c j)

/-- What is kept of it is the reference's keys. -/
theorem arr54 (c : Dev nD) : Pipeline.afterTail₀ cfgs (dats m) 0 (V0 m) [hostOps1] c main_v54 = want54 m c := by
  funext y
  obtain ⟨t, a, d, rfl⟩ : ∃ (t : Fin 16384) (a : Fin 8) (d : Fin 64), y = ix3 t a d := ⟨y 0, y 1, y 2, eq_ix3 y⟩
  refine Eq.trans ?_ (Cert.Reference3Ideal.Proj.k_at (a0 m c) (a1 m c) (a2 m c) (a13 m c) t a d).symm
  have hw : Pipeline.withArrays (cfgs 0).spec c (V0 m c) (fun w => (dats m 0 c).arrAt w (cfgs 0).N) (Proc.devRef .tc main_v52_2) = (dats m 0 c).arrAt 14 (cfgs 0).N :=
    Pipeline.withArrays_arr (cfgs 0).spec (by decide +kernel) c _ _ 14
  refine Eq.trans (b := (dats m 0 c).arrAt 14 (cfgs 0).N (ix2 t (⟨128 * a.val + d.val, by omega⟩ : Fin 1024))) ?_ ?_
  · rw [← hw]
    unfold Pipeline.afterTail₀
    after_reads_at
    exact congrArg _ (congrArg (ix2 t) (Fin.ext (by simp only; omega)))
  · refine (arr14 m c _ (by simp [ix2]; omega)).trans ?_
    exact congrArg (qn _ _) (Fin.ext (by simp [ix2]; omega))

/-- The array of values is the reference's. -/
theorem arr15 (c : Dev nD) : (dats m 0 c).arrAt 15 (cfgs 0).N = want15 m c := by
  refine (dats m 0 c).arrAt_eq_of_covers 15 _ (by decide +kernel) fun t hf y => ?_
  blk_simp
  rw [block15]
  obtain ⟨d, r, rfl⟩ : ∃ (d : Fin 512) (r : Fin 512), y = ix2 d r := ⟨y 0, y 1, eq_ix2 y⟩
  refine Eq.trans ?_ (congrArg (want15 m c) (emb15 t d r)).symm
  refine Eq.trans ?_ (Cert.Reference3Ideal.Proj.v_at (a0 m c) (a1 m c) (a2 m c) (row t r) d).symm
  exact pr_eq (fun k => row_at m c t r k) fun k => (blk2 m c t k _).trans (V_wv m c k d)

/-- The array of the remaining columns is the reference's. -/
theorem arr16 (c : Dev nD) : (dats m 0 c).arrAt 16 (cfgs 0).N = want16 m c := by
  refine (dats m 0 c).arrAt_eq_of_covers 16 _ (by decide +kernel) fun t hf y => ?_
  blk_simp
  rw [block16]
  obtain ⟨r, d, rfl⟩ : ∃ (r : Fin 512) (d : Fin 896), y = ix2 r d := ⟨y 0, y 1, eq_ix2 y⟩
  refine Eq.trans ?_ (congrArg (want16 m c) (emb16 t r d)).symm
  refine Eq.trans ?_ (Cert.Reference3Ideal.Proj.p_at (a0 m c) (a1 m c) (a2 m c) (row t r) d).symm
  exact pr_eq (fun k => row_at m c t r k) fun k => (blk2 m c t k _).trans (V_wp m c k d)

open Idealize.SL.Sem

/-- The call and the reference end with the same four arrays. -/
theorem algebraic : Cert.algebraic_Kernel3Ideal_Reference3Ideal := by
  intro m g m' g' _ hagree
  refine ⟨fun c => want13 m c, fun c => want15 m c, fun c => want16 m c, fun c => want54 m c, ?_, ?_⟩
  · refine (θ_run defs _ _).mono (fun r h c => ?_) (θ_run_and (run_main m g) (frame (F := Ideal) m g))
    exact ⟨((h.1 c).1 13).trans (arr13 m c), ((h.1 c).1 15).trans (arr15 m c), ((h.1 c).1 16).trans (arr16 m c), ((h.1 c).2 main_v54 (by decide +kernel)).trans (arr54 m c), h.2.1 c⟩
  · refine (θ_run Cert.Reference3Ideal.defs _ _).mono (fun r h c => ?_) (Cert.Reference3Ideal.Value.run m' g')
    obtain ⟨e0, e1, e2, e3, e4, e5, e6, e7, e8, e9, e10, e11, e12, e13⟩ := hagree c
    refine ⟨(h c).1.trans ?_, (h c).2.1.trans ?_, (h c).2.2.1.trans ?_, (h c).2.2.2.1.trans ?_, (h c).2.2.2.2⟩
    · refine (Cert.Reference3Ideal.Read.val_main_v36_eq _ _).trans ?_
      show Cert.Reference3Ideal.Read.val_main_v36 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg12)) = want13 m c
      rw [e0, e1, e2, e12]
    · refine (Cert.Reference3Ideal.Read.val_main_v37_eq _ _ _).trans ?_
      show Cert.Reference3Ideal.Read.val_main_v37 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = want15 m c
      rw [e0, e1, e2]
    · refine (Cert.Reference3Ideal.Read.val_main_v38_eq _ _ _).trans ?_
      show Cert.Reference3Ideal.Read.val_main_v38 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = want16 m c
      rw [e0, e1, e2]
    · refine (Cert.Reference3Ideal.Read.val_main_v54_eq _ _ _ _).trans ?_
      show Cert.Reference3Ideal.Read.val_main_v54 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg13)) = want54 m c
      rw [e0, e1, e2, e13]

end Cert.Kernel3Ideal.Proj

end
-- ==== Proof.lean ====
/- The claims, for each of the three calls: the frames of the call as it runs and as it is read over the extended reals, the
   reference's frame, the idealization, and the equality of the call's results with the reference's, for the expert mixture
   from arguments that meet `routed` and for the projection and router from arguments that meet `finite`,
   and for the input projection from any arguments. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_routed
public import proofs.«01_k».proof.Proof.Body
public import proofs.«01_k».proof.Proof.Ref
public import proofs.«01_k».proof.Proof.Array
public import proofs.«01_k».proof.Proof.Array2
public import proofs.«01_k».proof.Proof.Array3
public import proofs.«01_k».proof.Proof.Gen.Kernel2
public import proofs.«01_k».proof.Proof.Gen.Kernel2.Frame
public import proofs.«01_k».proof.Proof.Gen.Kernel3Ideal.Frame
public import proofs.«01_k».proof.Proof.Gen.Kernel3
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite

@[expose] public section

noncomputable section

namespace Cert.Proof

open Idealize.ShloMosaic Idealize.SL.Sem

/-- The kernel's body table is the same in the two printed texts. -/
theorem bodies_eq : @Cert.Kernel.defs₀ Bits _ _ = @Cert.KernelIdeal.defs₀ Bits _ _ := by
  funext p ℓ a
  have hl : ℓ = (0 : Fin 1) := Subsingleton.elim (α := Fin 1) ℓ 0
  subst hl
  cases p <;> rfl

/-- So is the whole table. -/
theorem defs_eq : @Cert.Kernel.defs Bits _ _ = @Cert.KernelIdeal.defs Bits _ _ :=
  congrArg (Pipeline.defs (Cert.Kernel.pcfgs (F := Bits))) bodies_eq

/-- The call's frame at the machine's floats, by the run of the same text. -/
theorem frame_kernel : Cert.quiescent_Kernel := fun m ρ _ => by
  rw [defs_eq]
  exact (θ_run Cert.KernelIdeal.defs _ _).mono (fun _ h => h) (Cert.KernelIdeal.Moe.frame_run (F := Bits) m ρ)

/-- The call's frame over the extended reals. -/
theorem frame_ideal : Cert.quiescent_KernelIdeal := fun m ρ _ =>
  (θ_run Cert.KernelIdeal.defs _ _).mono (fun _ h => h) (Cert.KernelIdeal.Moe.frame_run (F := Ideal) m ρ)

/-- The reference's frame: its run leaves the arguments, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The projection and router call's frame at the machine's floats, -/
theorem frame_kernel2 : Cert.quiescent_Kernel2 := fun m ρ _ => Cert.Kernel2.Gen.frame m ρ

/-- over the extended reals, -/
theorem frame_ideal2 : Cert.quiescent_Kernel2Ideal := fun m ρ _ => Cert.Kernel2Ideal.Gen.frame m ρ

/-- and its reference's. -/
theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

set_option maxHeartbeats 4000000 in
/-- The input projection's body table is the same in the two printed texts, -/
theorem bodies_eq3 : @Cert.Kernel3.defs₀ Bits _ _ = @Cert.Kernel3Ideal.defs₀ Bits _ _ := by
  funext p ℓ a
  have hl : ℓ = (0 : Fin 1) := Subsingleton.elim (α := Fin 1) ℓ 0
  subst hl
  cases p <;> rfl

/-- and so is the whole table. -/
theorem defs_eq3 : @Cert.Kernel3.defs Bits _ _ = @Cert.Kernel3Ideal.defs Bits _ _ :=
  congrArg (Pipeline.defs (Cert.Kernel3.pcfgs (F := Bits))) bodies_eq3

set_option maxHeartbeats 20000000 in
/-- The input projection's frame at the machine's floats, by the run of the same text, -/
theorem frame_kernel3 : Cert.quiescent_Kernel3 := fun m ρ _ => by
  rw [defs_eq3]
  exact (θ_run Cert.Kernel3Ideal.defs _ _).mono (fun _ h => h) (Cert.Kernel3Ideal.Gen.frame (F := Bits) m ρ)

/-- over the extended reals, -/
theorem frame_ideal3 : Cert.quiescent_Kernel3Ideal := fun m ρ _ =>
  (θ_run Cert.Kernel3Ideal.defs _ _).mono (fun _ h => h) (Cert.Kernel3Ideal.Gen.frame (F := Ideal) m ρ)

/-- and its reference's. -/
theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The mask's constant is read as the least extended real. -/
theorem mask_named : Cert.preserves_Kernel2_Kernel2Ideal :=
  IdealRules.named_const.statement Cert.Kernel2Ideal.κ "mask" .f32 0xF149F2CA#32 ⊥ rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_routed.Gen.facts, Cert.Pre_finite.Gen.facts,
    frame_kernel, frame_ideal, fun m g _ => frame_ideal m g trivial, frame_reference, fun m g _ => frame_reference m g trivial,
    frame_kernel2, frame_ideal2, fun m g _ => frame_ideal2 m g trivial, frame_reference2, fun m g _ => frame_reference2 m g trivial,
    frame_kernel3, frame_ideal3, frame_reference3,
    trivial, Cert.KernelIdeal.Moe.algebraic, mask_named, Cert.Kernel2Ideal.Route.algebraic, trivial, Cert.Kernel3Ideal.Proj.algebraic⟩

end Cert.Proof

end
